-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S208x6656 : Shape := ⟨2, ![208, 6656]⟩
abbrev S13x6656 : Shape := ⟨2, ![13, 6656]⟩
abbrev S208x26x16x128 : Shape := ⟨4, ![208, 26, 16, 128]⟩
abbrev S26x208x16x128 : Shape := ⟨4, ![26, 208, 16, 128]⟩
abbrev S6 : Shape := ⟨1, ![6]⟩
abbrev S26 : Shape := ⟨1, ![26]⟩
abbrev S1 : Shape := ⟨1, ![1]⟩
abbrev S_ : Shape := ⟨0, ![]⟩
abbrev S13x256 : Shape := ⟨2, ![13, 256]⟩
abbrev S208x256 : Shape := ⟨2, ![208, 256]⟩
abbrev S13x512 : Shape := ⟨2, ![13, 512]⟩
abbrev S208x512 : Shape := ⟨2, ![208, 512]⟩
abbrev S13x1024 : Shape := ⟨2, ![13, 1024]⟩
abbrev S208x1024 : Shape := ⟨2, ![208, 1024]⟩
abbrev S13x2048 : Shape := ⟨2, ![13, 2048]⟩
abbrev S208x2048 : Shape := ⟨2, ![208, 2048]⟩
abbrev S13x2560 : Shape := ⟨2, ![13, 2560]⟩
abbrev S208x2560 : Shape := ⟨2, ![208, 2560]⟩
abbrev S1x256 : Shape := ⟨2, ![1, 256]⟩
abbrev S8x256 : Shape := ⟨2, ![8, 256]⟩
abbrev S8x128 : Shape := ⟨2, ![8, 128]⟩
abbrev S16x128 : Shape := ⟨2, ![16, 128]⟩
abbrev S1x208x16x128 : Shape := ⟨4, ![1, 208, 16, 128]⟩
abbrev S208x16x128 : Shape := ⟨3, ![208, 16, 128]⟩
abbrev S1x16x128 : Shape := ⟨3, ![1, 16, 128]⟩
abbrev S1x1x16x128 : Shape := ⟨4, ![1, 1, 16, 128]⟩
abbrev S208x1x16x128 : Shape := ⟨4, ![208, 1, 16, 128]⟩
abbrev S208x26x2x8x128 : Shape := ⟨5, ![208, 26, 2, 8, 128]⟩
abbrev S208x8x26x2x128 : Shape := ⟨5, ![208, 8, 26, 2, 128]⟩
abbrev S1664x6656 : Shape := ⟨2, ![1664, 6656]⟩

abbrev nBuf : Space → Nat
  | .hbm => 7
  | .vmem => 4
  | .smem => 0
  | _ => 0

abbrev bufTy : (tb : Table) → Fin (tcTables nBuf tb) → BufTy
  | .hbm, ⟨0, _⟩ => ⟨S208x6656, .i32⟩
  | .hbm, ⟨1, _⟩ => ⟨S13x6656, .bf16⟩
  | .hbm, ⟨2, _⟩ => ⟨S13x6656, .bf16⟩
  | .hbm, ⟨3, _⟩ => ⟨S208x26x16x128, .bf16⟩
  | .hbm, ⟨4, _⟩ => ⟨S208x26x2x8x128, .bf16⟩
  | .hbm, ⟨5, _⟩ => ⟨S208x8x26x2x128, .bf16⟩
  | .hbm, ⟨6, _⟩ => ⟨S1664x6656, .bf16⟩
  | .local _ .vmem, ⟨0, _⟩ => ⟨S208x6656, .i32⟩
  | .local _ .vmem, ⟨1, _⟩ => ⟨S13x6656, .bf16⟩
  | .local _ .vmem, ⟨2, _⟩ => ⟨S13x6656, .bf16⟩
  | .local _ .vmem, ⟨3, _⟩ => ⟨S26x208x16x128, .bf16⟩
  | _, _ => ⟨S208x6656, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_scoped0 : Ref sig .tc := ⟨.vmem, 0, rfl⟩
abbrev cc0_scoped1 : Ref sig .tc := ⟨.vmem, 1, rfl⟩
abbrev cc0_scoped2 : Ref sig .tc := ⟨.vmem, 2, rfl⟩
abbrev cc0_scoped3 : Ref sig .tc := ⟨.vmem, 3, rfl⟩

abbrev nD : Nat := 1
abbrev τ : Topo := Topo.v7x

variable {F : FTy → Type} [FloatOps F]

abbrev grid0 : Pipeline.Grid := .none

@[reducible] def k0_t1_loop : Scf.Loop 32 :=
  let c0_i32_82_r0 : BitVec 32 := 0#32
  let c26_i32_r0 : BitVec 32 := 26#32
  let v76_r0 : BitVec 32 := Scalar.addi c0_i32_82_r0 c26_i32_r0
  let c1_i32_83_r0 : BitVec 32 := 1#32
  ⟨c0_i32_82_r0, v76_r0, c1_i32_83_r0⟩
def k0_mult1 (k0_t1 : Fin k0_t1_loop.trips) : BitVec 32 :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c256_i32_101_r0 : BitVec 32 := 256#32
  let v98_r0 : BitVec 32 := Scalar.muli v79_r0 c256_i32_101_r0
  v98_r0
def k0_off1 (k0_t1 : Fin k0_t1_loop.trips) : Fin 2 → Nat :=
  let c0_i32_102_r0 : BitVec 32 := 0#32
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c256_i32_101_r0 : BitVec 32 := 256#32
  let v98_r0 : BitVec 32 := Scalar.muli v79_r0 c256_i32_101_r0
  let v99_r0 : BitVec 32 := v98_r0
  ![0, v99_r0.toNat]
def k0_off2 (k0_t1 : Fin k0_t1_loop.trips) : Fin 2 → Nat :=
  let c0_i32_167_r0 : BitVec 32 := 0#32
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c256_i32_101_r0 : BitVec 32 := 256#32
  let v98_r0 : BitVec 32 := Scalar.muli v79_r0 c256_i32_101_r0
  let v99_r0 : BitVec 32 := v98_r0
  ![0, v99_r0.toNat]
def k0_off3 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_171_r0 : BitVec 32 := 0#32
  let c0_i32_172_r0 : BitVec 32 := 0#32
  let c0_i32_173_r0 : BitVec 32 := 0#32
  ![v79_r0.toNat, 0, 0, 0]
def k0_off4 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_171_r0 : BitVec 32 := 0#32
  let c0_i32_172_r0 : BitVec 32 := 0#32
  let c0_i32_173_r0 : BitVec 32 := 0#32
  ![v79_r0.toNat, 0, 0, 0]
def k0_off5 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_182_r0 : BitVec 32 := 0#32
  let c0_i32_183_r0 : BitVec 32 := 0#32
  ![v79_r0.toNat, 26, 0, 0]
def k0_off6 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_191_r0 : BitVec 32 := 0#32
  let c0_i32_192_r0 : BitVec 32 := 0#32
  ![v79_r0.toNat, 52, 0, 0]
def k0_off7 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_199_r0 : BitVec 32 := 0#32
  let c0_i32_200_r0 : BitVec 32 := 0#32
  ![v79_r0.toNat, 78, 0, 0]
def k0_off8 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_207_r0 : BitVec 32 := 0#32
  let c0_i32_208_r0 : BitVec 32 := 0#32
  ![v79_r0.toNat, 104, 0, 0]
def k0_off9 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_216_r0 : BitVec 32 := 0#32
  let c0_i32_217_r0 : BitVec 32 := 0#32
  ![v79_r0.toNat, 130, 0, 0]
def k0_off10 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_225_r0 : BitVec 32 := 0#32
  let c0_i32_226_r0 : BitVec 32 := 0#32
  ![v79_r0.toNat, 156, 0, 0]
def k0_off11 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_234_r0 : BitVec 32 := 0#32
  let c0_i32_235_r0 : BitVec 32 := 0#32
  ![v79_r0.toNat, 182, 0, 0]
def k0_off12 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_246_r0 : BitVec 32 := 0#32
  let c0_i32_247_r0 : BitVec 32 := 0#32
  ![v79_r0.toNat, 1, 0, 0]
def k0_off13 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_256_r0 : BitVec 32 := 0#32
  let c0_i32_257_r0 : BitVec 32 := 0#32
  ![v79_r0.toNat, 27, 0, 0]
def k0_off14 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_265_r0 : BitVec 32 := 0#32
  let c0_i32_266_r0 : BitVec 32 := 0#32
  ![v79_r0.toNat, 53, 0, 0]
def k0_off15 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_274_r0 : BitVec 32 := 0#32
  let c0_i32_275_r0 : BitVec 32 := 0#32
  ![v79_r0.toNat, 79, 0, 0]
def k0_off16 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_282_r0 : BitVec 32 := 0#32
  let c0_i32_283_r0 : BitVec 32 := 0#32
  ![v79_r0.toNat, 105, 0, 0]
def k0_off17 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_291_r0 : BitVec 32 := 0#32
  let c0_i32_292_r0 : BitVec 32 := 0#32
  ![v79_r0.toNat, 131, 0, 0]
def k0_off18 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_300_r0 : BitVec 32 := 0#32
  let c0_i32_301_r0 : BitVec 32 := 0#32
  ![v79_r0.toNat, 157, 0, 0]
def k0_off19 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_309_r0 : BitVec 32 := 0#32
  let c0_i32_310_r0 : BitVec 32 := 0#32
  ![v79_r0.toNat, 183, 0, 0]
def k0_off20 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_320_r0 : BitVec 32 := 0#32
  let c0_i32_321_r0 : BitVec 32 := 0#32
  ![v79_r0.toNat, 2, 0, 0]
def k0_off21 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_330_r0 : BitVec 32 := 0#32
  let c0_i32_331_r0 : BitVec 32 := 0#32
  ![v79_r0.toNat, 28, 0, 0]
def k0_off22 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_339_r0 : BitVec 32 := 0#32
  let c0_i32_340_r0 : BitVec 32 := 0#32
  ![v79_r0.toNat, 54, 0, 0]
def k0_off23 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_348_r0 : BitVec 32 := 0#32
  let c0_i32_349_r0 : BitVec 32 := 0#32
  ![v79_r0.toNat, 80, 0, 0]
def k0_off24 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_356_r0 : BitVec 32 := 0#32
  let c0_i32_357_r0 : BitVec 32 := 0#32
  ![v79_r0.toNat, 106, 0, 0]
def k0_off25 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_365_r0 : BitVec 32 := 0#32
  let c0_i32_366_r0 : BitVec 32 := 0#32
  ![v79_r0.toNat, 132, 0, 0]
def k0_off26 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_374_r0 : BitVec 32 := 0#32
  let c0_i32_375_r0 : BitVec 32 := 0#32
  ![v79_r0.toNat, 158, 0, 0]
def k0_off27 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_383_r0 : BitVec 32 := 0#32
  let c0_i32_384_r0 : BitVec 32 := 0#32
  ![v79_r0.toNat, 184, 0, 0]
def k0_off28 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_394_r0 : BitVec 32 := 0#32
  let c0_i32_395_r0 : BitVec 32 := 0#32
  ![v79_r0.toNat, 3, 0, 0]
def k0_off29 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_404_r0 : BitVec 32 := 0#32
  let c0_i32_405_r0 : BitVec 32 := 0#32
  ![v79_r0.toNat, 29, 0, 0]
def k0_off30 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_413_r0 : BitVec 32 := 0#32
  let c0_i32_414_r0 : BitVec 32 := 0#32
  ![v79_r0.toNat, 55, 0, 0]
def k0_off31 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_422_r0 : BitVec 32 := 0#32
  let c0_i32_423_r0 : BitVec 32 := 0#32
  ![v79_r0.toNat, 81, 0, 0]
def k0_off32 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_430_r0 : BitVec 32 := 0#32
  let c0_i32_431_r0 : BitVec 32 := 0#32
  ![v79_r0.toNat, 107, 0, 0]
def k0_off33 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_439_r0 : BitVec 32 := 0#32
  let c0_i32_440_r0 : BitVec 32 := 0#32
  ![v79_r0.toNat, 133, 0, 0]
def k0_off34 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_448_r0 : BitVec 32 := 0#32
  let c0_i32_449_r0 : BitVec 32 := 0#32
  ![v79_r0.toNat, 159, 0, 0]
def k0_off35 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_457_r0 : BitVec 32 := 0#32
  let c0_i32_458_r0 : BitVec 32 := 0#32
  ![v79_r0.toNat, 185, 0, 0]
def k0_off36 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_468_r0 : BitVec 32 := 0#32
  let c0_i32_469_r0 : BitVec 32 := 0#32
  ![v79_r0.toNat, 4, 0, 0]
def k0_off37 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_478_r0 : BitVec 32 := 0#32
  let c0_i32_479_r0 : BitVec 32 := 0#32
  ![v79_r0.toNat, 30, 0, 0]
def k0_off38 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_487_r0 : BitVec 32 := 0#32
  let c0_i32_488_r0 : BitVec 32 := 0#32
  ![v79_r0.toNat, 56, 0, 0]
def k0_off39 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_496_r0 : BitVec 32 := 0#32
  let c0_i32_497_r0 : BitVec 32 := 0#32
  ![v79_r0.toNat, 82, 0, 0]
def k0_off40 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_504_r0 : BitVec 32 := 0#32
  let c0_i32_505_r0 : BitVec 32 := 0#32
  ![v79_r0.toNat, 108, 0, 0]
def k0_off41 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_513_r0 : BitVec 32 := 0#32
  let c0_i32_514_r0 : BitVec 32 := 0#32
  ![v79_r0.toNat, 134, 0, 0]
def k0_off42 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_522_r0 : BitVec 32 := 0#32
  let c0_i32_523_r0 : BitVec 32 := 0#32
  ![v79_r0.toNat, 160, 0, 0]
def k0_off43 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_531_r0 : BitVec 32 := 0#32
  let c0_i32_532_r0 : BitVec 32 := 0#32
  ![v79_r0.toNat, 186, 0, 0]
def k0_off44 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_542_r0 : BitVec 32 := 0#32
  let c0_i32_543_r0 : BitVec 32 := 0#32
  ![v79_r0.toNat, 5, 0, 0]
def k0_off45 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_552_r0 : BitVec 32 := 0#32
  let c0_i32_553_r0 : BitVec 32 := 0#32
  ![v79_r0.toNat, 31, 0, 0]
def k0_off46 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_561_r0 : BitVec 32 := 0#32
  let c0_i32_562_r0 : BitVec 32 := 0#32
  ![v79_r0.toNat, 57, 0, 0]
def k0_off47 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_570_r0 : BitVec 32 := 0#32
  let c0_i32_571_r0 : BitVec 32 := 0#32
  ![v79_r0.toNat, 83, 0, 0]
def k0_off48 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_578_r0 : BitVec 32 := 0#32
  let c0_i32_579_r0 : BitVec 32 := 0#32
  ![v79_r0.toNat, 109, 0, 0]
def k0_off49 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_587_r0 : BitVec 32 := 0#32
  let c0_i32_588_r0 : BitVec 32 := 0#32
  ![v79_r0.toNat, 135, 0, 0]
def k0_off50 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_596_r0 : BitVec 32 := 0#32
  let c0_i32_597_r0 : BitVec 32 := 0#32
  ![v79_r0.toNat, 161, 0, 0]
def k0_off51 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_605_r0 : BitVec 32 := 0#32
  let c0_i32_606_r0 : BitVec 32 := 0#32
  ![v79_r0.toNat, 187, 0, 0]
def k0_off52 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_616_r0 : BitVec 32 := 0#32
  let c0_i32_617_r0 : BitVec 32 := 0#32
  ![v79_r0.toNat, 6, 0, 0]
def k0_off53 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_626_r0 : BitVec 32 := 0#32
  let c0_i32_627_r0 : BitVec 32 := 0#32
  ![v79_r0.toNat, 32, 0, 0]
def k0_off54 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_636_r0 : BitVec 32 := 0#32
  let c0_i32_637_r0 : BitVec 32 := 0#32
  ![v79_r0.toNat, 58, 0, 0]
def k0_off55 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_645_r0 : BitVec 32 := 0#32
  let c0_i32_646_r0 : BitVec 32 := 0#32
  ![v79_r0.toNat, 84, 0, 0]
def k0_off56 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_653_r0 : BitVec 32 := 0#32
  let c0_i32_654_r0 : BitVec 32 := 0#32
  ![v79_r0.toNat, 110, 0, 0]
def k0_off57 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_662_r0 : BitVec 32 := 0#32
  let c0_i32_663_r0 : BitVec 32 := 0#32
  ![v79_r0.toNat, 136, 0, 0]
def k0_off58 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_671_r0 : BitVec 32 := 0#32
  let c0_i32_672_r0 : BitVec 32 := 0#32
  ![v79_r0.toNat, 162, 0, 0]
def k0_off59 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_680_r0 : BitVec 32 := 0#32
  let c0_i32_681_r0 : BitVec 32 := 0#32
  ![v79_r0.toNat, 188, 0, 0]
def k0_off60 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_692_r0 : BitVec 32 := 0#32
  let c0_i32_693_r0 : BitVec 32 := 0#32
  ![v79_r0.toNat, 7, 0, 0]
def k0_off61 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_702_r0 : BitVec 32 := 0#32
  let c0_i32_703_r0 : BitVec 32 := 0#32
  ![v79_r0.toNat, 33, 0, 0]
def k0_off62 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_711_r0 : BitVec 32 := 0#32
  let c0_i32_712_r0 : BitVec 32 := 0#32
  ![v79_r0.toNat, 59, 0, 0]
def k0_off63 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_720_r0 : BitVec 32 := 0#32
  let c0_i32_721_r0 : BitVec 32 := 0#32
  ![v79_r0.toNat, 85, 0, 0]
def k0_off64 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_728_r0 : BitVec 32 := 0#32
  let c0_i32_729_r0 : BitVec 32 := 0#32
  ![v79_r0.toNat, 111, 0, 0]
def k0_off65 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_737_r0 : BitVec 32 := 0#32
  let c0_i32_738_r0 : BitVec 32 := 0#32
  ![v79_r0.toNat, 137, 0, 0]
def k0_off66 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_746_r0 : BitVec 32 := 0#32
  let c0_i32_747_r0 : BitVec 32 := 0#32
  ![v79_r0.toNat, 163, 0, 0]
def k0_off67 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_755_r0 : BitVec 32 := 0#32
  let c0_i32_756_r0 : BitVec 32 := 0#32
  ![v79_r0.toNat, 189, 0, 0]
def k0_off68 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_766_r0 : BitVec 32 := 0#32
  let c0_i32_767_r0 : BitVec 32 := 0#32
  ![v79_r0.toNat, 8, 0, 0]
def k0_off69 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_776_r0 : BitVec 32 := 0#32
  let c0_i32_777_r0 : BitVec 32 := 0#32
  ![v79_r0.toNat, 34, 0, 0]
def k0_off70 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_785_r0 : BitVec 32 := 0#32
  let c0_i32_786_r0 : BitVec 32 := 0#32
  ![v79_r0.toNat, 60, 0, 0]
def k0_off71 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_794_r0 : BitVec 32 := 0#32
  let c0_i32_795_r0 : BitVec 32 := 0#32
  ![v79_r0.toNat, 86, 0, 0]
def k0_off72 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_802_r0 : BitVec 32 := 0#32
  let c0_i32_803_r0 : BitVec 32 := 0#32
  ![v79_r0.toNat, 112, 0, 0]
def k0_off73 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_811_r0 : BitVec 32 := 0#32
  let c0_i32_812_r0 : BitVec 32 := 0#32
  ![v79_r0.toNat, 138, 0, 0]
def k0_off74 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_820_r0 : BitVec 32 := 0#32
  let c0_i32_821_r0 : BitVec 32 := 0#32
  ![v79_r0.toNat, 164, 0, 0]
def k0_off75 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_829_r0 : BitVec 32 := 0#32
  let c0_i32_830_r0 : BitVec 32 := 0#32
  ![v79_r0.toNat, 190, 0, 0]
def k0_off76 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_840_r0 : BitVec 32 := 0#32
  let c0_i32_841_r0 : BitVec 32 := 0#32
  ![v79_r0.toNat, 9, 0, 0]
def k0_off77 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_850_r0 : BitVec 32 := 0#32
  let c0_i32_851_r0 : BitVec 32 := 0#32
  ![v79_r0.toNat, 35, 0, 0]
def k0_off78 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_859_r0 : BitVec 32 := 0#32
  let c0_i32_860_r0 : BitVec 32 := 0#32
  ![v79_r0.toNat, 61, 0, 0]
def k0_off79 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_868_r0 : BitVec 32 := 0#32
  let c0_i32_869_r0 : BitVec 32 := 0#32
  ![v79_r0.toNat, 87, 0, 0]
def k0_off80 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_876_r0 : BitVec 32 := 0#32
  let c0_i32_877_r0 : BitVec 32 := 0#32
  ![v79_r0.toNat, 113, 0, 0]
def k0_off81 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_885_r0 : BitVec 32 := 0#32
  let c0_i32_886_r0 : BitVec 32 := 0#32
  ![v79_r0.toNat, 139, 0, 0]
def k0_off82 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_894_r0 : BitVec 32 := 0#32
  let c0_i32_895_r0 : BitVec 32 := 0#32
  ![v79_r0.toNat, 165, 0, 0]
def k0_off83 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_903_r0 : BitVec 32 := 0#32
  let c0_i32_904_r0 : BitVec 32 := 0#32
  ![v79_r0.toNat, 191, 0, 0]
def k0_off84 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_915_r0 : BitVec 32 := 0#32
  let c0_i32_916_r0 : BitVec 32 := 0#32
  ![v79_r0.toNat, 10, 0, 0]
def k0_off85 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_925_r0 : BitVec 32 := 0#32
  let c0_i32_926_r0 : BitVec 32 := 0#32
  ![v79_r0.toNat, 36, 0, 0]
def k0_off86 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_934_r0 : BitVec 32 := 0#32
  let c0_i32_935_r0 : BitVec 32 := 0#32
  ![v79_r0.toNat, 62, 0, 0]
def k0_off87 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_943_r0 : BitVec 32 := 0#32
  let c0_i32_944_r0 : BitVec 32 := 0#32
  ![v79_r0.toNat, 88, 0, 0]
def k0_off88 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_951_r0 : BitVec 32 := 0#32
  let c0_i32_952_r0 : BitVec 32 := 0#32
  ![v79_r0.toNat, 114, 0, 0]
def k0_off89 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_960_r0 : BitVec 32 := 0#32
  let c0_i32_961_r0 : BitVec 32 := 0#32
  ![v79_r0.toNat, 140, 0, 0]
def k0_off90 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_969_r0 : BitVec 32 := 0#32
  let c0_i32_970_r0 : BitVec 32 := 0#32
  ![v79_r0.toNat, 166, 0, 0]
def k0_off91 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_978_r0 : BitVec 32 := 0#32
  let c0_i32_979_r0 : BitVec 32 := 0#32
  ![v79_r0.toNat, 192, 0, 0]
def k0_off92 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_990_r0 : BitVec 32 := 0#32
  let c0_i32_991_r0 : BitVec 32 := 0#32
  ![v79_r0.toNat, 11, 0, 0]
def k0_off93 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1000_r0 : BitVec 32 := 0#32
  let c0_i32_1001_r0 : BitVec 32 := 0#32
  ![v79_r0.toNat, 37, 0, 0]
def k0_off94 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1009_r0 : BitVec 32 := 0#32
  let c0_i32_1010_r0 : BitVec 32 := 0#32
  ![v79_r0.toNat, 63, 0, 0]
def k0_off95 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1018_r0 : BitVec 32 := 0#32
  let c0_i32_1019_r0 : BitVec 32 := 0#32
  ![v79_r0.toNat, 89, 0, 0]
def k0_off96 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1026_r0 : BitVec 32 := 0#32
  let c0_i32_1027_r0 : BitVec 32 := 0#32
  ![v79_r0.toNat, 115, 0, 0]
def k0_off97 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1035_r0 : BitVec 32 := 0#32
  let c0_i32_1036_r0 : BitVec 32 := 0#32
  ![v79_r0.toNat, 141, 0, 0]
def k0_off98 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1044_r0 : BitVec 32 := 0#32
  let c0_i32_1045_r0 : BitVec 32 := 0#32
  ![v79_r0.toNat, 167, 0, 0]
def k0_off99 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1053_r0 : BitVec 32 := 0#32
  let c0_i32_1054_r0 : BitVec 32 := 0#32
  ![v79_r0.toNat, 193, 0, 0]
def k0_off100 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1064_r0 : BitVec 32 := 0#32
  let c0_i32_1065_r0 : BitVec 32 := 0#32
  ![v79_r0.toNat, 12, 0, 0]
def k0_off101 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1074_r0 : BitVec 32 := 0#32
  let c0_i32_1075_r0 : BitVec 32 := 0#32
  ![v79_r0.toNat, 38, 0, 0]
def k0_off102 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1083_r0 : BitVec 32 := 0#32
  let c0_i32_1084_r0 : BitVec 32 := 0#32
  ![v79_r0.toNat, 64, 0, 0]
def k0_off103 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1093_r0 : BitVec 32 := 0#32
  let c0_i32_1094_r0 : BitVec 32 := 0#32
  ![v79_r0.toNat, 90, 0, 0]
def k0_off104 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1101_r0 : BitVec 32 := 0#32
  let c0_i32_1102_r0 : BitVec 32 := 0#32
  ![v79_r0.toNat, 116, 0, 0]
def k0_off105 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1110_r0 : BitVec 32 := 0#32
  let c0_i32_1111_r0 : BitVec 32 := 0#32
  ![v79_r0.toNat, 142, 0, 0]
def k0_off106 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1119_r0 : BitVec 32 := 0#32
  let c0_i32_1120_r0 : BitVec 32 := 0#32
  ![v79_r0.toNat, 168, 0, 0]
def k0_off107 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1128_r0 : BitVec 32 := 0#32
  let c0_i32_1129_r0 : BitVec 32 := 0#32
  ![v79_r0.toNat, 194, 0, 0]
def k0_off108 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1140_r0 : BitVec 32 := 0#32
  let c0_i32_1141_r0 : BitVec 32 := 0#32
  ![v79_r0.toNat, 13, 0, 0]
def k0_off109 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1149_r0 : BitVec 32 := 0#32
  let c0_i32_1150_r0 : BitVec 32 := 0#32
  ![v79_r0.toNat, 39, 0, 0]
def k0_off110 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1158_r0 : BitVec 32 := 0#32
  let c0_i32_1159_r0 : BitVec 32 := 0#32
  ![v79_r0.toNat, 65, 0, 0]
def k0_off111 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1167_r0 : BitVec 32 := 0#32
  let c0_i32_1168_r0 : BitVec 32 := 0#32
  ![v79_r0.toNat, 91, 0, 0]
def k0_off112 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1175_r0 : BitVec 32 := 0#32
  let c0_i32_1176_r0 : BitVec 32 := 0#32
  ![v79_r0.toNat, 117, 0, 0]
def k0_off113 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1184_r0 : BitVec 32 := 0#32
  let c0_i32_1185_r0 : BitVec 32 := 0#32
  ![v79_r0.toNat, 143, 0, 0]
def k0_off114 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1193_r0 : BitVec 32 := 0#32
  let c0_i32_1194_r0 : BitVec 32 := 0#32
  ![v79_r0.toNat, 169, 0, 0]
def k0_off115 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1202_r0 : BitVec 32 := 0#32
  let c0_i32_1203_r0 : BitVec 32 := 0#32
  ![v79_r0.toNat, 195, 0, 0]
def k0_off116 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1214_r0 : BitVec 32 := 0#32
  let c0_i32_1215_r0 : BitVec 32 := 0#32
  ![v79_r0.toNat, 14, 0, 0]
def k0_off117 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1223_r0 : BitVec 32 := 0#32
  let c0_i32_1224_r0 : BitVec 32 := 0#32
  ![v79_r0.toNat, 40, 0, 0]
def k0_off118 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1233_r0 : BitVec 32 := 0#32
  let c0_i32_1234_r0 : BitVec 32 := 0#32
  ![v79_r0.toNat, 66, 0, 0]
def k0_off119 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1242_r0 : BitVec 32 := 0#32
  let c0_i32_1243_r0 : BitVec 32 := 0#32
  ![v79_r0.toNat, 92, 0, 0]
def k0_off120 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1250_r0 : BitVec 32 := 0#32
  let c0_i32_1251_r0 : BitVec 32 := 0#32
  ![v79_r0.toNat, 118, 0, 0]
def k0_off121 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1259_r0 : BitVec 32 := 0#32
  let c0_i32_1260_r0 : BitVec 32 := 0#32
  ![v79_r0.toNat, 144, 0, 0]
def k0_off122 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1268_r0 : BitVec 32 := 0#32
  let c0_i32_1269_r0 : BitVec 32 := 0#32
  ![v79_r0.toNat, 170, 0, 0]
def k0_off123 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1277_r0 : BitVec 32 := 0#32
  let c0_i32_1278_r0 : BitVec 32 := 0#32
  ![v79_r0.toNat, 196, 0, 0]
def k0_off124 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1288_r0 : BitVec 32 := 0#32
  let c0_i32_1289_r0 : BitVec 32 := 0#32
  ![v79_r0.toNat, 15, 0, 0]
def k0_off125 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1297_r0 : BitVec 32 := 0#32
  let c0_i32_1298_r0 : BitVec 32 := 0#32
  ![v79_r0.toNat, 41, 0, 0]
def k0_off126 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1306_r0 : BitVec 32 := 0#32
  let c0_i32_1307_r0 : BitVec 32 := 0#32
  ![v79_r0.toNat, 67, 0, 0]
def k0_off127 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1315_r0 : BitVec 32 := 0#32
  let c0_i32_1316_r0 : BitVec 32 := 0#32
  ![v79_r0.toNat, 93, 0, 0]
def k0_off128 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1323_r0 : BitVec 32 := 0#32
  let c0_i32_1324_r0 : BitVec 32 := 0#32
  ![v79_r0.toNat, 119, 0, 0]
def k0_off129 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1332_r0 : BitVec 32 := 0#32
  let c0_i32_1333_r0 : BitVec 32 := 0#32
  ![v79_r0.toNat, 145, 0, 0]
def k0_off130 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1341_r0 : BitVec 32 := 0#32
  let c0_i32_1342_r0 : BitVec 32 := 0#32
  ![v79_r0.toNat, 171, 0, 0]
def k0_off131 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1350_r0 : BitVec 32 := 0#32
  let c0_i32_1351_r0 : BitVec 32 := 0#32
  ![v79_r0.toNat, 197, 0, 0]
def k0_off132 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1361_r0 : BitVec 32 := 0#32
  let c0_i32_1362_r0 : BitVec 32 := 0#32
  ![v79_r0.toNat, 16, 0, 0]
def k0_off133 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1371_r0 : BitVec 32 := 0#32
  let c0_i32_1372_r0 : BitVec 32 := 0#32
  ![v79_r0.toNat, 42, 0, 0]
def k0_off134 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1380_r0 : BitVec 32 := 0#32
  let c0_i32_1381_r0 : BitVec 32 := 0#32
  ![v79_r0.toNat, 68, 0, 0]
def k0_off135 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1389_r0 : BitVec 32 := 0#32
  let c0_i32_1390_r0 : BitVec 32 := 0#32
  ![v79_r0.toNat, 94, 0, 0]
def k0_off136 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1397_r0 : BitVec 32 := 0#32
  let c0_i32_1398_r0 : BitVec 32 := 0#32
  ![v79_r0.toNat, 120, 0, 0]
def k0_off137 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1407_r0 : BitVec 32 := 0#32
  let c0_i32_1408_r0 : BitVec 32 := 0#32
  ![v79_r0.toNat, 146, 0, 0]
def k0_off138 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1416_r0 : BitVec 32 := 0#32
  let c0_i32_1417_r0 : BitVec 32 := 0#32
  ![v79_r0.toNat, 172, 0, 0]
def k0_off139 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1425_r0 : BitVec 32 := 0#32
  let c0_i32_1426_r0 : BitVec 32 := 0#32
  ![v79_r0.toNat, 198, 0, 0]
def k0_off140 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1437_r0 : BitVec 32 := 0#32
  let c0_i32_1438_r0 : BitVec 32 := 0#32
  ![v79_r0.toNat, 17, 0, 0]
def k0_off141 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1446_r0 : BitVec 32 := 0#32
  let c0_i32_1447_r0 : BitVec 32 := 0#32
  ![v79_r0.toNat, 43, 0, 0]
def k0_off142 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1455_r0 : BitVec 32 := 0#32
  let c0_i32_1456_r0 : BitVec 32 := 0#32
  ![v79_r0.toNat, 69, 0, 0]
def k0_off143 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1464_r0 : BitVec 32 := 0#32
  let c0_i32_1465_r0 : BitVec 32 := 0#32
  ![v79_r0.toNat, 95, 0, 0]
def k0_off144 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1472_r0 : BitVec 32 := 0#32
  let c0_i32_1473_r0 : BitVec 32 := 0#32
  ![v79_r0.toNat, 121, 0, 0]
def k0_off145 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1481_r0 : BitVec 32 := 0#32
  let c0_i32_1482_r0 : BitVec 32 := 0#32
  ![v79_r0.toNat, 147, 0, 0]
def k0_off146 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1490_r0 : BitVec 32 := 0#32
  let c0_i32_1491_r0 : BitVec 32 := 0#32
  ![v79_r0.toNat, 173, 0, 0]
def k0_off147 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1499_r0 : BitVec 32 := 0#32
  let c0_i32_1500_r0 : BitVec 32 := 0#32
  ![v79_r0.toNat, 199, 0, 0]
def k0_off148 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1511_r0 : BitVec 32 := 0#32
  let c0_i32_1512_r0 : BitVec 32 := 0#32
  ![v79_r0.toNat, 18, 0, 0]
def k0_off149 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1520_r0 : BitVec 32 := 0#32
  let c0_i32_1521_r0 : BitVec 32 := 0#32
  ![v79_r0.toNat, 44, 0, 0]
def k0_off150 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1529_r0 : BitVec 32 := 0#32
  let c0_i32_1530_r0 : BitVec 32 := 0#32
  ![v79_r0.toNat, 70, 0, 0]
def k0_off151 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1538_r0 : BitVec 32 := 0#32
  let c0_i32_1539_r0 : BitVec 32 := 0#32
  ![v79_r0.toNat, 96, 0, 0]
def k0_off152 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1547_r0 : BitVec 32 := 0#32
  let c0_i32_1548_r0 : BitVec 32 := 0#32
  ![v79_r0.toNat, 122, 0, 0]
def k0_off153 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1556_r0 : BitVec 32 := 0#32
  let c0_i32_1557_r0 : BitVec 32 := 0#32
  ![v79_r0.toNat, 148, 0, 0]
def k0_off154 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1565_r0 : BitVec 32 := 0#32
  let c0_i32_1566_r0 : BitVec 32 := 0#32
  ![v79_r0.toNat, 174, 0, 0]
def k0_off155 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1574_r0 : BitVec 32 := 0#32
  let c0_i32_1575_r0 : BitVec 32 := 0#32
  ![v79_r0.toNat, 200, 0, 0]
def k0_off156 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1585_r0 : BitVec 32 := 0#32
  let c0_i32_1586_r0 : BitVec 32 := 0#32
  ![v79_r0.toNat, 19, 0, 0]
def k0_off157 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1594_r0 : BitVec 32 := 0#32
  let c0_i32_1595_r0 : BitVec 32 := 0#32
  ![v79_r0.toNat, 45, 0, 0]
def k0_off158 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1603_r0 : BitVec 32 := 0#32
  let c0_i32_1604_r0 : BitVec 32 := 0#32
  ![v79_r0.toNat, 71, 0, 0]
def k0_off159 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1612_r0 : BitVec 32 := 0#32
  let c0_i32_1613_r0 : BitVec 32 := 0#32
  ![v79_r0.toNat, 97, 0, 0]
def k0_off160 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1620_r0 : BitVec 32 := 0#32
  let c0_i32_1621_r0 : BitVec 32 := 0#32
  ![v79_r0.toNat, 123, 0, 0]
def k0_off161 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1629_r0 : BitVec 32 := 0#32
  let c0_i32_1630_r0 : BitVec 32 := 0#32
  ![v79_r0.toNat, 149, 0, 0]
def k0_off162 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1638_r0 : BitVec 32 := 0#32
  let c0_i32_1639_r0 : BitVec 32 := 0#32
  ![v79_r0.toNat, 175, 0, 0]
def k0_off163 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1647_r0 : BitVec 32 := 0#32
  let c0_i32_1648_r0 : BitVec 32 := 0#32
  ![v79_r0.toNat, 201, 0, 0]
def k0_off164 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1659_r0 : BitVec 32 := 0#32
  let c0_i32_1660_r0 : BitVec 32 := 0#32
  ![v79_r0.toNat, 20, 0, 0]
def k0_off165 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1668_r0 : BitVec 32 := 0#32
  let c0_i32_1669_r0 : BitVec 32 := 0#32
  ![v79_r0.toNat, 46, 0, 0]
def k0_off166 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1677_r0 : BitVec 32 := 0#32
  let c0_i32_1678_r0 : BitVec 32 := 0#32
  ![v79_r0.toNat, 72, 0, 0]
def k0_off167 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1687_r0 : BitVec 32 := 0#32
  let c0_i32_1688_r0 : BitVec 32 := 0#32
  ![v79_r0.toNat, 98, 0, 0]
def k0_off168 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1695_r0 : BitVec 32 := 0#32
  let c0_i32_1696_r0 : BitVec 32 := 0#32
  ![v79_r0.toNat, 124, 0, 0]
def k0_off169 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1704_r0 : BitVec 32 := 0#32
  let c0_i32_1705_r0 : BitVec 32 := 0#32
  ![v79_r0.toNat, 150, 0, 0]
def k0_off170 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1713_r0 : BitVec 32 := 0#32
  let c0_i32_1714_r0 : BitVec 32 := 0#32
  ![v79_r0.toNat, 176, 0, 0]
def k0_off171 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1722_r0 : BitVec 32 := 0#32
  let c0_i32_1723_r0 : BitVec 32 := 0#32
  ![v79_r0.toNat, 202, 0, 0]
def k0_off172 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1734_r0 : BitVec 32 := 0#32
  let c0_i32_1735_r0 : BitVec 32 := 0#32
  ![v79_r0.toNat, 21, 0, 0]
def k0_off173 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1743_r0 : BitVec 32 := 0#32
  let c0_i32_1744_r0 : BitVec 32 := 0#32
  ![v79_r0.toNat, 47, 0, 0]
def k0_off174 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1752_r0 : BitVec 32 := 0#32
  let c0_i32_1753_r0 : BitVec 32 := 0#32
  ![v79_r0.toNat, 73, 0, 0]
def k0_off175 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1761_r0 : BitVec 32 := 0#32
  let c0_i32_1762_r0 : BitVec 32 := 0#32
  ![v79_r0.toNat, 99, 0, 0]
def k0_off176 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1769_r0 : BitVec 32 := 0#32
  let c0_i32_1770_r0 : BitVec 32 := 0#32
  ![v79_r0.toNat, 125, 0, 0]
def k0_off177 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1778_r0 : BitVec 32 := 0#32
  let c0_i32_1779_r0 : BitVec 32 := 0#32
  ![v79_r0.toNat, 151, 0, 0]
def k0_off178 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1787_r0 : BitVec 32 := 0#32
  let c0_i32_1788_r0 : BitVec 32 := 0#32
  ![v79_r0.toNat, 177, 0, 0]
def k0_off179 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1796_r0 : BitVec 32 := 0#32
  let c0_i32_1797_r0 : BitVec 32 := 0#32
  ![v79_r0.toNat, 203, 0, 0]
def k0_off180 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1808_r0 : BitVec 32 := 0#32
  let c0_i32_1809_r0 : BitVec 32 := 0#32
  ![v79_r0.toNat, 22, 0, 0]
def k0_off181 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1817_r0 : BitVec 32 := 0#32
  let c0_i32_1818_r0 : BitVec 32 := 0#32
  ![v79_r0.toNat, 48, 0, 0]
def k0_off182 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1827_r0 : BitVec 32 := 0#32
  let c0_i32_1828_r0 : BitVec 32 := 0#32
  ![v79_r0.toNat, 74, 0, 0]
def k0_off183 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1836_r0 : BitVec 32 := 0#32
  let c0_i32_1837_r0 : BitVec 32 := 0#32
  ![v79_r0.toNat, 100, 0, 0]
def k0_off184 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1844_r0 : BitVec 32 := 0#32
  let c0_i32_1845_r0 : BitVec 32 := 0#32
  ![v79_r0.toNat, 126, 0, 0]
def k0_off185 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1853_r0 : BitVec 32 := 0#32
  let c0_i32_1854_r0 : BitVec 32 := 0#32
  ![v79_r0.toNat, 152, 0, 0]
def k0_off186 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1863_r0 : BitVec 32 := 0#32
  let c0_i32_1864_r0 : BitVec 32 := 0#32
  ![v79_r0.toNat, 178, 0, 0]
def k0_off187 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1872_r0 : BitVec 32 := 0#32
  let c0_i32_1873_r0 : BitVec 32 := 0#32
  ![v79_r0.toNat, 204, 0, 0]
def k0_off188 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1884_r0 : BitVec 32 := 0#32
  let c0_i32_1885_r0 : BitVec 32 := 0#32
  ![v79_r0.toNat, 23, 0, 0]
def k0_off189 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1893_r0 : BitVec 32 := 0#32
  let c0_i32_1894_r0 : BitVec 32 := 0#32
  ![v79_r0.toNat, 49, 0, 0]
def k0_off190 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1902_r0 : BitVec 32 := 0#32
  let c0_i32_1903_r0 : BitVec 32 := 0#32
  ![v79_r0.toNat, 75, 0, 0]
def k0_off191 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1911_r0 : BitVec 32 := 0#32
  let c0_i32_1912_r0 : BitVec 32 := 0#32
  ![v79_r0.toNat, 101, 0, 0]
def k0_off192 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1919_r0 : BitVec 32 := 0#32
  let c0_i32_1920_r0 : BitVec 32 := 0#32
  ![v79_r0.toNat, 127, 0, 0]
def k0_off193 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1928_r0 : BitVec 32 := 0#32
  let c0_i32_1929_r0 : BitVec 32 := 0#32
  ![v79_r0.toNat, 153, 0, 0]
def k0_off194 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1937_r0 : BitVec 32 := 0#32
  let c0_i32_1938_r0 : BitVec 32 := 0#32
  ![v79_r0.toNat, 179, 0, 0]
def k0_off195 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1946_r0 : BitVec 32 := 0#32
  let c0_i32_1947_r0 : BitVec 32 := 0#32
  ![v79_r0.toNat, 205, 0, 0]
def k0_off196 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1958_r0 : BitVec 32 := 0#32
  let c0_i32_1959_r0 : BitVec 32 := 0#32
  ![v79_r0.toNat, 24, 0, 0]
def k0_off197 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1968_r0 : BitVec 32 := 0#32
  let c0_i32_1969_r0 : BitVec 32 := 0#32
  ![v79_r0.toNat, 50, 0, 0]
def k0_off198 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1977_r0 : BitVec 32 := 0#32
  let c0_i32_1978_r0 : BitVec 32 := 0#32
  ![v79_r0.toNat, 76, 0, 0]
def k0_off199 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1986_r0 : BitVec 32 := 0#32
  let c0_i32_1987_r0 : BitVec 32 := 0#32
  ![v79_r0.toNat, 102, 0, 0]
def k0_off200 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_1994_r0 : BitVec 32 := 0#32
  let c0_i32_1995_r0 : BitVec 32 := 0#32
  ![v79_r0.toNat, 128, 0, 0]
def k0_off201 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2004_r0 : BitVec 32 := 0#32
  let c0_i32_2005_r0 : BitVec 32 := 0#32
  ![v79_r0.toNat, 154, 0, 0]
def k0_off202 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2013_r0 : BitVec 32 := 0#32
  let c0_i32_2014_r0 : BitVec 32 := 0#32
  ![v79_r0.toNat, 180, 0, 0]
def k0_off203 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2022_r0 : BitVec 32 := 0#32
  let c0_i32_2023_r0 : BitVec 32 := 0#32
  ![v79_r0.toNat, 206, 0, 0]
def k0_off204 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2034_r0 : BitVec 32 := 0#32
  let c0_i32_2035_r0 : BitVec 32 := 0#32
  ![v79_r0.toNat, 25, 0, 0]
def k0_off205 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2043_r0 : BitVec 32 := 0#32
  let c0_i32_2044_r0 : BitVec 32 := 0#32
  ![v79_r0.toNat, 51, 0, 0]
def k0_off206 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2052_r0 : BitVec 32 := 0#32
  let c0_i32_2053_r0 : BitVec 32 := 0#32
  ![v79_r0.toNat, 77, 0, 0]
def k0_off207 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2061_r0 : BitVec 32 := 0#32
  let c0_i32_2062_r0 : BitVec 32 := 0#32
  ![v79_r0.toNat, 103, 0, 0]
def k0_off208 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2069_r0 : BitVec 32 := 0#32
  let c0_i32_2070_r0 : BitVec 32 := 0#32
  ![v79_r0.toNat, 129, 0, 0]
def k0_off209 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2078_r0 : BitVec 32 := 0#32
  let c0_i32_2079_r0 : BitVec 32 := 0#32
  ![v79_r0.toNat, 155, 0, 0]
def k0_off210 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2087_r0 : BitVec 32 := 0#32
  let c0_i32_2088_r0 : BitVec 32 := 0#32
  ![v79_r0.toNat, 181, 0, 0]
def k0_off211 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2096_r0 : BitVec 32 := 0#32
  let c0_i32_2097_r0 : BitVec 32 := 0#32
  ![v79_r0.toNat, 207, 0, 0]
def k0_off212 (k0_t1 : Fin k0_t1_loop.trips) : Fin 1 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  ![v79_r0.toNat]
def k0_off213 (k0_t1 : Fin k0_t1_loop.trips) : Fin 4 → Nat :=
  let c0_i32_2100_r0 : BitVec 32 := 0#32
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c0_i32_2101_r0 : BitVec 32 := 0#32
  let c0_i32_2102_r0 : BitVec 32 := 0#32
  ![0, v79_r0.toNat, 0, 0]
def k0_cond7 (k0_t1 : Fin k0_t1_loop.trips) : BitVec 1 :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c5_i32_2106_r0 : BitVec 32 := 5#32
  let v3798_r0 : BitVec 1 := Scalar.cmpi .sge v79_r0 c5_i32_2106_r0
  let v3799_r0 : BitVec 32 := Scalar.extui v3798_r0
  let c0_i32_2107_r0 : BitVec 32 := 0#32
  let v3800_r0 : BitVec 1 := Scalar.cmpi .ne v3799_r0 c0_i32_2107_r0
  v3800_r0

def k0_off214 (k0_t1 : Fin k0_t1_loop.trips) : Fin 1 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c5_i32_2108_r0 : BitVec 32 := 5#32
  let v3801_r0 : BitVec 32 := Scalar.subi v79_r0 c5_i32_2108_r0
  ![v3801_r0.toNat]
def k0_off215 (k0_t1 : Fin k0_t1_loop.trips) : Fin 4 → Nat :=
  let c0_i32_2109_r0 : BitVec 32 := 0#32
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c5_i32_2108_r0 : BitVec 32 := 5#32
  let v3801_r0 : BitVec 32 := Scalar.subi v79_r0 c5_i32_2108_r0
  let c0_i32_2110_r0 : BitVec 32 := 0#32
  let c0_i32_2111_r0 : BitVec 32 := 0#32
  ![0, v3801_r0.toNat, 0, 0]
def k0_off216 (k0_t1 : Fin k0_t1_loop.trips) : Fin 4 → Nat :=
  let c0_i32_90_r0 : BitVec 32 := 0#32
  let c0_i32_82_r0 : BitVec 32 := 0#32
  let c1_i32_83_r0 : BitVec 32 := 1#32
  let arg4_r0 : BitVec 32 := Scf.iv c0_i32_82_r0 c1_i32_83_r0 k0_t1
  let c1_i32_89_r0 : BitVec 32 := 1#32
  let v78_r0 : BitVec 32 := Scalar.muli arg4_r0 c1_i32_89_r0
  let v79_r0 : BitVec 32 := Scalar.addi c0_i32_90_r0 v78_r0
  let c5_i32_2108_r0 : BitVec 32 := 5#32
  let v3801_r0 : BitVec 32 := Scalar.subi v79_r0 c5_i32_2108_r0
  let c0_i32_2112_r0 : BitVec 32 := 0#32
  let c0_i32_2113_r0 : BitVec 32 := 0#32
  let c0_i32_2114_r0 : BitVec 32 := 0#32
  ![v3801_r0.toNat, 0, 0, 0]
@[reducible] def k0_t2_loop : Scf.Loop 32 :=
  let c0_i32_85_r0 : BitVec 32 := 0#32
  let c5_i32_86_r0 : BitVec 32 := 5#32
  let v77_r0 : BitVec 32 := Scalar.addi c0_i32_85_r0 c5_i32_86_r0
  let c1_i32_87_r0 : BitVec 32 := 1#32
  ⟨c0_i32_85_r0, v77_r0, c1_i32_87_r0⟩
def k0_off217 (k0_t2 : Fin k0_t2_loop.trips) : Fin 1 → Nat :=
  let c21_i32_r0 : BitVec 32 := 21#32
  let c0_i32_85_r0 : BitVec 32 := 0#32
  let c1_i32_87_r0 : BitVec 32 := 1#32
  let arg4_r0 : BitVec 32 := Scf.iv c0_i32_85_r0 c1_i32_87_r0 k0_t2
  let c1_i32_89_r0 : BitVec 32 := 1#32
  let v78_r0 : BitVec 32 := Scalar.muli arg4_r0 c1_i32_89_r0
  let v79_r0 : BitVec 32 := Scalar.addi c21_i32_r0 v78_r0
  ![v79_r0.toNat]
def k0_off218 (k0_t2 : Fin k0_t2_loop.trips) : Fin 4 → Nat :=
  let c0_i32_90_r0 : BitVec 32 := 0#32
  let c21_i32_r0 : BitVec 32 := 21#32
  let c0_i32_85_r0 : BitVec 32 := 0#32
  let c1_i32_87_r0 : BitVec 32 := 1#32
  let arg4_r0 : BitVec 32 := Scf.iv c0_i32_85_r0 c1_i32_87_r0 k0_t2
  let c1_i32_89_r0 : BitVec 32 := 1#32
  let v78_r0 : BitVec 32 := Scalar.muli arg4_r0 c1_i32_89_r0
  let v79_r0 : BitVec 32 := Scalar.addi c21_i32_r0 v78_r0
  let c0_i32_91_r0 : BitVec 32 := 0#32
  let c0_i32_92_r0 : BitVec 32 := 0#32
  ![0, v79_r0.toNat, 0, 0]
def k0_off219 (k0_t2 : Fin k0_t2_loop.trips) : Fin 4 → Nat :=
  let c21_i32_r0 : BitVec 32 := 21#32
  let c0_i32_85_r0 : BitVec 32 := 0#32
  let c1_i32_87_r0 : BitVec 32 := 1#32
  let arg4_r0 : BitVec 32 := Scf.iv c0_i32_85_r0 c1_i32_87_r0 k0_t2
  let c1_i32_89_r0 : BitVec 32 := 1#32
  let v78_r0 : BitVec 32 := Scalar.muli arg4_r0 c1_i32_89_r0
  let v79_r0 : BitVec 32 := Scalar.addi c21_i32_r0 v78_r0
  let c0_i32_93_r0 : BitVec 32 := 0#32
  let c0_i32_94_r0 : BitVec 32 := 0#32
  let c0_i32_95_r0 : BitVec 32 := 0#32
  ![v79_r0.toNat, 0, 0, 0]
-- ==== ReferenceIdeal.lean ====
abbrev S208x6656 : Shape := ⟨2, ![208, 6656]⟩
abbrev S13x6656 : Shape := ⟨2, ![13, 6656]⟩
abbrev S13x1x6656 : Shape := ⟨3, ![13, 1, 6656]⟩
abbrev S13x128x6656 : Shape := ⟨3, ![13, 128, 6656]⟩
abbrev S1664x6656 : Shape := ⟨2, ![1664, 6656]⟩
abbrev S_ : Shape := ⟨0, ![]⟩

abbrev nBuf : Space → Nat
  | .hbm => 99
  | .vmem => 0
  | .smem => 0
  | _ => 0

abbrev bufTy : (tb : Table) → Fin (tcTables nBuf tb) → BufTy
  | .hbm, ⟨0, _⟩ => ⟨S208x6656, .i32⟩
  | .hbm, ⟨1, _⟩ => ⟨S13x6656, .bf16⟩
  | .hbm, ⟨2, _⟩ => ⟨S13x6656, .bf16⟩
  | .hbm, ⟨3, _⟩ => ⟨S208x6656, .i32⟩
  | .hbm, ⟨4, _⟩ => ⟨S13x1x6656, .bf16⟩
  | .hbm, ⟨5, _⟩ => ⟨S13x128x6656, .bf16⟩
  | .hbm, ⟨6, _⟩ => ⟨S1664x6656, .bf16⟩
  | .hbm, ⟨7, _⟩ => ⟨S13x1x6656, .bf16⟩
  | .hbm, ⟨8, _⟩ => ⟨S13x128x6656, .bf16⟩
  | .hbm, ⟨9, _⟩ => ⟨S1664x6656, .bf16⟩
  | .hbm, ⟨10, _⟩ => ⟨S_, .i32⟩
  | .hbm, ⟨11, _⟩ => ⟨S208x6656, .i32⟩
  | .hbm, ⟨12, _⟩ => ⟨S208x6656, .i32⟩
  | .hbm, ⟨13, _⟩ => ⟨S_, .i32⟩
  | .hbm, ⟨14, _⟩ => ⟨S208x6656, .i32⟩
  | .hbm, ⟨15, _⟩ => ⟨S208x6656, .i32⟩
  | .hbm, ⟨16, _⟩ => ⟨S208x6656, .bf16⟩
  | .hbm, ⟨17, _⟩ => ⟨S208x6656, .bf16⟩
  | .hbm, ⟨18, _⟩ => ⟨S208x6656, .bf16⟩
  | .hbm, ⟨19, _⟩ => ⟨S208x6656, .bf16⟩
  | .hbm, ⟨20, _⟩ => ⟨S208x6656, .bf16⟩
  | .hbm, ⟨21, _⟩ => ⟨S_, .i32⟩
  | .hbm, ⟨22, _⟩ => ⟨S208x6656, .i32⟩
  | .hbm, ⟨23, _⟩ => ⟨S208x6656, .i32⟩
  | .hbm, ⟨24, _⟩ => ⟨S_, .i32⟩
  | .hbm, ⟨25, _⟩ => ⟨S208x6656, .i32⟩
  | .hbm, ⟨26, _⟩ => ⟨S208x6656, .i32⟩
  | .hbm, ⟨27, _⟩ => ⟨S208x6656, .bf16⟩
  | .hbm, ⟨28, _⟩ => ⟨S208x6656, .bf16⟩
  | .hbm, ⟨29, _⟩ => ⟨S208x6656, .bf16⟩
  | .hbm, ⟨30, _⟩ => ⟨S208x6656, .bf16⟩
  | .hbm, ⟨31, _⟩ => ⟨S208x6656, .bf16⟩
  | .hbm, ⟨32, _⟩ => ⟨S_, .i32⟩
  | .hbm, ⟨33, _⟩ => ⟨S208x6656, .i32⟩
  | .hbm, ⟨34, _⟩ => ⟨S208x6656, .i32⟩
  | .hbm, ⟨35, _⟩ => ⟨S_, .i32⟩
  | .hbm, ⟨36, _⟩ => ⟨S208x6656, .i32⟩
  | .hbm, ⟨37, _⟩ => ⟨S208x6656, .i32⟩
  | .hbm, ⟨38, _⟩ => ⟨S208x6656, .bf16⟩
  | .hbm, ⟨39, _⟩ => ⟨S208x6656, .bf16⟩
  | .hbm, ⟨40, _⟩ => ⟨S208x6656, .bf16⟩
  | .hbm, ⟨41, _⟩ => ⟨S208x6656, .bf16⟩
  | .hbm, ⟨42, _⟩ => ⟨S208x6656, .bf16⟩
  | .hbm, ⟨43, _⟩ => ⟨S_, .i32⟩
  | .hbm, ⟨44, _⟩ => ⟨S208x6656, .i32⟩
  | .hbm, ⟨45, _⟩ => ⟨S208x6656, .i32⟩
  | .hbm, ⟨46, _⟩ => ⟨S_, .i32⟩
  | .hbm, ⟨47, _⟩ => ⟨S208x6656, .i32⟩
  | .hbm, ⟨48, _⟩ => ⟨S208x6656, .i32⟩
  | .hbm, ⟨49, _⟩ => ⟨S208x6656, .bf16⟩
  | .hbm, ⟨50, _⟩ => ⟨S208x6656, .bf16⟩
  | .hbm, ⟨51, _⟩ => ⟨S208x6656, .bf16⟩
  | .hbm, ⟨52, _⟩ => ⟨S208x6656, .bf16⟩
  | .hbm, ⟨53, _⟩ => ⟨S208x6656, .bf16⟩
  | .hbm, ⟨54, _⟩ => ⟨S_, .i32⟩
  | .hbm, ⟨55, _⟩ => ⟨S208x6656, .i32⟩
  | .hbm, ⟨56, _⟩ => ⟨S208x6656, .i32⟩
  | .hbm, ⟨57, _⟩ => ⟨S_, .i32⟩
  | .hbm, ⟨58, _⟩ => ⟨S208x6656, .i32⟩
  | .hbm, ⟨59, _⟩ => ⟨S208x6656, .i32⟩
  | .hbm, ⟨60, _⟩ => ⟨S208x6656, .bf16⟩
  | .hbm, ⟨61, _⟩ => ⟨S208x6656, .bf16⟩
  | .hbm, ⟨62, _⟩ => ⟨S208x6656, .bf16⟩
  | .hbm, ⟨63, _⟩ => ⟨S208x6656, .bf16⟩
  | .hbm, ⟨64, _⟩ => ⟨S208x6656, .bf16⟩
  | .hbm, ⟨65, _⟩ => ⟨S_, .i32⟩
  | .hbm, ⟨66, _⟩ => ⟨S208x6656, .i32⟩
  | .hbm, ⟨67, _⟩ => ⟨S208x6656, .i32⟩
  | .hbm, ⟨68, _⟩ => ⟨S_, .i32⟩
  | .hbm, ⟨69, _⟩ => ⟨S208x6656, .i32⟩
  | .hbm, ⟨70, _⟩ => ⟨S208x6656, .i32⟩
  | .hbm, ⟨71, _⟩ => ⟨S208x6656, .bf16⟩
  | .hbm, ⟨72, _⟩ => ⟨S208x6656, .bf16⟩
  | .hbm, ⟨73, _⟩ => ⟨S208x6656, .bf16⟩
  | .hbm, ⟨74, _⟩ => ⟨S208x6656, .bf16⟩
  | .hbm, ⟨75, _⟩ => ⟨S208x6656, .bf16⟩
  | .hbm, ⟨76, _⟩ => ⟨S_, .i32⟩
  | .hbm, ⟨77, _⟩ => ⟨S208x6656, .i32⟩
  | .hbm, ⟨78, _⟩ => ⟨S208x6656, .i32⟩
  | .hbm, ⟨79, _⟩ => ⟨S_, .i32⟩
  | .hbm, ⟨80, _⟩ => ⟨S208x6656, .i32⟩
  | .hbm, ⟨81, _⟩ => ⟨S208x6656, .i32⟩
  | .hbm, ⟨82, _⟩ => ⟨S208x6656, .bf16⟩
  | .hbm, ⟨83, _⟩ => ⟨S208x6656, .bf16⟩
  | .hbm, ⟨84, _⟩ => ⟨S208x6656, .bf16⟩
  | .hbm, ⟨85, _⟩ => ⟨S208x6656, .bf16⟩
  | .hbm, ⟨86, _⟩ => ⟨S208x6656, .bf16⟩
  | .hbm, ⟨87, _⟩ => ⟨S_, .i32⟩
  | .hbm, ⟨88, _⟩ => ⟨S208x6656, .i32⟩
  | .hbm, ⟨89, _⟩ => ⟨S208x6656, .i32⟩
  | .hbm, ⟨90, _⟩ => ⟨S_, .i32⟩
  | .hbm, ⟨91, _⟩ => ⟨S208x6656, .i32⟩
  | .hbm, ⟨92, _⟩ => ⟨S208x6656, .i32⟩
  | .hbm, ⟨93, _⟩ => ⟨S208x6656, .bf16⟩
  | .hbm, ⟨94, _⟩ => ⟨S208x6656, .bf16⟩
  | .hbm, ⟨95, _⟩ => ⟨S208x6656, .bf16⟩
  | .hbm, ⟨96, _⟩ => ⟨S208x6656, .bf16⟩
  | .hbm, ⟨97, _⟩ => ⟨S208x6656, .bf16⟩
  | .hbm, ⟨98, _⟩ => ⟨S1664x6656, .bf16⟩
  | _, _ => ⟨S208x6656, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_7 : Ref sig .tc := ⟨.hbm, 54, rfl⟩
abbrev main_v43 : Ref sig .tc := ⟨.hbm, 55, rfl⟩
abbrev main_v44 : Ref sig .tc := ⟨.hbm, 56, rfl⟩
abbrev main_c_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_9 : Ref sig .tc := ⟨.hbm, 65, rfl⟩
abbrev main_v52 : Ref sig .tc := ⟨.hbm, 66, rfl⟩
abbrev main_v53 : Ref sig .tc := ⟨.hbm, 67, rfl⟩
abbrev main_c_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_11 : Ref sig .tc := ⟨.hbm, 76, rfl⟩
abbrev main_v61 : Ref sig .tc := ⟨.hbm, 77, rfl⟩
abbrev main_v62 : Ref sig .tc := ⟨.hbm, 78, rfl⟩
abbrev main_c_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_13 : Ref sig .tc := ⟨.hbm, 87, rfl⟩
abbrev main_v70 : Ref sig .tc := ⟨.hbm, 88, rfl⟩
abbrev main_v71 : Ref sig .tc := ⟨.hbm, 89, rfl⟩
abbrev main_c_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Proof.Kernel.Names.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! Names: the resource algebra, the arrays and scratch buffers as the body sees them, one chunk's windows of each,
and the tile a chunk's row of stores leaves, as a function of the tile's number. -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev aW : Memref sig .tc .hbm S208x6656 .i32 := Memref.whole main_arg0
abbrev aS : Memref sig .tc .hbm S13x6656 .bf16 := Memref.whole main_arg1
abbrev aZ : Memref sig .tc .hbm S13x6656 .bf16 := Memref.whole main_arg2
abbrev aO : Memref sig .tc .hbm S208x26x16x128 .bf16 := Memref.whole main_v0
abbrev bW : Memref sig .tc .vmem S208x6656 .i32 := Memref.whole cc0_scoped0
abbrev bS : Memref sig .tc .vmem S13x6656 .bf16 := Memref.whole cc0_scoped1
abbrev bZ : Memref sig .tc .vmem S13x6656 .bf16 := Memref.whole cc0_scoped2
abbrev bO : Memref sig .tc .vmem S26x208x16x128 .bf16 := Memref.whole cc0_scoped3

/-- Chunk `k`'s 256 columns of the packed words, of the scales and of the zeros, in VMEM. -/
abbrev wWin (k : Fin k0_t1_loop.trips) : Memref sig .tc .vmem S208x256 .i32 :=
  bW.slice (Rect.unit (s := S208x6656) (k0_off2 k) S208x256.size (k0_off2_inb k)) (fun _ => rfl)
abbrev sWin (k : Fin k0_t1_loop.trips) : Memref sig .tc .vmem S13x256 .bf16 :=
  bS.slice (Rect.unit (s := S13x6656) (k0_off1 k) S13x256.size (k0_off1_inb k)) (fun _ => rfl)
abbrev zWin (k : Fin k0_t1_loop.trips) : Memref sig .tc .vmem S13x256 .bf16 :=
  bZ.slice (Rect.unit (s := S13x6656) (k0_off1 k) S13x256.size (k0_off1_inb k)) (fun _ => rfl)
/-- Chunk `k`'s slab of the output scratch. -/
abbrev oSlot (k : Fin k0_t1_loop.trips) : Memref sig .tc .vmem S208x16x128 .bf16 :=
  (bO.slice (Rect.unit (s := S26x208x16x128) (k0_off3 k) S1x208x16x128.size (k0_off3_inb k)) (fun _ => rfl)).squeeze S208x16x128 squeezes_S1x208x16x128_S208x16x128

theorem inb_row (g : ℕ) : ∀ a, (![g % 13, 0] : Fin 2 → ℕ) a + S1x256.size a ≤ S13x256.size a := by
  have := Nat.mod_lt g (show 0 < 13 by omega)
  intro a; fin_cases a <;> simp <;> omega
theorem inb_words (i : ℕ) : ∀ a, (![8 * (i % 26), 0] : Fin 2 → ℕ) a + S8x256.size a ≤ S208x256.size a := by
  have := Nat.mod_lt i (show 0 < 26 by omega)
  intro a; fin_cases a <;> simp <;> omega

/-- A store through one rectangle of a view leaves what a disjoint rectangle reads. -/
theorem read_slice_keep {sig : RefSig} {κ : Kind} {sp : Space} {s : Shape} {e : EltTy} {Val : EltTy → Type} (v : Memref sig κ sp s e)
    (r r' : Rect s) (f : v.view.ty.Contents Val) (w : r'.shape.Idx → Val e) (h : Disjoint (v.view.slice r).set (v.view.slice r').set) :
    (v.access r).read Val ((v.access r').write Val f w Finset.univ) = (v.access r).read Val f :=
  View.read_slice_write_slice_of_disjoint r r' f w Finset.univ (by rwa [View.setOn_univ])

section Tile
variable {c : Dev nD} (k : Fin k0_t1_loop.trips)
  (fW : Buf (Elt F) ((wWin k).view.loc (c : Thread nD τ))) (fS : Buf (Elt F) ((sWin k).view.loc (c : Thread nD τ)))
  (fZ : Buf (Elt F) ((zWin k).view.loc (c : Thread nD τ)))

/-- Row `g` of the chunk's scales; of its zeros; the `i`-th block of eight rows of its words. -/
def sRow (g : ℕ) : Vec F S1x256 .bf16 :=
  (sWin k).view.readAt (Elt F) (Rect.unit (s := S13x256) ![g % 13, 0] S1x256.size (inb_row g)).toLoadRect fS
def zRow (g : ℕ) : Vec F S1x256 .bf16 :=
  (zWin k).view.readAt (Elt F) (Rect.unit (s := S13x256) ![g % 13, 0] S1x256.size (inb_row g)).toLoadRect fZ
def wRows (i : ℕ) : Vec F S8x256 .i32 :=
  (wWin k).view.readAt (Elt F) (Rect.unit (s := S208x256) ![8 * (i % 26), 0] S8x256.size (inb_words i)).toLoadRect fW

/-- The words that carry nibble `f` of eight rows in their low nibble: a shift of the packed low or high halves. -/
def quads (w : Vec F S8x256 .i32) : ℕ → IVec S8x128 32
  | 0 => k0_pay33 w
  | 1 => shrui (k0_pay33 w) (broadcast S8x128 4#32)
  | 2 => shrui (k0_pay33 w) (broadcast S8x128 8#32)
  | 3 => shrui (k0_pay33 w) (broadcast S8x128 12#32)
  | 4 => k0_pay34 w
  | 5 => shrui (k0_pay34 w) (broadcast S8x128 4#32)
  | 6 => shrui (k0_pay34 w) (broadcast S8x128 8#32)
  | _ => shrui (k0_pay34 w) (broadcast S8x128 12#32)

/-- A tile from its words, its scales and its zeros. -/
def tileOf (s z : FVec F S16x128 .bf16) (q : IVec S8x128 32) : Vec F S1x1x16x128 .bf16 :=
  shapeCast S1x1x16x128
    (shapeCast S1x16x128
      (mulf (subf (subf
        (bitcastToFloat .bf16 (bitcast S16x128 16
          (ori (andi q (broadcast S8x128 983055#32)) (broadcast S8x128 1124090624#32)) bitcasts_S8x128_w32_S16x128_w16))
        (broadcast S16x128 (Scalar.ofBits .bf16 0x4300#16))) z) s)
      shapeCasts_S16x128_S1x16x128)
    shapeCasts_S1x16x128_S1x1x16x128

/-- Tile `t` of the chunk: nibble `t / 26` of the words' block `t % 26`, under the scales and zeros of group `8 t / 128`. -/
def tileAt (t : ℕ) : Vec F S1x1x16x128 .bf16 :=
  tileOf (k0_pay1 (sRow k fS (t * 8 / 128))) (k0_pay1 (zRow k fZ (t * 8 / 128))) (quads (wRows k fW (t % 26)) (t / 26))

/-- The contents `f` of the output scratch hold chunk `k`'s tile `t` for every `t` of the list. -/
def Agree (f : Buf (Elt F) ((oSlot k).view.loc (c : Thread nD τ))) (T : List ℕ) : Prop :=
  ∀ t ∈ T, ∀ inb, (bO.access (Rect.unit (s := S26x208x16x128) ![k.val, t, 0, 0] S1x1x16x128.size inb)).read (Elt F) f
    = tileAt k fW fS fZ t

theorem agree_nil (f : Buf (Elt F) ((oSlot k).view.loc (c : Thread nD τ))) : Agree k fW fS fZ f [] := by
  intro t ht; simp at ht

/-- One store of a tile keeps the tiles stored before and adds its own. -/
theorem agree_step {off : Fin 4 → ℕ} [h : ClosedOff off] {inb}
    {f : Buf (Elt F) ((oSlot k).view.loc (c : Thread nD τ))} {w : Vec F S1x1x16x128 .bf16} {t : ℕ} {T : List ℕ}
    (ho : h.form = ![k.val, t, 0, 0]) (hw : w = tileAt k fW fS fZ t) (hf : Agree k fW fS fZ f T) :
    Agree k fW fS fZ ((bO.access (Rect.unit (s := S26x208x16x128) off S1x1x16x128.size inb)).write (Elt F) f w Finset.univ) (t :: T) := by
  obtain rfl : off = ![k.val, t, 0, 0] := h.eq.trans ho
  intro t' ht' inb'
  by_cases e : t' = t
  · subst e; rw [hw]; exact View.read_write_univ _ _
  · have ht : t' ∈ T := by
      rcases List.mem_cons.1 ht' with h | h
      · exact absurd h e
      · exact h
    have hd : Disjoint (bO.view.slice (Rect.unit (s := S26x208x16x128) ![k.val, t', 0, 0] S1x1x16x128.size inb')).set
        (bO.view.slice (Rect.unit (s := S26x208x16x128) ![k.val, t, 0, 0] S1x1x16x128.size inb)).set :=
      View.disjoint_slice_of_sep bO.view _ _ (1 : Fin 4) rfl rfl (by
        show t' + 1 ≤ t ∨ t + 1 ≤ t'
        omega)
    have h1 := read_slice_keep (Val := Elt F) bO (Rect.unit (s := S26x208x16x128) ![k.val, t', 0, 0] S1x1x16x128.size inb')
      (Rect.unit (s := S26x208x16x128) ![k.val, t, 0, 0] S1x1x16x128.size inb) f w hd
    have h2 := hf t' ht inb'
    exact h1.trans h2

end Tile

/-- Chunk `k`'s three windows in VMEM. -/
abbrev winPre (c : Dev nD) (k : Fin k0_t1_loop.trips)
    (fW : Buf (Elt F) ((wWin k).view.loc (c : Thread nD τ))) (fS : Buf (Elt F) ((sWin k).view.loc (c : Thread nD τ)))
    (fZ : Buf (Elt F) ((zWin k).view.loc (c : Thread nD τ))) : sProp 𝕄 :=
  iprop(((wWin k).view.loc (c : Thread nD τ) ↦[(wWin k).view.set]{fullShare} fW)
    ∗ ((sWin k).view.loc (c : Thread nD τ) ↦[(sWin k).view.set]{fullShare} fS)
    ∗ ((zWin k).view.loc (c : Thread nD τ) ↦[(zWin k).view.set]{fullShare} fZ))

end Cert.Proof.Kernel

end
-- ==== Proof.Kernel.Reads.lean ====
module

public import proofs.«01_k».proof.Proof.Kernel.Names

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! The six column groups of the operands: their windows in HBM and VMEM and their transfers' semaphores. -/

abbrev hW0 : Memref sig .tc .hbm S208x256 .i32 :=
  aW.slice (Rect.unit (s := S208x6656) ![0, 0] S208x256.size inb_S208x6656_S208x256_0_0) (fun _ => rfl)
abbrev vW0 : Memref sig .tc .vmem S208x256 .i32 :=
  bW.slice (Rect.unit (s := S208x6656) ![0, 0] S208x256.size inb_S208x6656_S208x256_0_0) (fun _ => rfl)
abbrev xW0 : DmaSems sig S_ := (cc0_scoped4.slice (Rect.unit (s := S6) ![0] S1.size inb_S6_S1_0)).squeeze S_ squeezes_S1_S_
abbrev hS0 : Memref sig .tc .hbm S13x256 .bf16 :=
  aS.slice (Rect.unit (s := S13x6656) ![0, 0] S13x256.size inb_S13x6656_S13x256_0_0) (fun _ => rfl)
abbrev vS0 : Memref sig .tc .vmem S13x256 .bf16 :=
  bS.slice (Rect.unit (s := S13x6656) ![0, 0] S13x256.size inb_S13x6656_S13x256_0_0) (fun _ => rfl)
abbrev xS0 : DmaSems sig S_ := (cc0_scoped5.slice (Rect.unit (s := S6) ![0] S1.size inb_S6_S1_0)).squeeze S_ squeezes_S1_S_
abbrev hZ0 : Memref sig .tc .hbm S13x256 .bf16 :=
  aZ.slice (Rect.unit (s := S13x6656) ![0, 0] S13x256.size inb_S13x6656_S13x256_0_0) (fun _ => rfl)
abbrev vZ0 : Memref sig .tc .vmem S13x256 .bf16 :=
  bZ.slice (Rect.unit (s := S13x6656) ![0, 0] S13x256.size inb_S13x6656_S13x256_0_0) (fun _ => rfl)
abbrev xZ0 : DmaSems sig S_ := (cc0_scoped6.slice (Rect.unit (s := S6) ![0] S1.size inb_S6_S1_0)).squeeze S_ squeezes_S1_S_
abbrev hW1 : Memref sig .tc .hbm S208x256 .i32 :=
  aW.slice (Rect.unit (s := S208x6656) ![0, 256] S208x256.size inb_S208x6656_S208x256_0_256) (fun _ => rfl)
abbrev vW1 : Memref sig .tc .vmem S208x256 .i32 :=
  bW.slice (Rect.unit (s := S208x6656) ![0, 256] S208x256.size inb_S208x6656_S208x256_0_256) (fun _ => rfl)
abbrev xW1 : DmaSems sig S_ := (cc0_scoped4.slice (Rect.unit (s := S6) ![1] S1.size inb_S6_S1_1)).squeeze S_ squeezes_S1_S_
abbrev hS1 : Memref sig .tc .hbm S13x256 .bf16 :=
  aS.slice (Rect.unit (s := S13x6656) ![0, 256] S13x256.size inb_S13x6656_S13x256_0_256) (fun _ => rfl)
abbrev vS1 : Memref sig .tc .vmem S13x256 .bf16 :=
  bS.slice (Rect.unit (s := S13x6656) ![0, 256] S13x256.size inb_S13x6656_S13x256_0_256) (fun _ => rfl)
abbrev xS1 : DmaSems sig S_ := (cc0_scoped5.slice (Rect.unit (s := S6) ![1] S1.size inb_S6_S1_1)).squeeze S_ squeezes_S1_S_
abbrev hZ1 : Memref sig .tc .hbm S13x256 .bf16 :=
  aZ.slice (Rect.unit (s := S13x6656) ![0, 256] S13x256.size inb_S13x6656_S13x256_0_256) (fun _ => rfl)
abbrev vZ1 : Memref sig .tc .vmem S13x256 .bf16 :=
  bZ.slice (Rect.unit (s := S13x6656) ![0, 256] S13x256.size inb_S13x6656_S13x256_0_256) (fun _ => rfl)
abbrev xZ1 : DmaSems sig S_ := (cc0_scoped6.slice (Rect.unit (s := S6) ![1] S1.size inb_S6_S1_1)).squeeze S_ squeezes_S1_S_
abbrev hW2 : Memref sig .tc .hbm S208x512 .i32 :=
  aW.slice (Rect.unit (s := S208x6656) ![0, 512] S208x512.size inb_S208x6656_S208x512_0_512) (fun _ => rfl)
abbrev vW2 : Memref sig .tc .vmem S208x512 .i32 :=
  bW.slice (Rect.unit (s := S208x6656) ![0, 512] S208x512.size inb_S208x6656_S208x512_0_512) (fun _ => rfl)
abbrev xW2 : DmaSems sig S_ := (cc0_scoped4.slice (Rect.unit (s := S6) ![2] S1.size inb_S6_S1_2)).squeeze S_ squeezes_S1_S_
abbrev hS2 : Memref sig .tc .hbm S13x512 .bf16 :=
  aS.slice (Rect.unit (s := S13x6656) ![0, 512] S13x512.size inb_S13x6656_S13x512_0_512) (fun _ => rfl)
abbrev vS2 : Memref sig .tc .vmem S13x512 .bf16 :=
  bS.slice (Rect.unit (s := S13x6656) ![0, 512] S13x512.size inb_S13x6656_S13x512_0_512) (fun _ => rfl)
abbrev xS2 : DmaSems sig S_ := (cc0_scoped5.slice (Rect.unit (s := S6) ![2] S1.size inb_S6_S1_2)).squeeze S_ squeezes_S1_S_
abbrev hZ2 : Memref sig .tc .hbm S13x512 .bf16 :=
  aZ.slice (Rect.unit (s := S13x6656) ![0, 512] S13x512.size inb_S13x6656_S13x512_0_512) (fun _ => rfl)
abbrev vZ2 : Memref sig .tc .vmem S13x512 .bf16 :=
  bZ.slice (Rect.unit (s := S13x6656) ![0, 512] S13x512.size inb_S13x6656_S13x512_0_512) (fun _ => rfl)
abbrev xZ2 : DmaSems sig S_ := (cc0_scoped6.slice (Rect.unit (s := S6) ![2] S1.size inb_S6_S1_2)).squeeze S_ squeezes_S1_S_
abbrev hW3 : Memref sig .tc .hbm S208x1024 .i32 :=
  aW.slice (Rect.unit (s := S208x6656) ![0, 1024] S208x1024.size inb_S208x6656_S208x1024_0_1024) (fun _ => rfl)
abbrev vW3 : Memref sig .tc .vmem S208x1024 .i32 :=
  bW.slice (Rect.unit (s := S208x6656) ![0, 1024] S208x1024.size inb_S208x6656_S208x1024_0_1024) (fun _ => rfl)
abbrev xW3 : DmaSems sig S_ := (cc0_scoped4.slice (Rect.unit (s := S6) ![3] S1.size inb_S6_S1_3)).squeeze S_ squeezes_S1_S_
abbrev hS3 : Memref sig .tc .hbm S13x1024 .bf16 :=
  aS.slice (Rect.unit (s := S13x6656) ![0, 1024] S13x1024.size inb_S13x6656_S13x1024_0_1024) (fun _ => rfl)
abbrev vS3 : Memref sig .tc .vmem S13x1024 .bf16 :=
  bS.slice (Rect.unit (s := S13x6656) ![0, 1024] S13x1024.size inb_S13x6656_S13x1024_0_1024) (fun _ => rfl)
abbrev xS3 : DmaSems sig S_ := (cc0_scoped5.slice (Rect.unit (s := S6) ![3] S1.size inb_S6_S1_3)).squeeze S_ squeezes_S1_S_
abbrev hZ3 : Memref sig .tc .hbm S13x1024 .bf16 :=
  aZ.slice (Rect.unit (s := S13x6656) ![0, 1024] S13x1024.size inb_S13x6656_S13x1024_0_1024) (fun _ => rfl)
abbrev vZ3 : Memref sig .tc .vmem S13x1024 .bf16 :=
  bZ.slice (Rect.unit (s := S13x6656) ![0, 1024] S13x1024.size inb_S13x6656_S13x1024_0_1024) (fun _ => rfl)
abbrev xZ3 : DmaSems sig S_ := (cc0_scoped6.slice (Rect.unit (s := S6) ![3] S1.size inb_S6_S1_3)).squeeze S_ squeezes_S1_S_
abbrev hW4 : Memref sig .tc .hbm S208x2048 .i32 :=
  aW.slice (Rect.unit (s := S208x6656) ![0, 2048] S208x2048.size inb_S208x6656_S208x2048_0_2048) (fun _ => rfl)
abbrev vW4 : Memref sig .tc .vmem S208x2048 .i32 :=
  bW.slice (Rect.unit (s := S208x6656) ![0, 2048] S208x2048.size inb_S208x6656_S208x2048_0_2048) (fun _ => rfl)
abbrev xW4 : DmaSems sig S_ := (cc0_scoped4.slice (Rect.unit (s := S6) ![4] S1.size inb_S6_S1_4)).squeeze S_ squeezes_S1_S_
abbrev hS4 : Memref sig .tc .hbm S13x2048 .bf16 :=
  aS.slice (Rect.unit (s := S13x6656) ![0, 2048] S13x2048.size inb_S13x6656_S13x2048_0_2048) (fun _ => rfl)
abbrev vS4 : Memref sig .tc .vmem S13x2048 .bf16 :=
  bS.slice (Rect.unit (s := S13x6656) ![0, 2048] S13x2048.size inb_S13x6656_S13x2048_0_2048) (fun _ => rfl)
abbrev xS4 : DmaSems sig S_ := (cc0_scoped5.slice (Rect.unit (s := S6) ![4] S1.size inb_S6_S1_4)).squeeze S_ squeezes_S1_S_
abbrev hZ4 : Memref sig .tc .hbm S13x2048 .bf16 :=
  aZ.slice (Rect.unit (s := S13x6656) ![0, 2048] S13x2048.size inb_S13x6656_S13x2048_0_2048) (fun _ => rfl)
abbrev vZ4 : Memref sig .tc .vmem S13x2048 .bf16 :=
  bZ.slice (Rect.unit (s := S13x6656) ![0, 2048] S13x2048.size inb_S13x6656_S13x2048_0_2048) (fun _ => rfl)
abbrev xZ4 : DmaSems sig S_ := (cc0_scoped6.slice (Rect.unit (s := S6) ![4] S1.size inb_S6_S1_4)).squeeze S_ squeezes_S1_S_
abbrev hW5 : Memref sig .tc .hbm S208x2560 .i32 :=
  aW.slice (Rect.unit (s := S208x6656) ![0, 4096] S208x2560.size inb_S208x6656_S208x2560_0_4096) (fun _ => rfl)
abbrev vW5 : Memref sig .tc .vmem S208x2560 .i32 :=
  bW.slice (Rect.unit (s := S208x6656) ![0, 4096] S208x2560.size inb_S208x6656_S208x2560_0_4096) (fun _ => rfl)
abbrev xW5 : DmaSems sig S_ := (cc0_scoped4.slice (Rect.unit (s := S6) ![5] S1.size inb_S6_S1_5)).squeeze S_ squeezes_S1_S_
abbrev hS5 : Memref sig .tc .hbm S13x2560 .bf16 :=
  aS.slice (Rect.unit (s := S13x6656) ![0, 4096] S13x2560.size inb_S13x6656_S13x2560_0_4096) (fun _ => rfl)
abbrev vS5 : Memref sig .tc .vmem S13x2560 .bf16 :=
  bS.slice (Rect.unit (s := S13x6656) ![0, 4096] S13x2560.size inb_S13x6656_S13x2560_0_4096) (fun _ => rfl)
abbrev xS5 : DmaSems sig S_ := (cc0_scoped5.slice (Rect.unit (s := S6) ![5] S1.size inb_S6_S1_5)).squeeze S_ squeezes_S1_S_
abbrev hZ5 : Memref sig .tc .hbm S13x2560 .bf16 :=
  aZ.slice (Rect.unit (s := S13x6656) ![0, 4096] S13x2560.size inb_S13x6656_S13x2560_0_4096) (fun _ => rfl)
abbrev vZ5 : Memref sig .tc .vmem S13x2560 .bf16 :=
  bZ.slice (Rect.unit (s := S13x6656) ![0, 4096] S13x2560.size inb_S13x6656_S13x2560_0_4096) (fun _ => rfl)
abbrev xZ5 : DmaSems sig S_ := (cc0_scoped6.slice (Rect.unit (s := S6) ![5] S1.size inb_S6_S1_5)).squeeze S_ squeezes_S1_S_

section Cols

/-- The columns of a 6656-column array left of column `m`. -/
def colsLt (R m : ℕ) : Finset (⟨2, ![R, 6656]⟩ : Shape).Idx := Finset.univ.filter fun y => (y 1).val < m

theorem mem_colsLt (R m : ℕ) (y : (⟨2, ![R, 6656]⟩ : Shape).Idx) : y ∈ colsLt R m ↔ (y 1).val < m := by
  simp [colsLt]
theorem colsLt_zero (R : ℕ) : colsLt R 0 = ∅ := by
  ext y; simp [mem_colsLt]
/-- Which elements a full-height window of `w` columns from column `a` on has. -/
theorem mem_win (R a w : ℕ) (inb : ∀ i, (![0, a] : Fin 2 → ℕ) i + (![R, w] : Fin 2 → ℕ) i ≤ (⟨2, ![R, 6656]⟩ : Shape).size i)
    (y : (⟨2, ![R, 6656]⟩ : Shape).Idx) :
    y ∈ (Rect.unit (s := (⟨2, ![R, 6656]⟩ : Shape)) ![0, a] ![R, w] inb).set ↔ a ≤ (y 1).val ∧ (y 1).val < a + w := by
  rw [Rect.mem_set_unit]
  have h0 : (y 0).val < R := (y 0).isLt
  constructor
  · intro H; exact H 1
  · intro H i; fin_cases i
    · show 0 ≤ (y 0).val ∧ (y 0).val < 0 + R; omega
    · exact H
theorem cols_union (R a w : ℕ) (inb) :
    colsLt R a ∪ (Rect.unit (s := (⟨2, ![R, 6656]⟩ : Shape)) ![0, a] ![R, w] inb).set = colsLt R (a + w) := by
  ext y; rw [Finset.mem_union, mem_colsLt, mem_win, mem_colsLt]; omega
theorem cols_disjoint (R a w : ℕ) (inb) :
    Disjoint (colsLt R a) (Rect.unit (s := (⟨2, ![R, 6656]⟩ : Shape)) ![0, a] ![R, w] inb).set := by
  rw [Finset.disjoint_left]; intro y h1 h2; rw [mem_colsLt] at h1; rw [mem_win] at h2; omega
theorem win_subset (R a w m : ℕ) (inb) (h : a + w ≤ m) :
    (Rect.unit (s := (⟨2, ![R, 6656]⟩ : Shape)) ![0, a] ![R, w] inb).set ⊆ colsLt R m := by
  intro y hy; rw [mem_win] at hy; rw [mem_colsLt]; omega
theorem cols_all (R : ℕ) : colsLt R 6656 = Finset.univ := by
  ext y
  have h1 : (y 1).val < 6656 := (y 1).isLt
  simp [mem_colsLt, h1]

end Cols

section
variable (c : Dev nD)

/-- A window held whole at contents `f`; a semaphore cell at zero. -/
abbrev ownP {sp : Space} {s : Shape} {e : EltTy} (m : Memref sig .tc sp s e) (f : Buf (Elt F) (m.view.loc (c : Thread nD τ))) : sProp 𝕄 :=
  m.view.loc (c : Thread nD τ) ↦[m.view.set]{fullShare} f
abbrev zeroP (x : DmaSems sig S_) : sProp 𝕄 := semVal ((c : Thread nD τ), SemLoc.dma x.sem) 0
/-- A transfer in flight on the cell `x`, delivering `D`. -/
abbrev flyP (x : DmaSems sig S_) (N : ℕ) (D : sProp 𝕄) : sProp 𝕄 :=
  Transfers.Flight countersEmb (c : Thread nD τ) (SemLoc.dma x.sem) () N D

variable (XW : Buf (Elt F) (aW.view.loc (c : Thread nD τ))) (XS : Buf (Elt F) (aS.view.loc (c : Thread nD τ)))
  (XZ : Buf (Elt F) (aZ.view.loc (c : Thread nD τ)))

/-- What a transfer of a window of an operand leaves in the same window of its VMEM copy is the operand's contents. -/
theorem landW (r : Rect S208x6656) (h) (f) :
    ownP c (bW.slice r h) ((bW.slice r h).view.writes (Elt F) f [⟨Rect.whole r.shape, ReadAs.same.apply ((aW.slice r h).view.read (Elt F) XW)⟩])
      = ownP (F := F) c (bW.slice r h) XW := by
  refine pointsTo_congr fun i hi => ?_
  obtain ⟨x, -, rfl⟩ := Finset.mem_map.1 hi
  exact congrFun (View.read_writes_whole (bW.slice r h).view f ((aW.slice r h).view.read (Elt F) XW)) x
theorem landS (r : Rect S13x6656) (h) (f) :
    ownP c (bS.slice r h) ((bS.slice r h).view.writes (Elt F) f [⟨Rect.whole r.shape, ReadAs.same.apply ((aS.slice r h).view.read (Elt F) XS)⟩])
      = ownP (F := F) c (bS.slice r h) XS := by
  refine pointsTo_congr fun i hi => ?_
  obtain ⟨x, -, rfl⟩ := Finset.mem_map.1 hi
  exact congrFun (View.read_writes_whole (bS.slice r h).view f ((aS.slice r h).view.read (Elt F) XS)) x
theorem landZ (r : Rect S13x6656) (h) (f) :
    ownP c (bZ.slice r h) ((bZ.slice r h).view.writes (Elt F) f [⟨Rect.whole r.shape, ReadAs.same.apply ((aZ.slice r h).view.read (Elt F) XZ)⟩])
      = ownP (F := F) c (bZ.slice r h) XZ := by
  refine pointsTo_congr fun i hi => ?_
  obtain ⟨x, -, rfl⟩ := Finset.mem_map.1 hi
  exact congrFun (View.read_writes_whole (bZ.slice r h).view f ((aZ.slice r h).view.read (Elt F) XZ)) x

/-- The VMEM copies' columns left of column `m`, at the operands' contents. -/
abbrev haveP (m : ℕ) : sProp 𝕄 :=
  iprop((bW.view.loc (c : Thread nD τ) ↦[colsLt 208 m]{fullShare} XW)
    ∗ (bS.view.loc (c : Thread nD τ) ↦[colsLt 13 m]{fullShare} XS)
    ∗ (bZ.view.loc (c : Thread nD τ) ↦[colsLt 13 m]{fullShare} XZ))

/-- A landed group of columns extends them. -/
theorem have_step (a w : ℕ) (iw is) (hw hs hz) :
    iprop(haveP c XW XS XZ a ∗ ownP c (bS.slice (Rect.unit (s := S13x6656) ![0, a] ![13, w] is) hs) XS
        ∗ ownP c (bZ.slice (Rect.unit (s := S13x6656) ![0, a] ![13, w] is) hz) XZ
        ∗ ownP c (bW.slice (Rect.unit (s := S208x6656) ![0, a] ![208, w] iw) hw) XW)
      ⊢ (haveP c XW XS XZ (a + w) : sProp 𝕄) := by
  unfold haveP
  rw [← cols_union 208 a w iw, ← cols_union 13 a w is]
  have eW : (bW.slice (Rect.unit (s := S208x6656) ![0, a] ![208, w] iw) hw).view.set = (Rect.unit (s := S208x6656) ![0, a] ![208, w] iw).set :=
    View.set_slice_whole _ _
  have eS : (bS.slice (Rect.unit (s := S13x6656) ![0, a] ![13, w] is) hs).view.set = (Rect.unit (s := S13x6656) ![0, a] ![13, w] is).set :=
    View.set_slice_whole _ _
  have eZ : (bZ.slice (Rect.unit (s := S13x6656) ![0, a] ![13, w] is) hz).view.set = (Rect.unit (s := S13x6656) ![0, a] ![13, w] is).set :=
    View.set_slice_whole _ _
  unfold ownP
  rw [eW, eS, eZ]
  iintro ⟨⟨A, B, C⟩, S, Z, W⟩
  isplitl [A W]
  · iapply (pointsTo_union (cols_disjoint 208 a w iw)).2
    isplitl [A]; · iexact A
    iexact W
  isplitl [B S]
  · iapply (pointsTo_union (cols_disjoint 13 a w is)).2
    isplitl [B]; · iexact B
    iexact S
  · iapply (pointsTo_union (cols_disjoint 13 a w is)).2
    isplitl [C]; · iexact C
    iexact Z

/-- Chunk `k`'s windows can be taken out of them and put back. -/
theorem have_chunk (k : Fin k0_t1_loop.trips) (m : ℕ) (h : 256 * k.val + 256 ≤ m) :
    haveP c XW XS XZ m ⊢ (iprop(winPre c k XW XS XZ ∗ (winPre c k XW XS XZ -∗ haveP c XW XS XZ m)) : sProp 𝕄) := by
  have eW : (wWin k).view.set ⊆ colsLt 208 m := by
    rw [show (wWin k).view.set = (Rect.unit (s := S208x6656) (k0_off2 k) S208x256.size (k0_off2_inb k)).set from View.set_slice_whole _ _]
    intro y hy
    have := Rect.mem_set_unit.1 hy 1
    rw [(closedOff_k0_off2 k).eq] at this
    rw [mem_colsLt]
    have h2 : (y 1).val < 256 * k.val + 256 := this.2
    omega
  have eS : (sWin k).view.set ⊆ colsLt 13 m := by
    rw [show (sWin k).view.set = (Rect.unit (s := S13x6656) (k0_off1 k) S13x256.size (k0_off1_inb k)).set from View.set_slice_whole _ _]
    intro y hy
    have := Rect.mem_set_unit.1 hy 1
    rw [(closedOff_k0_off1 k).eq] at this
    rw [mem_colsLt]
    have h2 : (y 1).val < 256 * k.val + 256 := this.2
    omega
  have eZ : (zWin k).view.set ⊆ colsLt 13 m := eS
  iintro ⟨A, B, C⟩
  ihave A := (pointsTo_split_subset eW).1 $$ A
  icases A with ⟨A1, A2⟩
  ihave B := (pointsTo_split_subset eS).1 $$ B
  icases B with ⟨B1, B2⟩
  ihave C := (pointsTo_split_subset eZ).1 $$ C
  icases C with ⟨C1, C2⟩
  isplitl [A1 B1 C1]
  · isplitl [A1]; · iexact A1
    isplitl [B1]; · iexact B1
    iexact C1
  iintro ⟨A1, B1, C1⟩
  isplitl [A1 A2]
  · iapply (pointsTo_split_subset eW).2
    isplitl [A1]; · iexact A1
    iexact A2
  isplitl [B1 B2]
  · iapply (pointsTo_split_subset eS).2
    isplitl [B1]; · iexact B1
    iexact B2
  · iapply (pointsTo_split_subset eZ).2
    isplitl [C1]; · iexact C1
    iexact C2

/-- The same beside anything else. -/
theorem have_chunk_beside (k : Fin k0_t1_loop.trips) (m : ℕ) (h : 256 * k.val + 256 ≤ m) (R : sProp 𝕄) :
    iprop(haveP c XW XS XZ m ∗ R) ⊢ iprop(winPre c k XW XS XZ ∗ (winPre c k XW XS XZ -∗ iprop(haveP c XW XS XZ m ∗ R))) := by
  iintro ⟨H, HR⟩
  ihave H := (have_chunk c XW XS XZ k m h) $$ H
  icases H with ⟨H1, H2⟩
  isplitl [H1]; · iexact H1
  iintro H1
  isplitl [H1 H2]
  · iapply H2; iexact H1
  iexact HR

/-! Group `j` in flight (three transfers), and group `j` read (its cells at zero, its windows of the operands back). -/

abbrev flyG0 : sProp 𝕄 :=
  iprop(flyP c xS0 208 iprop(ownP c vS0 XS ∗ ownP c hS0 XS) ∗ flyP c xZ0 208 iprop(ownP c vZ0 XZ ∗ ownP c hZ0 XZ)
    ∗ flyP c xW0 6656 iprop(ownP c vW0 XW ∗ ownP c hW0 XW))
abbrev homeG0 : sProp 𝕄 :=
  iprop(zeroP c xS0 ∗ zeroP c xZ0 ∗ zeroP c xW0 ∗ ownP c hS0 XS ∗ ownP c hZ0 XZ ∗ ownP c hW0 XW)
abbrev flyG1 : sProp 𝕄 :=
  iprop(flyP c xS1 208 iprop(ownP c vS1 XS ∗ ownP c hS1 XS) ∗ flyP c xZ1 208 iprop(ownP c vZ1 XZ ∗ ownP c hZ1 XZ)
    ∗ flyP c xW1 6656 iprop(ownP c vW1 XW ∗ ownP c hW1 XW))
abbrev homeG1 : sProp 𝕄 :=
  iprop(zeroP c xS1 ∗ zeroP c xZ1 ∗ zeroP c xW1 ∗ ownP c hS1 XS ∗ ownP c hZ1 XZ ∗ ownP c hW1 XW)
abbrev flyG2 : sProp 𝕄 :=
  iprop(flyP c xS2 416 iprop(ownP c vS2 XS ∗ ownP c hS2 XS) ∗ flyP c xZ2 416 iprop(ownP c vZ2 XZ ∗ ownP c hZ2 XZ)
    ∗ flyP c xW2 13312 iprop(ownP c vW2 XW ∗ ownP c hW2 XW))
abbrev homeG2 : sProp 𝕄 :=
  iprop(zeroP c xS2 ∗ zeroP c xZ2 ∗ zeroP c xW2 ∗ ownP c hS2 XS ∗ ownP c hZ2 XZ ∗ ownP c hW2 XW)
abbrev flyG3 : sProp 𝕄 :=
  iprop(flyP c xS3 832 iprop(ownP c vS3 XS ∗ ownP c hS3 XS) ∗ flyP c xZ3 832 iprop(ownP c vZ3 XZ ∗ ownP c hZ3 XZ)
    ∗ flyP c xW3 26624 iprop(ownP c vW3 XW ∗ ownP c hW3 XW))
abbrev homeG3 : sProp 𝕄 :=
  iprop(zeroP c xS3 ∗ zeroP c xZ3 ∗ zeroP c xW3 ∗ ownP c hS3 XS ∗ ownP c hZ3 XZ ∗ ownP c hW3 XW)
abbrev flyG4 : sProp 𝕄 :=
  iprop(flyP c xS4 1664 iprop(ownP c vS4 XS ∗ ownP c hS4 XS) ∗ flyP c xZ4 1664 iprop(ownP c vZ4 XZ ∗ ownP c hZ4 XZ)
    ∗ flyP c xW4 53248 iprop(ownP c vW4 XW ∗ ownP c hW4 XW))
abbrev homeG4 : sProp 𝕄 :=
  iprop(zeroP c xS4 ∗ zeroP c xZ4 ∗ zeroP c xW4 ∗ ownP c hS4 XS ∗ ownP c hZ4 XZ ∗ ownP c hW4 XW)
abbrev flyG5 : sProp 𝕄 :=
  iprop(flyP c xS5 2080 iprop(ownP c vS5 XS ∗ ownP c hS5 XS) ∗ flyP c xZ5 2080 iprop(ownP c vZ5 XZ ∗ ownP c hZ5 XZ)
    ∗ flyP c xW5 66560 iprop(ownP c vW5 XW ∗ ownP c hW5 XW))
abbrev homeG5 : sProp 𝕄 :=
  iprop(zeroP c xS5 ∗ zeroP c xZ5 ∗ zeroP c xW5 ∗ ownP c hS5 XS ∗ ownP c hZ5 XZ ∗ ownP c hW5 XW)

/-- Group `j`'s first chunk. -/
def gStart (j : ℕ) : ℕ := match j with | 0 => 0 | 1 => 1 | 2 => 2 | 3 => 4 | 4 => 8 | _ => 16
/-- Group `j`'s number of columns. -/
def gCols (j : ℕ) : ℕ := match j with | 0 => 256 | 1 => 256 | 2 => 512 | 3 => 1024 | 4 => 2048 | _ => 2560
/-- Group `j` in flight; group `j` read. -/
def flyG (j : ℕ) : sProp 𝕄 :=
  match j with
  | 0 => flyG0 c XW XS XZ | 1 => flyG1 c XW XS XZ | 2 => flyG2 c XW XS XZ | 3 => flyG3 c XW XS XZ | 4 => flyG4 c XW XS XZ | _ => flyG5 c XW XS XZ
def homeG (j : ℕ) : sProp 𝕄 :=
  match j with
  | 0 => homeG0 c XW XS XZ | 1 => homeG1 c XW XS XZ | 2 => homeG2 c XW XS XZ | 3 => homeG3 c XW XS XZ | 4 => homeG4 c XW XS XZ | _ => homeG5 c XW XS XZ
/-- Group `j` before trip `n`: in flight until the trip of its first chunk has waited for it. -/
def grp (n j : ℕ) : sProp 𝕄 := if n ≤ gStart j then flyG c XW XS XZ j else homeG c XW XS XZ j

/-- How many columns have been waited for before trip `n`. -/
def colsAt (n : ℕ) : ℕ :=
  if n ≤ 0 then 0 else if n ≤ 1 then 256 else if n ≤ 2 then 512 else if n ≤ 4 then 1024 else if n ≤ 8 then 2048 else if n ≤ 16 then 4096 else 6656

/-- The read side before trip `n`: the columns read so far, the core's waits, and the six groups. -/
def Rd (n : ℕ) : sProp 𝕄 :=
  iprop(haveP c XW XS XZ (colsAt n) ∗ (∃ W, owes (c : Thread nD τ) 0 W) ∗ bigSep (Finset.range 6) (grp c XW XS XZ n))

/-- Before the trip that waits for group `j`: that group apart. -/
theorem Rd_here (j : ℕ) (hj : j ∈ Finset.range 6) :
    Rd c XW XS XZ (gStart j) = iprop(haveP c XW XS XZ (gStart j * 256) ∗ (∃ W, owes (c : Thread nD τ) 0 W) ∗ flyG c XW XS XZ j
      ∗ bigSep ((Finset.range 6).erase j) (grp c XW XS XZ (gStart j))) := by
  have e : colsAt (gStart j) = gStart j * 256 := by
    rw [Finset.mem_range] at hj
    obtain rfl | rfl | rfl | rfl | rfl | rfl : j = 0 ∨ j = 1 ∨ j = 2 ∨ j = 3 ∨ j = 4 ∨ j = 5 := by omega
    all_goals rfl
  unfold Rd
  rw [e]
  conv_lhs => rw [← Finset.insert_erase hj, bigSep_insert (Finset.notMem_erase _ _)]
  rw [show grp c XW XS XZ (gStart j) j = flyG c XW XS XZ j from if_pos (le_refl _)]
  rfl
/-- After it: that group read, its columns there, the others as they were. -/
theorem Rd_next (j : ℕ) (hj : j ∈ Finset.range 6) :
    Rd c XW XS XZ (gStart j + 1) = iprop(haveP c XW XS XZ (gStart j * 256 + gCols j) ∗ (∃ W, owes (c : Thread nD τ) 0 W) ∗ homeG c XW XS XZ j
      ∗ bigSep ((Finset.range 6).erase j) (grp c XW XS XZ (gStart j))) := by
  have e : colsAt (gStart j + 1) = gStart j * 256 + gCols j := by
    rw [Finset.mem_range] at hj
    obtain rfl | rfl | rfl | rfl | rfl | rfl : j = 0 ∨ j = 1 ∨ j = 2 ∨ j = 3 ∨ j = 4 ∨ j = 5 := by omega
    all_goals rfl
  have e2 : bigSep ((Finset.range 6).erase j) (grp c XW XS XZ (gStart j + 1)) = bigSep ((Finset.range 6).erase j) (grp c XW XS XZ (gStart j)) := by
    refine bigSep_congr fun i hi => ?_
    have hp : (gStart j + 1 ≤ gStart i) = (gStart j ≤ gStart i) := by
      rw [Finset.mem_erase, Finset.mem_range] at hi
      obtain ⟨h1, h2⟩ := hi
      rw [Finset.mem_range] at hj
      refine propext ?_
      obtain rfl | rfl | rfl | rfl | rfl | rfl : j = 0 ∨ j = 1 ∨ j = 2 ∨ j = 3 ∨ j = 4 ∨ j = 5 := by omega
      all_goals
        obtain rfl | rfl | rfl | rfl | rfl | rfl : i = 0 ∨ i = 1 ∨ i = 2 ∨ i = 3 ∨ i = 4 ∨ i = 5 := by omega
        all_goals first | exact absurd rfl h1 | simp [gStart]
    simp only [grp, hp]
  unfold Rd
  rw [e]
  conv_lhs => rw [← Finset.insert_erase hj, bigSep_insert (Finset.notMem_erase _ _)]
  rw [show grp c XW XS XZ (gStart j + 1) j = homeG c XW XS XZ j from if_neg (by omega)]
  rw [e2]
  rfl
/-- A trip that waits for no group leaves the read side as it is. -/
theorem Rd_stay (n : ℕ) (h : n ≠ 0 ∧ n ≠ 1 ∧ n ≠ 2 ∧ n ≠ 4 ∧ n ≠ 8 ∧ n ≠ 16) : Rd c XW XS XZ (n + 1) = Rd c XW XS XZ n := by
  have e0 : (n + 1 ≤ 0) = (n ≤ 0) := propext (by omega)
  have e1 : (n + 1 ≤ 1) = (n ≤ 1) := propext (by omega)
  have e2 : (n + 1 ≤ 2) = (n ≤ 2) := propext (by omega)
  have e4 : (n + 1 ≤ 4) = (n ≤ 4) := propext (by omega)
  have e8 : (n + 1 ≤ 8) = (n ≤ 8) := propext (by omega)
  have e16 : (n + 1 ≤ 16) = (n ≤ 16) := propext (by omega)
  have eg : bigSep (Finset.range 6) (grp c XW XS XZ (n + 1)) = bigSep (Finset.range 6) (grp c XW XS XZ n) := by
    refine bigSep_congr fun i hi => ?_
    rw [Finset.mem_range] at hi
    have hp : (n + 1 ≤ gStart i) = (n ≤ gStart i) := by
      obtain rfl | rfl | rfl | rfl | rfl | rfl : i = 0 ∨ i = 1 ∨ i = 2 ∨ i = 3 ∨ i = 4 ∨ i = 5 := by omega
      all_goals simp only [gStart, e0, e1, e2, e4, e8, e16]
    simp only [grp, hp]
  unfold Rd
  rw [eg]
  simp only [colsAt, e0, e1, e2, e4, e8, e16]

end

section
variable (c : Dev nD)
variable (XW : Buf (Elt F) (aW.view.loc (c : Thread nD τ))) (XS : Buf (Elt F) (aS.view.loc (c : Thread nD τ)))
  (XZ : Buf (Elt F) (aZ.view.loc (c : Thread nD τ)))

/-- Trip `k` waits for the group whose first chunk is `j`. -/
abbrev waits (k : ℕ) (j : BitVec 32) : Prop :=
  Scalar.cmpi .ne (Scalar.extui (Scalar.cmpi .eq (Scalar.addi 0#32 (Scalar.muli (Scf.iv 0#32 1#32 k) 1#32)) j) : BitVec 32) 0#32 = 1#1

theorem no_wait : ∀ k : Fin k0_t1_loop.trips, k.val ≠ 0 ∧ k.val ≠ 1 ∧ k.val ≠ 2 ∧ k.val ≠ 4 ∧ k.val ≠ 8 ∧ k.val ≠ 16 →
    ¬ waits k.val 0#32 ∧ ¬ waits k.val 1#32 ∧ ¬ waits k.val 2#32 ∧ ¬ waits k.val 4#32 ∧ ¬ waits k.val 8#32 ∧ ¬ waits k.val 16#32 := by
  decide +kernel

/-- The head of trip `k`: the wait for the group that begins with chunk `k`, if one does, then two rows of scales;
afterwards chunk `k`'s windows can be taken and put back. -/
theorem part1_run (k : Fin k0_t1_loop.trips) :
    Rd c XW XS XZ k.val ⊢ wp frame (wpE (defs₀ (F := F)) 𝒱₀ (c : Thread nD τ) none) Set.univ
      (k0_part1 aW (Memref.isWhole_whole _) aS (Memref.isWhole_whole _) aZ (Memref.isWhole_whole _) aO (Memref.isWhole_whole _)
        bW (Memref.isWhole_whole _) bS (Memref.isWhole_whole _) bZ (Memref.isWhole_whole _) bO (Memref.isWhole_whole _)
        cc0_scoped4 cc0_scoped5 cc0_scoped6 cc0_scoped7 0#32 1#32 k)
      (fun r => iprop(⌜r.2.1 = k0_pay1 (sRow (c := c) k XS 0)⌝ ∗ ⌜r.2.2 = k0_pay2 (sRow (c := c) k XS 1)⌝ ∗ winPre c k XW XS XZ
        ∗ (winPre c k XW XS XZ -∗ Rd c XW XS XZ (k.val + 1)))) := by
  by_cases hh : k.val ≠ 0 ∧ k.val ≠ 1 ∧ k.val ≠ 2 ∧ k.val ≠ 4 ∧ k.val ≠ 8 ∧ k.val ≠ 16
  · have hlt : k.val < 26 := k.isLt
    obtain ⟨w0, w1, w2, w4, w8, w16⟩ := no_wait k hh
    dsimp only [waits] at w0 w1 w2 w4 w8 w16
    have hm : 256 * k.val + 256 ≤ colsAt k.val := by
      unfold colsAt; split_ifs <;> omega
    rw [Rd_stay c XW XS XZ k.val hh]
    refine (have_chunk_beside c XW XS XZ k _ hm _).trans ?_
    iintro ⟨⟨HW, HS, HZ⟩, HB⟩
    sl_unfold [k0_part1]
    sl_exec
    sl_step
    isplitr; · ipureintro; rfl
    isplitr; · ipureintro; rfl
    isplitl [HW HS HZ]
    · isplitl [HW]; · iexact HW
      isplitl [HS]; · iexact HS
      iexact HZ
    iexact HB
  · obtain ⟨j, hj, hk⟩ : ∃ j ∈ Finset.range 6, k.val = gStart j := by
      by_contra hne
      refine hh ⟨fun e => hne ⟨0, by decide, e⟩, fun e => hne ⟨1, by decide, e⟩, fun e => hne ⟨2, by decide, e⟩,
        fun e => hne ⟨3, by decide, e⟩, fun e => hne ⟨4, by decide, e⟩, fun e => hne ⟨5, by decide, e⟩⟩
    rw [hk, Rd_here c XW XS XZ j hj, Rd_next c XW XS XZ j hj]
    rw [Finset.mem_range] at hj
    obtain rfl | rfl | rfl | rfl | rfl | rfl : j = 0 ∨ j = 1 ∨ j = 2 ∨ j = 3 ∨ j = 4 ∨ j = 5 := by omega
    all_goals
      obtain rfl := (Fin.ext hk : k = ⟨_, by decide⟩)
      simp only [gStart, gCols, flyG, homeG]
      iintro ⟨HV, ⟨%W0, HO⟩, ⟨HFs, HFz, HFw⟩, HR⟩
      sl_unfold [k0_part1]
      sl_exec
      sl_step
      isplitr; · ipureintro; rfl
      isplitr; · ipureintro; rfl
      iapply (have_chunk_beside c XW XS XZ _ _ (by decide))
      isplitl [HV HFs_dst HFz_dst HFw_dst]
      · iapply (have_step c XW XS XZ _ _)
        isplitl [HV]; · iexact HV
        isplitl [HFs_dst]; · iexact HFs_dst
        isplitl [HFz_dst]; · iexact HFz_dst
        iexact HFw_dst
      isplitl [HO]; · iexists _; iexact HO
      isplitr [HR]
      · isplitl [HFs]; · iexact HFs
        isplitl [HFz]; · iexact HFz
        isplitl [HFw]; · iexact HFw
        isplitl [HFs_src]; · iexact HFs_src
        isplitl [HFz_src]; · iexact HFz_src
        iexact HFw_src
      iexact HR
end
end Cert.Proof.Kernel
-- ==== Proof.Kernel.Writes.lean ====
module

public import proofs.«01_k».proof.Proof.Kernel.Reads
public import Idealize.ShloMosaic.Lib.ValueLayout

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! The write side: chunk `k`'s slab of the output scratch goes out to column `k` of the output array on cell `k`. -/

/-- Column `k` of the output array, and the cell of the transfer that fills it. -/
abbrev oCol (k : Fin k0_t1_loop.trips) : Memref sig .tc .hbm S208x16x128 .bf16 :=
  (aO.slice (Rect.unit (s := S208x26x16x128) (k0_off213 k) S208x1x16x128.size (k0_off213_inb k)) (fun _ => rfl)).squeeze S208x16x128 squeezes_S208x1x16x128_S208x16x128
abbrev oSem (k : Fin k0_t1_loop.trips) : DmaSems sig S_ :=
  (cc0_scoped7.slice (Rect.unit (s := S26) (k0_off212 k) S1.size (k0_off212_inb k))).squeeze S_ squeezes_S1_S_

/-- An index `(x, y, z)` matched with shape `[a, 1, b, c]` is `(x, 0, y, z)`. -/
theorem reshape_a1bc {a b c : ℕ} (h : (⟨3, ![a, b, c]⟩ : Shape).numel = (⟨4, ![a, 1, b, c]⟩ : Shape).numel)
    (x : Fin a) (y : Fin b) (z : Fin c) : Shape.reshapeEquiv h (ix3 x y z) = ix4 x (⟨0, Nat.one_pos⟩ : Fin 1) y z :=
  Shape.reshapeEquiv_eq_of_rowMajor h (by
    rw [Shape.rowMajor_val_four, Shape.rowMajor_val_three]
    show (((x.val * 1 + 0) * b + y.val) * c + z.val) = (x.val * b + y.val) * c + z.val
    simp only [Nat.mul_one, Nat.add_zero])

/-- Where element `(t, r, l)` of chunk `k`'s slab, and of column `k`, lies. -/
theorem emb_slot (k : Fin k0_t1_loop.trips) (t : Fin 208) (r : Fin 16) (l : Fin 128) :
    (oSlot k).view.emb (ix3 t r l) = (ix4 (⟨k.val, k.isLt⟩ : Fin 26) t r l : S26x208x16x128.Idx) := by
  have h1 : (oSlot k).view.emb (ix3 t r l)
      = (Rect.unit (s := S26x208x16x128) (k0_off3 k) S1x208x16x128.size (k0_off3_inb k)).emb
          (Shape.reshapeEquiv squeezes_S1x208x16x128_S208x16x128.numel_eq (ix3 t r l)) := rfl
  rw [h1, reshapeEquiv_ix3_1abc]
  funext a
  apply Fin.ext
  rw [Rect.emb_apply]
  have h2 := (closedOff_k0_off3 k).eq
  have h3 : ∀ a, (Rect.unit (s := S26x208x16x128) (k0_off3 k) S1x208x16x128.size (k0_off3_inb k)).off a = (![k.val, 0, 0, 0] : Fin 4 → ℕ) a :=
    fun a => congrFun h2 a
  rw [h3]
  match a with
  | ⟨0, _⟩ => show k.val + 1 * 0 = k.val; omega
  | ⟨1, _⟩ => show 0 + 1 * t.val = t.val; omega
  | ⟨2, _⟩ => show 0 + 1 * r.val = r.val; omega
  | ⟨3, _⟩ => show 0 + 1 * l.val = l.val; omega
theorem emb_col (k : Fin k0_t1_loop.trips) (t : Fin 208) (r : Fin 16) (l : Fin 128) :
    (oCol k).view.emb (ix3 t r l) = (ix4 t (⟨k.val, k.isLt⟩ : Fin 26) r l : S208x26x16x128.Idx) := by
  have h1 : (oCol k).view.emb (ix3 t r l)
      = (Rect.unit (s := S208x26x16x128) (k0_off213 k) S208x1x16x128.size (k0_off213_inb k)).emb
          (Shape.reshapeEquiv squeezes_S208x1x16x128_S208x16x128.numel_eq (ix3 t r l)) := rfl
  rw [h1, reshape_a1bc]
  funext a
  apply Fin.ext
  rw [Rect.emb_apply]
  have h2 := (closedOff_k0_off213 k).eq
  have h3 : ∀ a, (Rect.unit (s := S208x26x16x128) (k0_off213 k) S208x1x16x128.size (k0_off213_inb k)).off a = (![0, k.val, 0, 0] : Fin 4 → ℕ) a :=
    fun a => congrFun h2 a
  rw [h3]
  match a with
  | ⟨0, _⟩ => show 0 + 1 * t.val = t.val; omega
  | ⟨1, _⟩ => show k.val + 1 * 0 = k.val; omega
  | ⟨2, _⟩ => show 0 + 1 * r.val = r.val; omega
  | ⟨3, _⟩ => show 0 + 1 * l.val = l.val; omega

/-- Which elements of the output array column `k` is; of the scratch, slab `k`. -/
theorem mem_col (k : Fin k0_t1_loop.trips) (y : S208x26x16x128.Idx) : y ∈ (oCol k).view.set ↔ (y 1).val = k.val := by
  constructor
  · intro h
    obtain ⟨x, -, rfl⟩ := Finset.mem_map.1 h
    obtain ⟨t, r, l, rfl⟩ : ∃ t r l, x = ix3 t r l := ⟨x 0, x 1, x 2, by funext a; fin_cases a <;> rfl⟩
    have e := emb_col k t r l
    rw [e]
  · intro h
    refine Finset.mem_map.2 ⟨ix3 (y 0) (y 2) (y 3), Finset.mem_univ _, ?_⟩
    refine (emb_col k (y 0) (y 2) (y 3)).trans ?_
    funext a
    apply Fin.ext
    match a with
    | ⟨0, _⟩ => rfl
    | ⟨1, _⟩ => exact h.symm
    | ⟨2, _⟩ => rfl
    | ⟨3, _⟩ => rfl
theorem mem_slot (k : Fin k0_t1_loop.trips) (y : S26x208x16x128.Idx) : y ∈ (oSlot k).view.set ↔ (y 0).val = k.val := by
  constructor
  · intro h
    obtain ⟨x, -, rfl⟩ := Finset.mem_map.1 h
    obtain ⟨t, r, l, rfl⟩ : ∃ t r l, x = ix3 t r l := ⟨x 0, x 1, x 2, by funext a; fin_cases a <;> rfl⟩
    have e := emb_slot k t r l
    rw [e]
  · intro h
    refine Finset.mem_map.2 ⟨ix3 (y 1) (y 2) (y 3), Finset.mem_univ _, ?_⟩
    refine (emb_slot k (y 1) (y 2) (y 3)).trans ?_
    funext a
    apply Fin.ext
    match a with
    | ⟨0, _⟩ => exact h.symm
    | ⟨1, _⟩ => rfl
    | ⟨2, _⟩ => rfl
    | ⟨3, _⟩ => rfl

section
variable (c : Dev nD)
variable (XW : Buf (Elt F) (aW.view.loc (c : Thread nD τ))) (XS : Buf (Elt F) (aS.view.loc (c : Thread nD τ)))
  (XZ : Buf (Elt F) (aZ.view.loc (c : Thread nD τ)))

/-- What the output array holds in the end: at `(t, k, r, l)`, element `(r, l)` of chunk `k`'s tile `t`. -/
def outC : Buf (Elt F) (aO.view.loc (c : Thread nD τ)) :=
  fun (y : S208x26x16x128.Idx) => tileAt (c := c) (⟨(y 1).val, (y 1).isLt⟩ : Fin k0_t1_loop.trips) XW XS XZ (y 0).val (ix4 (0 : Fin 1) (0 : Fin 1) (y 2) (y 3))

theorem idx_eq (x : S208x16x128.Idx) : ∃ (t : Fin 208) (r : Fin 16) (l : Fin 128), x = ix3 t r l :=
  ⟨x 0, x 1, x 2, by funext a; fin_cases a <;> rfl⟩
/-- Its element `(t, r, l)` of column `k`. -/
theorem out_at (k : Fin k0_t1_loop.trips) (t : Fin 208) (r : Fin 16) (l : Fin 128) :
    outC c XW XS XZ ((oCol k).view.emb (ix3 t r l)) = tileAt (c := c) k XW XS XZ t.val (ix4 (0 : Fin 1) (0 : Fin 1) r l) := by
  refine (congrArg (outC c XW XS XZ) (emb_col k t r l)).trans ?_
  rfl

/-- Element `(r, l)` of tile `t` as it lies in the scratch. -/
theorem slot_tile (k : Fin k0_t1_loop.trips) (W : Buf (Elt F) ((oSlot k).view.loc (c : Thread nD τ)))
    (hW : Agree k XW XS XZ W (List.range 208)) (t : Fin 208) (r : Fin 16) (l : Fin 128) :
    (oSlot k).view.read (Elt F) W (ix3 t r l) = tileAt (c := c) k XW XS XZ t.val (ix4 (0 : Fin 1) (0 : Fin 1) r l) := by
  have inb : ∀ a, (![k.val, t.val, 0, 0] : Fin 4 → ℕ) a + S1x1x16x128.size a ≤ S26x208x16x128.size a := by
    have h1 : k.val < 26 := k.isLt
    have h2 := t.isLt
    intro a
    match a with
    | ⟨0, _⟩ => show k.val + 1 ≤ 26; omega
    | ⟨1, _⟩ => show t.val + 1 ≤ 208; omega
    | ⟨2, _⟩ => show 0 + 16 ≤ 16; omega
    | ⟨3, _⟩ => show 0 + 128 ≤ 128; omega
  have h := congrFun (hW t.val (List.mem_range.2 t.isLt) inb) (ix4 (0 : Fin 1) (0 : Fin 1) r l)
  rw [← h]
  show W ((oSlot k).view.emb (ix3 t r l)) = W ((Rect.unit (s := S26x208x16x128) ![k.val, t.val, 0, 0] S1x1x16x128.size inb).emb (ix4 (0 : Fin 1) (0 : Fin 1) r l))
  refine congrArg W ?_
  rw [emb_slot]
  funext a
  apply Fin.ext
  rw [Rect.emb_apply]
  match a with
  | ⟨0, _⟩ => show k.val = k.val + 1 * 0; omega
  | ⟨1, _⟩ => show t.val = t.val + 1 * 0; omega
  | ⟨2, _⟩ => show r.val = 0 + 1 * r.val; omega
  | ⟨3, _⟩ => show l.val = 0 + 1 * l.val; omega

/-- What the transfer of a filled slab leaves in its column is what the output array shall hold there. -/
theorem landO (k : Fin k0_t1_loop.trips) (W : Buf (Elt F) ((oSlot k).view.loc (c : Thread nD τ)))
    (hW : Agree k XW XS XZ W (List.range 208)) (g) :
    ownP c (oCol k) ((oCol k).view.writes (Elt F) g [⟨Rect.whole S208x16x128, ReadAs.same.apply ((oSlot k).view.read (Elt F) W)⟩])
      = ownP (F := F) c (oCol k) (outC c XW XS XZ) := by
  refine pointsTo_congr fun i hi => ?_
  obtain ⟨x, -, hx⟩ := Finset.mem_map.1 hi
  obtain ⟨t, r, l, hx3⟩ := idx_eq x
  have e : ∀ G : Buf (Elt F) ((oCol k).view.loc (c : Thread nD τ)), G ((oCol k).view.emb x) = (oCol k).view.read (Elt F) G x := fun G => rfl
  have h2 : (oSlot k).view.read (Elt F) W x = outC c XW XS XZ i := by
    rw [← hx, hx3, slot_tile c XW XS XZ k W hW t r l]
    exact (out_at c XW XS XZ k t r l).symm
  rw [← h2, ← hx]
  refine (e _).trans ?_
  rw [View.read_writes_whole]

/-! A chunk before its transfer, during it, and after it. -/

abbrev freeC (i : Fin k0_t1_loop.trips) : sProp 𝕄 :=
  iprop((∃ f, ownP c (oSlot i) f) ∗ (∃ g, ownP c (oCol i) g) ∗ zeroP c (oSem i))
abbrev flyC (i : Fin k0_t1_loop.trips) : sProp 𝕄 :=
  iprop(∃ f, flyP c (oSem i) 26624 iprop(ownP c (oCol i) (outC c XW XS XZ) ∗ ownP c (oSlot i) f))
abbrev doneC (i : Fin k0_t1_loop.trips) : sProp 𝕄 :=
  iprop((∃ f, ownP c (oSlot i) f) ∗ ownP c (oCol i) (outC c XW XS XZ) ∗ zeroP c (oSem i))
/-- Chunk `i` when the chunks below `lo` are out and those from `lo` to `hi` are on their way. -/
def chunk (lo hi : ℕ) (i : Fin k0_t1_loop.trips) : sProp 𝕄 :=
  if i.val < lo then doneC c XW XS XZ i else if i.val < hi then flyC c XW XS XZ i else freeC c i
def St (lo hi : ℕ) : sProp 𝕄 := bigSep Finset.univ (chunk c XW XS XZ lo hi)

theorem St_apart (lo hi : ℕ) (k : Fin k0_t1_loop.trips) :
    St c XW XS XZ lo hi = iprop(chunk c XW XS XZ lo hi k ∗ bigSep (Finset.univ.erase k) (chunk c XW XS XZ lo hi)) := by
  unfold St
  conv_lhs => rw [← Finset.insert_erase (Finset.mem_univ k), bigSep_insert (Finset.notMem_erase _ _)]
  rfl
/-- Chunk `k` before its transfer starts; as it starts. -/
theorem St_free (lo : ℕ) (k : Fin k0_t1_loop.trips) (h : lo ≤ k.val) :
    St c XW XS XZ lo k.val = iprop(freeC c k ∗ bigSep (Finset.univ.erase k) (chunk c XW XS XZ lo k.val)) := by
  rw [St_apart c XW XS XZ lo k.val k]
  rw [show chunk c XW XS XZ lo k.val k = freeC c k by unfold chunk; rw [if_neg (by omega), if_neg (by omega)]]
theorem St_start (lo : ℕ) (k : Fin k0_t1_loop.trips) (h : lo ≤ k.val) :
    St c XW XS XZ lo (k.val + 1) = iprop(flyC c XW XS XZ k ∗ bigSep (Finset.univ.erase k) (chunk c XW XS XZ lo k.val)) := by
  rw [St_apart c XW XS XZ lo (k.val + 1) k]
  rw [show chunk c XW XS XZ lo (k.val + 1) k = flyC c XW XS XZ k by unfold chunk; rw [if_neg (by omega), if_pos (by omega)]]
  congr 1
  refine bigSep_congr fun i hi => ?_
  have hne : i.val ≠ k.val := fun e => Finset.ne_of_mem_erase hi (Fin.ext e)
  have hp : (i.val < k.val + 1) = (i.val < k.val) := propext (by omega)
  simp only [chunk, hp]
/-- Chunk `p` while its transfer is the oldest; once it has been waited for. -/
theorem St_fly (p : Fin k0_t1_loop.trips) (hi : ℕ) (h : p.val < hi) :
    St c XW XS XZ p.val hi = iprop(flyC c XW XS XZ p ∗ bigSep (Finset.univ.erase p) (chunk c XW XS XZ p.val hi)) := by
  rw [St_apart c XW XS XZ p.val hi p]
  rw [show chunk c XW XS XZ p.val hi p = flyC c XW XS XZ p by unfold chunk; rw [if_neg (by omega), if_pos (by omega)]]
theorem St_done (p : Fin k0_t1_loop.trips) (hi : ℕ) :
    St c XW XS XZ (p.val + 1) hi = iprop(doneC c XW XS XZ p ∗ bigSep (Finset.univ.erase p) (chunk c XW XS XZ p.val hi)) := by
  rw [St_apart c XW XS XZ (p.val + 1) hi p]
  rw [show chunk c XW XS XZ (p.val + 1) hi p = doneC c XW XS XZ p by unfold chunk; rw [if_pos (by omega)]]
  congr 1
  refine bigSep_congr fun i hi => ?_
  have hne : i.val ≠ p.val := fun e => Finset.ne_of_mem_erase hi (Fin.ext e)
  have hp : (i.val < p.val + 1) = (i.val < p.val) := propext (by omega)
  simp only [chunk, hp]

/-! The names under which the waits mention an earlier chunk. -/

/-- The chunk whose transfer trip `k` waits for. -/
abbrev prev (k : Fin k0_t1_loop.trips) : Fin k0_t1_loop.trips := ⟨k.val - 5, lt_of_le_of_lt (Nat.sub_le _ _) k.isLt⟩
theorem cond7_iff : ∀ k : Fin k0_t1_loop.trips, k0_cond7 k = 1#1 ↔ 5 ≤ k.val := by decide +kernel
theorem off214_prev : ∀ k : Fin k0_t1_loop.trips, k0_cond7 k = 1#1 → k0_off214 k = k0_off212 (prev k) := by decide +kernel
theorem off215_prev : ∀ k : Fin k0_t1_loop.trips, k0_cond7 k = 1#1 → k0_off215 k = k0_off213 (prev k) := by decide +kernel
theorem off216_prev : ∀ k : Fin k0_t1_loop.trips, k0_cond7 k = 1#1 → k0_off216 k = k0_off3 (prev k) := by decide +kernel
abbrev last (k : Fin k0_t2_loop.trips) : Fin k0_t1_loop.trips := ⟨k.val + 21, by have h : k.val < 5 := k.isLt; show k.val + 21 < 26; omega⟩
theorem off217_last : ∀ k : Fin k0_t2_loop.trips, k0_off217 k = k0_off212 (last k) := by decide +kernel
theorem off218_last : ∀ k : Fin k0_t2_loop.trips, k0_off218 k = k0_off213 (last k) := by decide +kernel
theorem off219_last : ∀ k : Fin k0_t2_loop.trips, k0_off219 k = k0_off3 (last k) := by decide +kernel

/-- A transfer and what it moves under any other spelling of the same offsets. -/
theorem fly_respell {o1 o1' : Fin 1 → ℕ} {o2 o2' : Fin 4 → ℕ} {o3 o3' : Fin 4 → ℕ} (e1 : o1 = o1') (e2 : o2 = o2') (e3 : o3 = o3')
    (i1 i1' i2 i2' i3 i3') (G : Buf (Elt F) (aO.view.loc (c : Thread nD τ))) :
    (iprop(∃ f, flyP c ((cc0_scoped7.slice (Rect.unit (s := S26) o1 S1.size i1)).squeeze S_ squeezes_S1_S_) 26624
      iprop(ownP c ((aO.slice (Rect.unit (s := S208x26x16x128) o2 S208x1x16x128.size i2) (fun _ => rfl)).squeeze S208x16x128 squeezes_S208x1x16x128_S208x16x128) G
        ∗ (ownP c ((bO.slice (Rect.unit (s := S26x208x16x128) o3 S1x208x16x128.size i3) (fun _ => rfl)).squeeze S208x16x128 squeezes_S1x208x16x128_S208x16x128) f))) : sProp 𝕄)
    = iprop(∃ f, flyP c ((cc0_scoped7.slice (Rect.unit (s := S26) o1' S1.size i1')).squeeze S_ squeezes_S1_S_) 26624
      iprop(ownP c ((aO.slice (Rect.unit (s := S208x26x16x128) o2' S208x1x16x128.size i2') (fun _ => rfl)).squeeze S208x16x128 squeezes_S208x1x16x128_S208x16x128) G
        ∗ (ownP c ((bO.slice (Rect.unit (s := S26x208x16x128) o3' S1x208x16x128.size i3') (fun _ => rfl)).squeeze S208x16x128 squeezes_S1x208x16x128_S208x16x128) f))) := by
  subst e1 e2 e3; rfl
theorem done_respell {o1 o1' : Fin 1 → ℕ} {o2 o2' : Fin 4 → ℕ} {o3 o3' : Fin 4 → ℕ} (e1 : o1 = o1') (e2 : o2 = o2') (e3 : o3 = o3')
    (i1 i1' i2 i2' i3 i3') (G : Buf (Elt F) (aO.view.loc (c : Thread nD τ))) :
    (iprop((∃ f, ownP c ((bO.slice (Rect.unit (s := S26x208x16x128) o3 S1x208x16x128.size i3) (fun _ => rfl)).squeeze S208x16x128 squeezes_S1x208x16x128_S208x16x128) f)
      ∗ ownP c ((aO.slice (Rect.unit (s := S208x26x16x128) o2 S208x1x16x128.size i2) (fun _ => rfl)).squeeze S208x16x128 squeezes_S208x1x16x128_S208x16x128) G
      ∗ zeroP c ((cc0_scoped7.slice (Rect.unit (s := S26) o1 S1.size i1)).squeeze S_ squeezes_S1_S_)) : sProp 𝕄)
    = iprop((∃ f, ownP c ((bO.slice (Rect.unit (s := S26x208x16x128) o3' S1x208x16x128.size i3') (fun _ => rfl)).squeeze S208x16x128 squeezes_S1x208x16x128_S208x16x128) f)
      ∗ ownP c ((aO.slice (Rect.unit (s := S208x26x16x128) o2' S208x1x16x128.size i2') (fun _ => rfl)).squeeze S208x16x128 squeezes_S208x1x16x128_S208x16x128) G
      ∗ zeroP c ((cc0_scoped7.slice (Rect.unit (s := S26) o1' S1.size i1')).squeeze S_ squeezes_S1_S_)) := by
  subst e1 e2 e3; rfl

end

end Cert.Proof.Kernel

end
-- ==== Proof.Kernel.Dequant.lean ====
module

public import proofs.«01_k».proof.Proof.Kernel.Names

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Agreement on a list that holds every tile's number is agreement on all tiles. -/
theorem agree_all {c : Dev nD} {k : Fin k0_t1_loop.trips}
    {fW : Buf (Elt F) ((wWin k).view.loc (c : Thread nD τ))} {fS : Buf (Elt F) ((sWin k).view.loc (c : Thread nD τ))}
    {fZ : Buf (Elt F) ((zWin k).view.loc (c : Thread nD τ))} {f : Buf (Elt F) ((oSlot k).view.loc (c : Thread nD τ))} {T : List ℕ}
    (h : Agree k fW fS fZ f T) (hT : ∀ t : Fin 208, t.val ∈ T) : Agree k fW fS fZ f (List.range 208) :=
  fun t ht => h t (hT ⟨t, List.mem_range.1 ht⟩)

set_option sl_exec.partsLeafInline true in
set_option maxHeartbeats 0 in
set_option maxRecDepth 100000 in
/-- One trip's dequantization: from the first printed part's specification (`hcut`: it hands over the chunk's windows and
the first two rows of scales), all 208 stores into the chunk's slab run, and the slab then holds every tile. -/
theorem dequantRun (c : Dev nD) (k : Fin k0_t1_loop.trips) (c0 c1 : BitVec 32) (A B : sProp 𝕄)
    (fW : Buf (Elt F) ((wWin k).view.loc (c : Thread nD τ))) (fS : Buf (Elt F) ((sWin k).view.loc (c : Thread nD τ)))
    (fZ : Buf (Elt F) ((zWin k).view.loc (c : Thread nD τ)))
    (fO : Buf (Elt F) ((oSlot k).view.loc (c : Thread nD τ)))
    (hcut : A ⊢ wp frame (wpE (defs₀ (F := F)) 𝒱₀ (c : Thread nD τ) none) Set.univ
      (k0_part1 aW (Memref.isWhole_whole _) aS (Memref.isWhole_whole _) aZ (Memref.isWhole_whole _) aO (Memref.isWhole_whole _)
        bW (Memref.isWhole_whole _) bS (Memref.isWhole_whole _) bZ (Memref.isWhole_whole _) bO (Memref.isWhole_whole _)
        cc0_scoped4 cc0_scoped5 cc0_scoped6 cc0_scoped7 c0 c1 k)
      (fun r => iprop(⌜r.2.1 = k0_pay1 (sRow k fS 0)⌝ ∗ ⌜r.2.2 = k0_pay2 (sRow k fS 1)⌝ ∗ winPre c k fW fS fZ ∗ B))) :
    ∃ W : Buf (Elt F) ((oSlot k).view.loc (c : Thread nD τ)), Agree k fW fS fZ W (List.range 208) ∧
    ∀ (Q : PUnit → sProp 𝕄),
     iprop(A ∗ ((oSlot k).view.loc (c : Thread nD τ) ↦[(oSlot k).view.set]{fullShare} fO)
       ∗ (iprop(winPre c k fW fS fZ ∗ B ∗ ((oSlot k).view.loc (c : Thread nD τ) ↦[(oSlot k).view.set]{fullShare} W)) -∗ Q ⟨⟩))
     ⊢ wp frame (wpE (defs₀ (F := F)) 𝒱₀ (c : Thread nD τ) none) Set.univ
      (do
        let ⟨v79_r0, v106_r0, v113_r0, v120_r0, v127_r0, v134_r0, v141_r0, v148_r0, v155_r0, v162_r0, v169_r0, v176_r0, v183_r0, v190_r0, v197_r0, v204_r0, v211_r0, v218_r0, v225_r0, v232_r0, v239_r0, v246_r0, v253_r0, v260_r0, v267_r0, v274_r0, v281_r0, v2181_r0, v2182_r0, v2191_r0⟩ ←
          k0_part107 aW (Memref.isWhole_whole _) aS (Memref.isWhole_whole _) aZ (Memref.isWhole_whole _) aO (Memref.isWhole_whole _)
            bW (Memref.isWhole_whole _) bS (Memref.isWhole_whole _) bZ (Memref.isWhole_whole _) bO (Memref.isWhole_whole _)
            cc0_scoped4 cc0_scoped5 cc0_scoped6 cc0_scoped7 c0 c1 k
        k0_part108 aW (Memref.isWhole_whole _) aS (Memref.isWhole_whole _) aZ (Memref.isWhole_whole _) aO (Memref.isWhole_whole _)
          bW (Memref.isWhole_whole _) bS (Memref.isWhole_whole _) bZ (Memref.isWhole_whole _) bO (Memref.isWhole_whole _)
          cc0_scoped4 cc0_scoped5 cc0_scoped6 cc0_scoped7 k v106_r0 v113_r0 v120_r0 v127_r0 v134_r0 v141_r0 v148_r0 v155_r0 v162_r0 v169_r0 v176_r0 v183_r0 v190_r0 v197_r0 v204_r0 v211_r0 v218_r0 v225_r0 v232_r0 v239_r0 v246_r0 v253_r0 v260_r0 v267_r0 v274_r0 v281_r0 v2181_r0 v2182_r0 v2191_r0) Q := by
  refine ⟨?_, ?good, fun Q => ?run⟩
  case run =>
    iintro ⟨HA, HO, Hk⟩
    sl_exec_parts
    sl_step
    obtain rfl : v106_r0 = _ := hk0_part1_0
    obtain rfl : v109_r0 = _ := hk0_part1_1
    iapply Hk
    isplitr [Hk0_part1_5 HO]
    · isplitl [Hk0_part1_2]; · iexact Hk0_part1_2
      isplitl [Hk0_part1_3]; · iexact Hk0_part1_3
      iexact Hk0_part1_4
    isplitl [Hk0_part1_5]; · iexact Hk0_part1_5
    iexact HO
  case good =>
    apply agree_all
    case h =>
      iterate 208
        apply agree_step k fW fS fZ
        · exact rfl
        · exact rfl
      exact agree_nil k fW fS fZ fO
    case hT => exact (by decide +kernel)

end Cert.Proof.Kernel

end
-- ==== Proof.Kernel.Trip.lean ====
module

public import proofs.«01_k».proof.Proof.Kernel.Writes
public import proofs.«01_k».proof.Proof.Kernel.Dequant

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

theorem ent_eq {P Q : sProp 𝕄} (h : P = Q) : P ⊢ Q := by rw [h]

section
variable (c : Dev nD)
variable (XW : Buf (Elt F) (aW.view.loc (c : Thread nD τ))) (XS : Buf (Elt F) (aS.view.loc (c : Thread nD τ)))
  (XZ : Buf (Elt F) (aZ.view.loc (c : Thread nD τ)))

/-- The transfer that trip `k` starts. -/
abbrev enqG (k : Fin k0_t1_loop.trips) : Prog (TpuEff nD τ sig (Elt F) Λ₀ .tc) PUnit :=
  Prog.lift (.enqueueDma (oSlot k) (.here (oCol k)) (.dma (oSem k).sem)
    (((Memref.isWhole_whole cc0_scoped3).wordExact_slice rfl _ (k0_off3_wordsbf16 k)).reshape _ _)
    (((Memref.isWhole_whole main_v0).wordExact_slice rfl _ (k0_off213_wordsbf16 k)).reshape _ _) ⟨Or.inl rfl, trivial⟩)
/-- The wait that ends trip `k`, from the sixth trip on. -/
abbrev waitG (k : Fin k0_t1_loop.trips) : Prog (TpuEff nD τ sig (Elt F) Λ₀ .tc) PUnit := do
  if k0_h7 : k0_cond7 k = 1#1 then do
    Prog.lift (.waitDma2 ((cc0_scoped7.slice (Rect.unit (s := S26) (k0_off214 k) S1.size (k0_off214_inb k k0_h7))).squeeze S_ squeezes_S1_S_).sem
      ((bO.slice (Rect.unit (s := S26x208x16x128) (k0_off216 k) S1x208x16x128.size (k0_off216_inb k k0_h7)) (fun _ => rfl)).squeeze S208x16x128 squeezes_S1x208x16x128_S208x16x128)
      ((aO.slice (Rect.unit (s := S208x26x16x128) (k0_off215 k) S208x1x16x128.size (k0_off215_inb k k0_h7)) (fun _ => rfl)).squeeze S208x16x128 squeezes_S208x1x16x128_S208x16x128)
      (((Memref.isWhole_whole cc0_scoped3).wordExact_slice rfl _ (k0_off216_wordsbf16 k k0_h7)).reshape _ _)
      (((Memref.isWhole_whole main_v0).wordExact_slice rfl _ (k0_off215_wordsbf16 k k0_h7)).reshape _ _))
    pure ⟨⟩
  else do
    pure ⟨⟩
  pure ⟨⟩

set_option maxHeartbeats 2000000 in
/-- Starting chunk `k`'s transfer from a slab that holds every tile. -/
theorem enq_run (k : Fin k0_t1_loop.trips) (W : Buf (Elt F) ((oSlot k).view.loc (c : Thread nD τ)))
    (hW : Agree k XW XS XZ W (List.range 208)) :
    iprop((∃ O, owes (c : Thread nD τ) 0 O) ∗ ownP c (oSlot k) W ∗ (∃ g, ownP c (oCol k) g) ∗ zeroP c (oSem k))
      ⊢ wp frame (wpE (defs₀ (F := F)) 𝒱₀ (c : Thread nD τ) none) Set.univ (enqG k)
        (fun _ => iprop((∃ O, owes (c : Thread nD τ) 0 O) ∗ flyC c XW XS XZ k)) := by
  iintro ⟨⟨%O, HO⟩, HS, ⟨%g, HC⟩, HZ⟩
  sl_exec
  sl_step
  isplitl [HO]; · iexists _; iexact HO
  iexists W
  irw [← landO c XW XS XZ k W hW g]
  iexact HZ

set_option maxHeartbeats 2000000 in
/-- The wait of trip `k`. -/
theorem wait_run (k : Fin k0_t1_loop.trips) (h7 : k0_cond7 k = 1#1) :
    iprop((∃ O, owes (c : Thread nD τ) 0 O) ∗ flyC c XW XS XZ (prev k))
      ⊢ wp frame (wpE (defs₀ (F := F)) 𝒱₀ (c : Thread nD τ) none) Set.univ (waitG k)
        (fun _ => iprop((∃ O, owes (c : Thread nD τ) 0 O) ∗ doneC c XW XS XZ (prev k))) := by
  unfold flyC doneC oSem oCol oSlot
  rw [fly_respell c (off214_prev k h7).symm (off215_prev k h7).symm (off216_prev k h7).symm _ (k0_off214_inb k h7) _ (k0_off215_inb k h7) _ (k0_off216_inb k h7),
    done_respell c (off214_prev k h7).symm (off215_prev k h7).symm (off216_prev k h7).symm _ (k0_off214_inb k h7) _ (k0_off215_inb k h7) _ (k0_off216_inb k h7)]
  iintro ⟨⟨%O, HO⟩, ⟨%f, HF⟩⟩
  sl_exec
  sl_step
  isplitl [HO]; · iexists _; iexact HO
  isplitl [HF_src]; · iexists f; iexact HF_src
  isplitl [HF_dst]; · iexact HF_dst
  iexact HF
theorem nowait_run (k : Fin k0_t1_loop.trips) (h7 : ¬ k0_cond7 k = 1#1) (P : sProp 𝕄) :
    P ⊢ wp frame (wpE (defs₀ (F := F)) 𝒱₀ (c : Thread nD τ) none) Set.univ (waitG k) (fun _ => P) := by
  iintro HP
  sl_exec
  sl_step
  iexact HP

/-- Trip `k`'s dequantization. -/
abbrev prefG (k : Fin k0_t1_loop.trips) : Prog (TpuEff nD τ sig (Elt F) Λ₀ .tc) PUnit := do
  let ⟨v79_r0, v106_r0, v113_r0, v120_r0, v127_r0, v134_r0, v141_r0, v148_r0, v155_r0, v162_r0, v169_r0, v176_r0, v183_r0, v190_r0, v197_r0, v204_r0, v211_r0, v218_r0, v225_r0, v232_r0, v239_r0, v246_r0, v253_r0, v260_r0, v267_r0, v274_r0, v281_r0, v2181_r0, v2182_r0, v2191_r0⟩ ←
    k0_part107 aW (Memref.isWhole_whole _) aS (Memref.isWhole_whole _) aZ (Memref.isWhole_whole _) aO (Memref.isWhole_whole _)
      bW (Memref.isWhole_whole _) bS (Memref.isWhole_whole _) bZ (Memref.isWhole_whole _) bO (Memref.isWhole_whole _)
      cc0_scoped4 cc0_scoped5 cc0_scoped6 cc0_scoped7 0#32 1#32 k
  k0_part108 aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 k v106_r0 v113_r0 v120_r0 v127_r0 v134_r0 v141_r0 v148_r0 v155_r0 v162_r0 v169_r0 v176_r0 v183_r0 v190_r0 v197_r0 v204_r0 v211_r0 v218_r0 v225_r0 v232_r0 v239_r0 v246_r0 v253_r0 v260_r0 v267_r0 v274_r0 v281_r0 v2181_r0 v2182_r0 v2191_r0

abbrev body1 (k : Fin k0_t1_loop.trips) : Prog (TpuEff nD τ sig (Elt F) Λ₀ .tc) Unit :=
  k0_t1_body aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 k ()
abbrev body2 (k : Fin k0_t2_loop.trips) : Prog (TpuEff nD τ sig (Elt F) Λ₀ .tc) Unit :=
  k0_t2_body aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 k ()

/-- A trip is its dequantization, its transfer, its wait. -/
theorem body1_eq (k : Fin k0_t1_loop.trips) : body1 (F := F) k = (prefG k >>= fun _ => enqG k >>= fun _ => waitG k) := by
  unfold prefG
  rw [Prog.bind_assoc]
  rfl

/-- The state before trip `k`. -/
abbrev inv1 (k : ℕ) : sProp 𝕄 := iprop(Rd c XW XS XZ k ∗ St c XW XS XZ (k - 5) k)
abbrev inv2 (k : ℕ) : sProp 𝕄 := iprop(Rd c XW XS XZ 26 ∗ St c XW XS XZ (k + 21) 26)

theorem trip_deq (k : Fin k0_t1_loop.trips) (fO : Buf (Elt F) ((oSlot k).view.loc (c : Thread nD τ))) :
    iprop(Rd c XW XS XZ k.val ∗ ownP c (oSlot k) fO)
      ⊢ wp frame (wpE (defs₀ (F := F)) 𝒱₀ (c : Thread nD τ) none) Set.univ (prefG k)
        (fun _ => iprop(∃ W, ⌜Agree k XW XS XZ W (List.range 208)⌝ ∗ Rd c XW XS XZ (k.val + 1) ∗ ownP c (oSlot k) W)) := by
  obtain ⟨W, hW, hrun⟩ := dequantRun c k 0#32 1#32 (Rd c XW XS XZ k.val)
    iprop(winPre c k XW XS XZ -∗ Rd c XW XS XZ (k.val + 1)) XW XS XZ fO (part1_run c XW XS XZ k)
  iintro ⟨HR, HO⟩
  iapply (hrun _)
  isplitl [HR]; · iexact HR
  isplitl [HO]; · iexact HO
  iintro ⟨HW, HB, HO⟩
  iexists W
  isplitr; · ipureintro; exact hW
  isplitl [HW HB]
  · iapply HB; iexact HW
  iexact HO

/-- One trip of the main loop. -/
theorem trip1_run (k : Fin k0_t1_loop.trips) :
    inv1 c XW XS XZ k.val ⊢ wp frame (wpE (defs₀ (F := F)) 𝒱₀ (c : Thread nD τ) none) Set.univ (body1 k)
      (fun _ => inv1 c XW XS XZ (k.val + 1)) := by
  rw [body1_eq, wp_bind]
  unfold inv1
  rw [St_free c XW XS XZ (k.val - 5) k (Nat.sub_le _ _)]
  iintro ⟨HR, ⟨⟨⟨%fO, HS⟩, HC, HZ⟩, Hrest⟩⟩
  iapply (wp_wand_r Idealize.ShloMosaic.frame (wpE (defs₀ (F := F)) 𝒱₀ (c : Thread nD τ) none) Set.univ)
  isplitl [HR HS]
  · iapply (trip_deq c XW XS XZ k fO)
    isplitl [HR]; · iexact HR
    iexact HS
  iintro %_ ⟨%W, %hW, HR, HS⟩
  irw [wp_bind]
  unfold Rd
  icases HR with ⟨HV, HO, HG⟩
  iapply (wp_wand_r Idealize.ShloMosaic.frame (wpE (defs₀ (F := F)) 𝒱₀ (c : Thread nD τ) none) Set.univ)
  isplitl [HO HS HC HZ]
  · iapply (enq_run c XW XS XZ k W hW)
    isplitl [HO]; · iexact HO
    isplitl [HS]; · iexact HS
    isplitl [HC]; · iexact HC
    iexact HZ
  iintro %_ ⟨HO, HF⟩
  ihave HT := (ent_eq (St_start c XW XS XZ (k.val - 5) k (Nat.sub_le _ _)).symm) $$ [HF Hrest]
  · isplitl [HF]; · iexact HF
    iexact Hrest
  by_cases h7 : k0_cond7 k = 1#1
  · have h5 : 5 ≤ k.val := (cond7_iff k).1 h7
    ihave HT := (ent_eq (St_fly c XW XS XZ (prev k) (k.val + 1) (by show k.val - 5 < k.val + 1; omega))) $$ HT
    icases HT with ⟨HF, Hrest⟩
    iapply (wp_wand_r Idealize.ShloMosaic.frame (wpE (defs₀ (F := F)) 𝒱₀ (c : Thread nD τ) none) Set.univ)
    isplitl [HO HF]
    · iapply (wait_run c XW XS XZ k h7)
      isplitl [HO]; · iexact HO
      iexact HF
    iintro %_ ⟨HO, HD⟩
    isplitl [HV HO HG]
    · isplitl [HV]; · iexact HV
      isplitl [HO]; · iexact HO
      iexact HG
    have e : k.val + 1 - 5 = (prev k).val + 1 := by show k.val + 1 - 5 = k.val - 5 + 1; omega
    irw [e]
    iapply (ent_eq (St_done c XW XS XZ (prev k) (k.val + 1)).symm)
    isplitl [HD]; · iexact HD
    iexact Hrest
  · have h5 : ¬ 5 ≤ k.val := fun h => h7 ((cond7_iff k).2 h)
    iapply (nowait_run c k h7)
    isplitl [HV HO HG]
    · isplitl [HV]; · iexact HV
      isplitl [HO]; · iexact HO
      iexact HG
    have e : k.val + 1 - 5 = k.val - 5 := by omega
    irw [e]
    iexact HT

set_option maxHeartbeats 2000000 in
/-- One trip of the draining loop. -/
theorem trip2_run (k : Fin k0_t2_loop.trips) :
    inv2 c XW XS XZ k.val ⊢ wp frame (wpE (defs₀ (F := F)) 𝒱₀ (c : Thread nD τ) none) Set.univ (body2 k)
      (fun _ => inv2 c XW XS XZ (k.val + 1)) := by
  have hk : k.val < 5 := k.isLt
  unfold inv2 Rd
  rw [show k.val + 1 + 21 = (last k).val + 1 by show k.val + 1 + 21 = k.val + 21 + 1; omega,
    show k.val + 21 = (last k).val from rfl,
    St_fly c XW XS XZ (last k) 26 (by show k.val + 21 < 26; omega), St_done c XW XS XZ (last k) 26]
  unfold flyC doneC oSem oCol oSlot
  rw [fly_respell c (off217_last k).symm (off218_last k).symm (off219_last k).symm _ (k0_off217_inb k) _ (k0_off218_inb k) _ (k0_off219_inb k),
    done_respell c (off217_last k).symm (off218_last k).symm (off219_last k).symm _ (k0_off217_inb k) _ (k0_off218_inb k) _ (k0_off219_inb k)]
  iintro ⟨⟨HV, ⟨%O, HO⟩, HG⟩, ⟨⟨%f, HF⟩, Hrest⟩⟩
  dsimp only [body2]
  sl_unfold [k0_t2_body]
  sl_exec
  sl_step
  isplitl [HV HO HG]
  · isplitl [HV]; · iexact HV
    isplitl [HO]; · iexists _; iexact HO
    iexact HG
  isplitr [Hrest]
  · isplitl [HF_src]; · iexists f; iexact HF_src
    isplitl [HF_dst]; · iexact HF_dst
    iexact HF
  iexact Hrest

set_option warn.classDefReducibility false in
/-- The main loop's invariant; the draining loop's. -/
def loopInv1 : LoopInvTy_k0_t1 (F := F) Unit ℕ (UU nD τ) ℕ 𝒱₀ c none Set.univ
    aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 where
  inv k _ := inv1 c XW XS XZ k
  step k _ := trip1_run c XW XS XZ k
set_option warn.classDefReducibility false in
def loopInv2 : LoopInvTy_k0_t2 (F := F) Unit ℕ (UU nD τ) ℕ 𝒱₀ c none Set.univ
    aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 where
  inv k _ := inv2 c XW XS XZ k
  step k _ := trip2_run c XW XS XZ k
end

end Cert.Proof.Kernel

end
-- ==== Proof.Kernel.Prologue.lean ====
module

public import proofs.«01_k».proof.Proof.Kernel.Trip

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section
variable (c : Dev nD)

/-- The columns left of `a + w` are those left of `a` and the window of `w` columns from `a` on. -/
theorem own_win {sp : Space} {R : ℕ} {e : EltTy} (m : Memref sig .tc sp (⟨2, ![R, 6656]⟩ : Shape) e) (a w : ℕ) (inb) (h)
    (f : Buf (Elt F) (m.view.loc (c : Thread nD τ))) :
    (m.view.loc (c : Thread nD τ) ↦[m.view.setOn (colsLt R (a + w))]{fullShare} f : sProp 𝕄)
      = iprop((m.view.loc (c : Thread nD τ) ↦[m.view.setOn (colsLt R a)]{fullShare} f)
        ∗ ownP c (m.slice (Rect.unit (s := (⟨2, ![R, 6656]⟩ : Shape)) ![0, a] ![R, w] inb) h) f) := by
  have e1 : m.view.setOn (colsLt R (a + w)) = m.view.setOn (colsLt R a)
      ∪ (m.slice (Rect.unit (s := (⟨2, ![R, 6656]⟩ : Shape)) ![0, a] ![R, w] inb) h).view.set := by
    rw [← cols_union R a w inb]
    exact (Finset.map_union _ _).trans (congrArg (_ ∪ ·) (View.set_slice m.view _).symm)
  rw [e1]
  have hd := (Finset.disjoint_map m.view.emb).2 (cols_disjoint R a w inb)
  rw [← View.set_slice] at hd
  exact equiv_iff.mp ⟨(pointsTo_union hd).1, (pointsTo_union hd).2⟩
/-- An array of 6656 columns is its six groups of columns. -/
theorem own_six {sp : Space} {R : ℕ} {e : EltTy} (m : Memref sig .tc sp (⟨2, ![R, 6656]⟩ : Shape) e) (i0 i1 i2 i3 i4 i5) (h0 h1 h2 h3 h4 h5)
    (f : Buf (Elt F) (m.view.loc (c : Thread nD τ))) :
    (ownP c m f : sProp 𝕄) = iprop((((((ownP c (m.slice (Rect.unit (s := (⟨2, ![R, 6656]⟩ : Shape)) ![0, 0] ![R, 256] i0) h0) f ∗ ownP c (m.slice (Rect.unit (s := (⟨2, ![R, 6656]⟩ : Shape)) ![0, 256] ![R, 256] i1) h1) f) ∗ ownP c (m.slice (Rect.unit (s := (⟨2, ![R, 6656]⟩ : Shape)) ![0, 512] ![R, 512] i2) h2) f) ∗ ownP c (m.slice (Rect.unit (s := (⟨2, ![R, 6656]⟩ : Shape)) ![0, 1024] ![R, 1024] i3) h3) f) ∗ ownP c (m.slice (Rect.unit (s := (⟨2, ![R, 6656]⟩ : Shape)) ![0, 2048] ![R, 2048] i4) h4) f) ∗ ownP c (m.slice (Rect.unit (s := (⟨2, ![R, 6656]⟩ : Shape)) ![0, 4096] ![R, 2560] i5) h5) f)) := by
  have e0 : (m.view.loc (c : Thread nD τ) ↦[m.view.setOn (colsLt R 256)]{fullShare} f : sProp 𝕄)
      = ownP c (m.slice (Rect.unit (s := (⟨2, ![R, 6656]⟩ : Shape)) ![0, 0] ![R, 256] i0) h0) f := by
    have := own_win c m 0 256 i0 h0 f
    rw [colsLt_zero, show m.view.setOn ∅ = ∅ from Finset.map_empty _, pointsTo_empty] at this
    exact this.trans (equiv_iff.mp emp_sep)
  have e5 : (ownP c m f : sProp 𝕄) = (m.view.loc (c : Thread nD τ) ↦[m.view.setOn (colsLt R 6656)]{fullShare} f) := by
    rw [cols_all]; rfl
  have s1 : (m.view.loc (c : Thread nD τ) ↦[m.view.setOn (colsLt R 512)]{fullShare} f : sProp 𝕄) = _ := own_win c m 256 256 i1 h1 f
  have s2 : (m.view.loc (c : Thread nD τ) ↦[m.view.setOn (colsLt R 1024)]{fullShare} f : sProp 𝕄) = _ := own_win c m 512 512 i2 h2 f
  have s3 : (m.view.loc (c : Thread nD τ) ↦[m.view.setOn (colsLt R 2048)]{fullShare} f : sProp 𝕄) = _ := own_win c m 1024 1024 i3 h3 f
  have s4 : (m.view.loc (c : Thread nD τ) ↦[m.view.setOn (colsLt R 4096)]{fullShare} f : sProp 𝕄) = _ := own_win c m 2048 2048 i4 h4 f
  have s5 : (m.view.loc (c : Thread nD τ) ↦[m.view.setOn (colsLt R 6656)]{fullShare} f : sProp 𝕄) = _ := own_win c m 4096 2560 i5 h5 f
  rw [e5, s5, s4, s3, s2, s1, e0]

variable (XW : Buf (Elt F) (aW.view.loc (c : Thread nD τ))) (XS : Buf (Elt F) (aS.view.loc (c : Thread nD τ)))
  (XZ : Buf (Elt F) (aZ.view.loc (c : Thread nD τ)))

/-! The six groups of each operand, of each VMEM copy, and the eighteen read cells. -/
abbrev hAllW : sProp 𝕄 := iprop((((((ownP c hW0 XW ∗ ownP c hW1 XW) ∗ ownP c hW2 XW) ∗ ownP c hW3 XW) ∗ ownP c hW4 XW) ∗ ownP c hW5 XW))
abbrev vAllW (f : Buf (Elt F) (bW.view.loc (c : Thread nD τ))) : sProp 𝕄 := iprop((((((ownP c vW0 f ∗ ownP c vW1 f) ∗ ownP c vW2 f) ∗ ownP c vW3 f) ∗ ownP c vW4 f) ∗ ownP c vW5 f))
abbrev xAllW : sProp 𝕄 := iprop((((((zeroP c xW0 ∗ zeroP c xW1) ∗ zeroP c xW2) ∗ zeroP c xW3) ∗ zeroP c xW4) ∗ zeroP c xW5))
abbrev hAllS : sProp 𝕄 := iprop((((((ownP c hS0 XS ∗ ownP c hS1 XS) ∗ ownP c hS2 XS) ∗ ownP c hS3 XS) ∗ ownP c hS4 XS) ∗ ownP c hS5 XS))
abbrev vAllS (f : Buf (Elt F) (bS.view.loc (c : Thread nD τ))) : sProp 𝕄 := iprop((((((ownP c vS0 f ∗ ownP c vS1 f) ∗ ownP c vS2 f) ∗ ownP c vS3 f) ∗ ownP c vS4 f) ∗ ownP c vS5 f))
abbrev xAllS : sProp 𝕄 := iprop((((((zeroP c xS0 ∗ zeroP c xS1) ∗ zeroP c xS2) ∗ zeroP c xS3) ∗ zeroP c xS4) ∗ zeroP c xS5))
abbrev hAllZ : sProp 𝕄 := iprop((((((ownP c hZ0 XZ ∗ ownP c hZ1 XZ) ∗ ownP c hZ2 XZ) ∗ ownP c hZ3 XZ) ∗ ownP c hZ4 XZ) ∗ ownP c hZ5 XZ))
abbrev vAllZ (f : Buf (Elt F) (bZ.view.loc (c : Thread nD τ))) : sProp 𝕄 := iprop((((((ownP c vZ0 f ∗ ownP c vZ1 f) ∗ ownP c vZ2 f) ∗ ownP c vZ3 f) ∗ ownP c vZ4 f) ∗ ownP c vZ5 f))
abbrev xAllZ : sProp 𝕄 := iprop((((((zeroP c xZ0 ∗ zeroP c xZ1) ∗ zeroP c xZ2) ∗ zeroP c xZ3) ∗ zeroP c xZ4) ∗ zeroP c xZ5))
theorem hAllW_eq : (ownP c aW XW : sProp 𝕄) = hAllW c XW := own_six c aW _ _ _ _ _ _ _ _ _ _ _ _ XW
theorem vAllW_eq (f) : (ownP c bW f : sProp 𝕄) = vAllW c f := own_six c bW _ _ _ _ _ _ _ _ _ _ _ _ f
theorem hAllS_eq : (ownP c aS XS : sProp 𝕄) = hAllS c XS := own_six c aS _ _ _ _ _ _ _ _ _ _ _ _ XS
theorem vAllS_eq (f) : (ownP c bS f : sProp 𝕄) = vAllS c f := own_six c bS _ _ _ _ _ _ _ _ _ _ _ _ f
theorem hAllZ_eq : (ownP c aZ XZ : sProp 𝕄) = hAllZ c XZ := own_six c aZ _ _ _ _ _ _ _ _ _ _ _ _ XZ
theorem vAllZ_eq (f) : (ownP c bZ f : sProp 𝕄) = vAllZ c f := own_six c bZ _ _ _ _ _ _ _ _ _ _ _ _ f

/-- The eighteen reads that the kernel starts with. -/
abbrev proG : Prog (TpuEff nD τ sig (Elt F) Λ₀ .tc) PUnit := do
  k0_part109 aW (Memref.isWhole_whole _) aS (Memref.isWhole_whole _) aZ (Memref.isWhole_whole _) aO (Memref.isWhole_whole _) bW (Memref.isWhole_whole _) bS (Memref.isWhole_whole _) bZ (Memref.isWhole_whole _) bO (Memref.isWhole_whole _) cc0_scoped4 cc0_scoped5 cc0_scoped6 cc0_scoped7
  k0_part110 aW (Memref.isWhole_whole _) aS (Memref.isWhole_whole _) aZ (Memref.isWhole_whole _) aO (Memref.isWhole_whole _) bW (Memref.isWhole_whole _) bS (Memref.isWhole_whole _) bZ (Memref.isWhole_whole _) bO (Memref.isWhole_whole _) cc0_scoped4 cc0_scoped5 cc0_scoped6 cc0_scoped7
  k0_part111 aW (Memref.isWhole_whole _) aS (Memref.isWhole_whole _) aZ (Memref.isWhole_whole _) aO (Memref.isWhole_whole _) bW (Memref.isWhole_whole _) bS (Memref.isWhole_whole _) bZ (Memref.isWhole_whole _) bO (Memref.isWhole_whole _) cc0_scoped4 cc0_scoped5 cc0_scoped6 cc0_scoped7

set_option maxHeartbeats 8000000 in
/-- They leave six groups in flight, each with its windows of the operands and of the copies. -/
theorem pro_run (fW fS fZ) :
    iprop((∃ O, owes (c : Thread nD τ) 0 O) ∗ hAllW c XW ∗ hAllS c XS ∗ hAllZ c XZ ∗ vAllW c fW ∗ vAllS c fS ∗ vAllZ c fZ ∗ xAllW c ∗ xAllS c ∗ xAllZ c)
      ⊢ wp frame (wpE (defs₀ (F := F)) 𝒱₀ (c : Thread nD τ) none) Set.univ (proG (F := F))
        (fun _ => iprop((∃ O, owes (c : Thread nD τ) 0 O) ∗ flyG0 c XW XS XZ ∗ flyG1 c XW XS XZ ∗ flyG2 c XW XS XZ ∗ flyG3 c XW XS XZ ∗ flyG4 c XW XS XZ
          ∗ flyG5 c XW XS XZ)) := by
  iintro ⟨⟨%O, HO⟩, ⟨⟨⟨⟨⟨HHW0, HHW1⟩, HHW2⟩, HHW3⟩, HHW4⟩, HHW5⟩, ⟨⟨⟨⟨⟨HHS0, HHS1⟩, HHS2⟩, HHS3⟩, HHS4⟩, HHS5⟩, ⟨⟨⟨⟨⟨HHZ0, HHZ1⟩, HHZ2⟩, HHZ3⟩, HHZ4⟩, HHZ5⟩, ⟨⟨⟨⟨⟨HVW0, HVW1⟩, HVW2⟩, HVW3⟩, HVW4⟩, HVW5⟩, ⟨⟨⟨⟨⟨HVS0, HVS1⟩, HVS2⟩, HVS3⟩, HVS4⟩, HVS5⟩, ⟨⟨⟨⟨⟨HVZ0, HVZ1⟩, HVZ2⟩, HVZ3⟩, HVZ4⟩, HVZ5⟩, ⟨⟨⟨⟨⟨HXW0, HXW1⟩, HXW2⟩, HXW3⟩, HXW4⟩, HXW5⟩, ⟨⟨⟨⟨⟨HXS0, HXS1⟩, HXS2⟩, HXS3⟩, HXS4⟩, HXS5⟩, ⟨⟨⟨⟨⟨HXZ0, HXZ1⟩, HXZ2⟩, HXZ3⟩, HXZ4⟩, HXZ5⟩⟩
  sl_unfold [proG, k0_part109, k0_part110, k0_part111]
  sl_exec
  sl_step
  isplitl [HO]; · iexists _; iexact HO
  isplitl [HXS0 HXZ0 HXW0]
  · isplitl [HXS0]
    · irw [← landS c XS (Rect.unit (s := S13x6656) ![0, 0] S13x256.size inb_S13x6656_S13x256_0_0) (fun _ => rfl) fS]
      iexact HXS0
    isplitl [HXZ0]
    · irw [← landZ c XZ (Rect.unit (s := S13x6656) ![0, 0] S13x256.size inb_S13x6656_S13x256_0_0) (fun _ => rfl) fZ]
      iexact HXZ0
    irw [← landW c XW (Rect.unit (s := S208x6656) ![0, 0] S208x256.size inb_S208x6656_S208x256_0_0) (fun _ => rfl) fW]
    iexact HXW0
  isplitl [HXS1 HXZ1 HXW1]
  · isplitl [HXS1]
    · irw [← landS c XS (Rect.unit (s := S13x6656) ![0, 256] S13x256.size inb_S13x6656_S13x256_0_256) (fun _ => rfl) fS]
      iexact HXS1
    isplitl [HXZ1]
    · irw [← landZ c XZ (Rect.unit (s := S13x6656) ![0, 256] S13x256.size inb_S13x6656_S13x256_0_256) (fun _ => rfl) fZ]
      iexact HXZ1
    irw [← landW c XW (Rect.unit (s := S208x6656) ![0, 256] S208x256.size inb_S208x6656_S208x256_0_256) (fun _ => rfl) fW]
    iexact HXW1
  isplitl [HXS2 HXZ2 HXW2]
  · isplitl [HXS2]
    · irw [← landS c XS (Rect.unit (s := S13x6656) ![0, 512] S13x512.size inb_S13x6656_S13x512_0_512) (fun _ => rfl) fS]
      iexact HXS2
    isplitl [HXZ2]
    · irw [← landZ c XZ (Rect.unit (s := S13x6656) ![0, 512] S13x512.size inb_S13x6656_S13x512_0_512) (fun _ => rfl) fZ]
      iexact HXZ2
    irw [← landW c XW (Rect.unit (s := S208x6656) ![0, 512] S208x512.size inb_S208x6656_S208x512_0_512) (fun _ => rfl) fW]
    iexact HXW2
  isplitl [HXS3 HXZ3 HXW3]
  · isplitl [HXS3]
    · irw [← landS c XS (Rect.unit (s := S13x6656) ![0, 1024] S13x1024.size inb_S13x6656_S13x1024_0_1024) (fun _ => rfl) fS]
      iexact HXS3
    isplitl [HXZ3]
    · irw [← landZ c XZ (Rect.unit (s := S13x6656) ![0, 1024] S13x1024.size inb_S13x6656_S13x1024_0_1024) (fun _ => rfl) fZ]
      iexact HXZ3
    irw [← landW c XW (Rect.unit (s := S208x6656) ![0, 1024] S208x1024.size inb_S208x6656_S208x1024_0_1024) (fun _ => rfl) fW]
    iexact HXW3
  isplitl [HXS4 HXZ4 HXW4]
  · isplitl [HXS4]
    · irw [← landS c XS (Rect.unit (s := S13x6656) ![0, 2048] S13x2048.size inb_S13x6656_S13x2048_0_2048) (fun _ => rfl) fS]
      iexact HXS4
    isplitl [HXZ4]
    · irw [← landZ c XZ (Rect.unit (s := S13x6656) ![0, 2048] S13x2048.size inb_S13x6656_S13x2048_0_2048) (fun _ => rfl) fZ]
      iexact HXZ4
    irw [← landW c XW (Rect.unit (s := S208x6656) ![0, 2048] S208x2048.size inb_S208x6656_S208x2048_0_2048) (fun _ => rfl) fW]
    iexact HXW4
  isplitl [HXS5]
  · irw [← landS c XS (Rect.unit (s := S13x6656) ![0, 4096] S13x2560.size inb_S13x6656_S13x2560_0_4096) (fun _ => rfl) fS]
    iexact HXS5
  isplitl [HXZ5]
  · irw [← landZ c XZ (Rect.unit (s := S13x6656) ![0, 4096] S13x2560.size inb_S13x6656_S13x2560_0_4096) (fun _ => rfl) fZ]
    iexact HXZ5
  irw [← landW c XW (Rect.unit (s := S208x6656) ![0, 4096] S208x2560.size inb_S208x6656_S208x2560_0_4096) (fun _ => rfl) fW]
  iexact HXW5
end

end Cert.Proof.Kernel

end
-- ==== Proof.Kernel.Body.lean ====
module

public import proofs.«01_k».proof.Proof.Kernel.Prologue

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section
variable (c : Dev nD)
variable (XW : Buf (Elt F) (aW.view.loc (c : Thread nD τ))) (XS : Buf (Elt F) (aS.view.loc (c : Thread nD τ)))
  (XZ : Buf (Elt F) (aZ.view.loc (c : Thread nD τ)))

/-! The output array is its columns, the output scratch its slabs. -/

theorem cols_apart : ∀ i j : Fin k0_t1_loop.trips, i ≠ j → Disjoint (oCol i).view.set (oCol j).view.set := by
  intro i j h
  rw [Finset.disjoint_left]
  intro y h1 h2
  exact h (Fin.ext (((mem_col i y).1 h1).symm.trans ((mem_col j y).1 h2)))
theorem cols_cover : (Finset.univ.biUnion fun i : Fin k0_t1_loop.trips => (oCol i).view.set) = (Finset.univ : Finset S208x26x16x128.Idx) := by
  ext y
  simp only [Finset.mem_biUnion, Finset.mem_univ, true_and, iff_true]
  exact ⟨⟨(y 1).val, (y 1).isLt⟩, (mem_col _ y).2 rfl⟩
theorem slots_apart : ∀ i j : Fin k0_t1_loop.trips, i ≠ j → Disjoint (oSlot i).view.set (oSlot j).view.set := by
  intro i j h
  rw [Finset.disjoint_left]
  intro y h1 h2
  exact h (Fin.ext (((mem_slot i y).1 h1).symm.trans ((mem_slot j y).1 h2)))
theorem slots_cover : (Finset.univ.biUnion fun i : Fin k0_t1_loop.trips => (oSlot i).view.set) = (Finset.univ : Finset S26x208x16x128.Idx) := by
  ext y
  simp only [Finset.mem_biUnion, Finset.mem_univ, true_and, iff_true]
  exact ⟨⟨(y 0).val, (y 0).isLt⟩, (mem_slot _ y).2 rfl⟩

/-- A whole array, held through its view, is held at every index. -/
theorem own_whole (b : Ref sig .tc) (f : Buf (Elt F) ((c : Thread nD τ).loc b)) :
    ((c : Thread nD τ).loc b ↦[(View.whole b).set]{fullShare} f : sProp 𝕄) = ((c : Thread nD τ).loc b ↦{fullShare} f) := by
  rw [View.set_whole]

theorem out_cols (f : Buf (Elt F) (aO.view.loc (c : Thread nD τ))) :
    (ownP c aO f : sProp 𝕄) = bigSep Finset.univ fun i : Fin k0_t1_loop.trips => ownP c (oCol i) f :=
  (own_whole c main_v0 f).trans
    (Ring.pointsTo_blocks (ℓ := aO.view.loc (c : Thread nD τ)) (fun i : Fin k0_t1_loop.trips => (oCol i).view.set) cols_apart cols_cover f)
theorem out_slots (f : Buf (Elt F) (bO.view.loc (c : Thread nD τ))) :
    (ownP c bO f : sProp 𝕄) = bigSep Finset.univ fun i : Fin k0_t1_loop.trips => ownP c (oSlot i) f :=
  (own_whole c cc0_scoped3 f).trans
    (Ring.pointsTo_blocks (ℓ := bO.view.loc (c : Thread nD τ)) (fun i : Fin k0_t1_loop.trips => (oSlot i).view.set) slots_apart slots_cover f)
theorem slots_join (f₀ : Buf (Elt F) (bO.view.loc (c : Thread nD τ))) :
    (bigSep Finset.univ fun i : Fin k0_t1_loop.trips => iprop(∃ f, ownP c (oSlot i) f)) ⊢ (iprop(∃ f, ownP c bO f) : sProp 𝕄) := by
  have h : (bigSep Finset.univ fun i : Fin k0_t1_loop.trips => iprop(∃ f, ownP c (oSlot i) f))
      ⊢ (iprop(∃ f, bO.view.loc (c : Thread nD τ) ↦{fullShare} f) : sProp 𝕄) :=
    Ring.pointsTo_blocks_join_exists (ℓ := bO.view.loc (c : Thread nD τ)) (fun i : Fin k0_t1_loop.trips => (oSlot i).view.set) slots_apart slots_cover f₀
  refine h.trans ?_
  iintro ⟨%f, H⟩
  iexists f
  iapply (ent_eq (own_whole c cc0_scoped3 f).symm)
  iexact H
/-- A column, a slab, at some contents. -/
theorem cols_some (g : Buf (Elt F) (aO.view.loc (c : Thread nD τ))) :
    (bigSep Finset.univ fun i : Fin k0_t1_loop.trips => ownP c (oCol i) g)
      ⊢ (bigSep Finset.univ fun i : Fin k0_t1_loop.trips => iprop(∃ g, ownP c (oCol i) g) : sProp 𝕄) :=
  have h : ∀ i : Fin k0_t1_loop.trips, (ownP c (oCol i) g : sProp 𝕄) ⊢ iprop(∃ g, ownP c (oCol i) g) := fun i => by
    iintro H; iexists g; iexact H
  bigSep_mono fun i _ => h i
theorem slots_some (f : Buf (Elt F) (bO.view.loc (c : Thread nD τ))) :
    (bigSep Finset.univ fun i : Fin k0_t1_loop.trips => ownP c (oSlot i) f)
      ⊢ (bigSep Finset.univ fun i : Fin k0_t1_loop.trips => iprop(∃ f, ownP c (oSlot i) f) : sProp 𝕄) :=
  have h : ∀ i : Fin k0_t1_loop.trips, (ownP c (oSlot i) f : sProp 𝕄) ⊢ iprop(∃ f, ownP c (oSlot i) f) := fun i => by
    iintro H; iexists f; iexact H
  bigSep_mono fun i _ => h i
theorem apart3 (A B C : Fin k0_t1_loop.trips → sProp 𝕄) :
    bigSep Finset.univ (fun i => iprop(A i ∗ B i ∗ C i)) = iprop(bigSep Finset.univ A ∗ bigSep Finset.univ B ∗ bigSep Finset.univ C) :=
  (bigSep_sep Finset.univ A fun i => iprop(B i ∗ C i)).trans (congrArg (fun X => iprop(bigSep Finset.univ A ∗ X)) (bigSep_sep Finset.univ B C))

/-- All chunks before their transfers; after them. -/
theorem St_zero : St c XW XS XZ (0 - 5) 0 = iprop((bigSep Finset.univ fun i => iprop(∃ f, ownP c (oSlot i) f))
    ∗ (bigSep Finset.univ fun i => iprop(∃ g, ownP c (oCol i) g)) ∗ bigSep Finset.univ fun i => zeroP (F := F) c (oSem i)) := by
  unfold St
  rw [bigSep_congr (Ψ := fun i => freeC c i) (fun i _ => by unfold chunk; rw [if_neg (by omega), if_neg (by omega)])]
  exact apart3 _ _ _
theorem St_end : St c XW XS XZ 26 26 = iprop((bigSep Finset.univ fun i => iprop(∃ f, ownP c (oSlot i) f))
    ∗ (bigSep Finset.univ fun i => ownP c (oCol i) (outC c XW XS XZ)) ∗ bigSep Finset.univ fun i => zeroP (F := F) c (oSem i)) := by
  unfold St
  rw [bigSep_congr (Ψ := fun i => doneC c XW XS XZ i) (fun i _ => by
    have h : i.val < 26 := i.isLt
    unfold chunk; rw [if_pos h])]
  exact apart3 _ _ _

/-- Six groups, one by one. -/
theorem six_groups (Φ : ℕ → sProp 𝕄) : bigSep (Finset.range 6) Φ = iprop(Φ 0 ∗ Φ 1 ∗ Φ 2 ∗ Φ 3 ∗ Φ 4 ∗ Φ 5) := by
  rw [show Finset.range 6 = {0, 1, 2, 3, 4, 5} by decide, bigSep_insert (by decide), bigSep_insert (by decide), bigSep_insert (by decide),
    bigSep_insert (by decide), bigSep_insert (by decide), bigSep_singleton]
  rfl
/-- The read side before the first trip; after the last. -/
theorem Rd_zero : Rd c XW XS XZ 0 = iprop(haveP c XW XS XZ 0 ∗ (∃ W, owes (c : Thread nD τ) 0 W)
    ∗ flyG0 c XW XS XZ ∗ flyG1 c XW XS XZ ∗ flyG2 c XW XS XZ ∗ flyG3 c XW XS XZ ∗ flyG4 c XW XS XZ ∗ flyG5 c XW XS XZ) := by
  unfold Rd
  rw [six_groups]
  rfl
theorem Rd_end : Rd c XW XS XZ 26 = iprop(haveP c XW XS XZ 6656 ∗ (∃ W, owes (c : Thread nD τ) 0 W)
    ∗ homeG0 c XW XS XZ ∗ homeG1 c XW XS XZ ∗ homeG2 c XW XS XZ ∗ homeG3 c XW XS XZ ∗ homeG4 c XW XS XZ ∗ homeG5 c XW XS XZ) := by
  unfold Rd
  rw [six_groups]
  rfl
theorem have_zero : (iprop(emp) : sProp 𝕄) ⊢ haveP c XW XS XZ 0 := by
  unfold haveP
  rw [colsLt_zero, colsLt_zero, pointsTo_empty, pointsTo_empty, pointsTo_empty]
  iintro _
  isplitl []; · itrivial
  isplitl []; · itrivial
  itrivial
theorem have_all : haveP c XW XS XZ 6656 = iprop(ownP c bW XW ∗ ownP c bS XS ∗ ownP (F := F) c bZ XZ) := by
  unfold haveP
  rw [cols_all, cols_all]
  unfold ownP
  rw [show bW.view.set = Finset.univ from View.set_whole _, show bS.view.set = Finset.univ from View.set_whole _,
    show bZ.view.set = Finset.univ from View.set_whole _]

/-- What the kernel starts with; what it leaves: the operands as they were, the output filled, every cell at zero. -/
abbrev bodyPre : sProp 𝕄 :=
  iprop((∃ O, owes (c : Thread nD τ) 0 O) ∗ ownP c aW XW ∗ ownP c aS XS ∗ ownP c aZ XZ ∗ (∃ g, ownP c aO g)
    ∗ (∃ f, ownP c bW f) ∗ (∃ f, ownP c bS f) ∗ (∃ f, ownP c bZ f) ∗ (∃ f, ownP c bO f)
    ∗ xAllW c ∗ xAllS c ∗ xAllZ c ∗ bigSep Finset.univ fun i => zeroP c (oSem i))
abbrev bodyPost : sProp 𝕄 :=
  iprop((∃ O, owes (c : Thread nD τ) 0 O) ∗ ownP c aW XW ∗ ownP c aS XS ∗ ownP c aZ XZ ∗ ownP c aO (outC c XW XS XZ)
    ∗ (∃ f, ownP c bW f) ∗ (∃ f, ownP c bS f) ∗ (∃ f, ownP c bZ f) ∗ (∃ f, ownP c bO f)
    ∗ xAllW c ∗ xAllS c ∗ xAllZ c ∗ bigSep Finset.univ fun i => zeroP c (oSem i))

abbrev bodyG : Prog (TpuEff nD τ sig (Elt F) Λ₀ .tc) PUnit :=
  cc0_dequant aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7
/-- The kernel is its reads' starts, its main loop, its draining loop. -/
theorem bodyG_eq : bodyG (F := F) = (proG >>= fun _ => Scf.Loop.for k0_t1_loop k0_t1_ok ⟨⟩ (fun k _ => body1 k)
    >>= fun _ => Scf.Loop.for k0_t2_loop k0_t2_ok ⟨⟩ (fun k _ => body2 k) >>= fun _ => pure PUnit.unit) := by
  unfold proG bodyG
  rw [cc0_dequant_eq_skeleton, Prog.bind_assoc]
  refine congrArg (_ >>= ·) ?_
  funext _
  rw [Prog.bind_assoc]

set_option warn.classDefReducibility false in
/-- The loops' invariants at the loops as the kernel runs them. -/
abbrev L1 : LoopInv (M := 𝕄) Idealize.ShloMosaic.frame (wpE (defs₀ (F := F)) 𝒱₀ (c : Thread nD τ) none) Set.univ
    k0_t1_loop.lb k0_t1_loop.ub k0_t1_loop.st k0_t1_ok () (fun k _ => body1 k) := loopInv1 c XW XS XZ
set_option warn.classDefReducibility false in
abbrev L2 : LoopInv (M := 𝕄) Idealize.ShloMosaic.frame (wpE (defs₀ (F := F)) 𝒱₀ (c : Thread nD τ) none) Set.univ
    k0_t2_loop.lb k0_t2_loop.ub k0_t2_loop.st k0_t2_ok () (fun k _ => body2 k) := loopInv2 c XW XS XZ
theorem loop1_in : iprop(Rd c XW XS XZ 0 ∗ St c XW XS XZ (0 - 5) 0) = (L1 c XW XS XZ).inv 0 () := rfl
theorem loop1_out (u : Unit) : (L1 c XW XS XZ).inv (Scf.trips k0_t1_loop.lb k0_t1_loop.ub k0_t1_loop.st) u = (L2 c XW XS XZ).inv 0 () := rfl
theorem loop2_out (u : Unit) : (L2 c XW XS XZ).inv (Scf.trips k0_t2_loop.lb k0_t2_loop.ub k0_t2_loop.st) u = iprop(Rd c XW XS XZ 26 ∗ St c XW XS XZ 26 26) := rfl
/-- The two loops. -/
theorem loops_run :
    iprop(Rd c XW XS XZ 0 ∗ St c XW XS XZ (0 - 5) 0)
      ⊢ wp frame (wpE (defs₀ (F := F)) 𝒱₀ (c : Thread nD τ) none) Set.univ
        (Scf.Loop.for k0_t1_loop k0_t1_ok ⟨⟩ (fun k _ => body1 (F := F) k)
          >>= fun _ => Scf.Loop.for k0_t2_loop k0_t2_ok ⟨⟩ (fun k _ => body2 (F := F) k) >>= fun _ => pure PUnit.unit)
        (fun _ => iprop(Rd c XW XS XZ 26 ∗ St c XW XS XZ 26 26)) := by
  rw [loop1_in]
  iintro H
  iapply (exec_loop Idealize.ShloMosaic.frame (wpE (defs₀ (F := F)) 𝒱₀ (c : Thread nD τ) none) Set.univ
    k0_t1_loop.lb k0_t1_loop.ub k0_t1_loop.st k0_t1_ok () (fun k _ => body1 k) (L1 c XW XS XZ)) $$ [H]
  · iexact H
  iintro %u H
  ihave H := (ent_eq (loop1_out c XW XS XZ u)) $$ H
  iapply (exec_loop Idealize.ShloMosaic.frame (wpE (defs₀ (F := F)) 𝒱₀ (c : Thread nD τ) none) Set.univ
    k0_t2_loop.lb k0_t2_loop.ub k0_t2_loop.st k0_t2_ok () (fun k _ => body2 k) (L2 c XW XS XZ)) $$ [H]
  · iexact H
  iintro %u' H
  ihave H := (ent_eq (loop2_out c XW XS XZ u')) $$ H
  sl_step
  iexact H

set_option maxHeartbeats 2000000 in
theorem bodyRun :
    bodyPre c XW XS XZ ⊢ wp frame (wpE (defs₀ (F := F)) 𝒱₀ (c : Thread nD τ) none) Set.univ bodyG (fun _ => bodyPost c XW XS XZ) := by
  rw [bodyG_eq, wp_bind]
  iintro ⟨HO, HW, HS, HZ, ⟨%g, HA⟩, ⟨%fW, HbW⟩, ⟨%fS, HbS⟩, ⟨%fZ, HbZ⟩, ⟨%fO, HbO⟩, HxW, HxS, HxZ, Hx⟩
  ihave HW := (ent_eq (hAllW_eq c XW)) $$ HW
  ihave HS := (ent_eq (hAllS_eq c XS)) $$ HS
  ihave HZ := (ent_eq (hAllZ_eq c XZ)) $$ HZ
  ihave HbW := (ent_eq (vAllW_eq c fW)) $$ HbW
  ihave HbS := (ent_eq (vAllS_eq c fS)) $$ HbS
  ihave HbZ := (ent_eq (vAllZ_eq c fZ)) $$ HbZ
  ihave HA := (ent_eq (out_cols c g)) $$ HA
  ihave HbO := (ent_eq (out_slots c fO)) $$ HbO
  ihave HA := (cols_some c g) $$ HA
  ihave HbO := (slots_some c fO) $$ HbO
  iapply (wp_wand_r Idealize.ShloMosaic.frame (wpE (defs₀ (F := F)) 𝒱₀ (c : Thread nD τ) none) Set.univ)
  isplitl [HO HW HS HZ HbW HbS HbZ HxW HxS HxZ]
  · iapply (pro_run c XW XS XZ fW fS fZ)
    isplitl [HO]; · iexact HO
    isplitl [HW]; · iexact HW
    isplitl [HS]; · iexact HS
    isplitl [HZ]; · iexact HZ
    isplitl [HbW]; · iexact HbW
    isplitl [HbS]; · iexact HbS
    isplitl [HbZ]; · iexact HbZ
    isplitl [HxW]; · iexact HxW
    isplitl [HxS]; · iexact HxS
    iexact HxZ
  iintro %_ ⟨HO, HG⟩
  iapply (wp_wand_r Idealize.ShloMosaic.frame (wpE (defs₀ (F := F)) 𝒱₀ (c : Thread nD τ) none) Set.univ)
  isplitl [HO HG HA HbO Hx]
  · iapply (loops_run c XW XS XZ)
    isplitl [HO HG]
    · iapply (ent_eq (Rd_zero c XW XS XZ).symm)
      isplitl []
      · iapply (have_zero c XW XS XZ)
        itrivial
      isplitl [HO]; · iexact HO
      iexact HG
    iapply (ent_eq (St_zero c XW XS XZ).symm)
    isplitl [HbO]; · iexact HbO
    isplitl [HA]; · iexact HA
    iexact Hx
  iintro %_ ⟨HR, HT⟩
  ihave HR := (ent_eq (Rd_end c XW XS XZ)) $$ HR
  ihave HT := (ent_eq (St_end c XW XS XZ)) $$ HT
  icases HR with ⟨HV, HO, ⟨HxS0, HxZ0, HxW0, HS0, HZ0, HW0⟩, ⟨HxS1, HxZ1, HxW1, HS1, HZ1, HW1⟩, ⟨HxS2, HxZ2, HxW2, HS2, HZ2, HW2⟩,
    ⟨HxS3, HxZ3, HxW3, HS3, HZ3, HW3⟩, ⟨HxS4, HxZ4, HxW4, HS4, HZ4, HW4⟩, HxS5, HxZ5, HxW5, HS5, HZ5, HW5⟩
  icases HT with ⟨HbO, HA, Hx⟩
  ihave HV := (ent_eq (have_all c XW XS XZ)) $$ HV
  icases HV with ⟨HbW, HbS, HbZ⟩
  isplitl [HO]; · iexact HO
  isplitl [HW0 HW1 HW2 HW3 HW4 HW5]
  · iapply (ent_eq (hAllW_eq c XW).symm)
    isplitr [HW5]
    · isplitr [HW4]
      · isplitr [HW3]
        · isplitr [HW2]
          · isplitr [HW1]
            · iexact HW0
            iexact HW1
          iexact HW2
        iexact HW3
      iexact HW4
    iexact HW5
  isplitl [HS0 HS1 HS2 HS3 HS4 HS5]
  · iapply (ent_eq (hAllS_eq c XS).symm)
    isplitr [HS5]
    · isplitr [HS4]
      · isplitr [HS3]
        · isplitr [HS2]
          · isplitr [HS1]
            · iexact HS0
            iexact HS1
          iexact HS2
        iexact HS3
      iexact HS4
    iexact HS5
  isplitl [HZ0 HZ1 HZ2 HZ3 HZ4 HZ5]
  · iapply (ent_eq (hAllZ_eq c XZ).symm)
    isplitr [HZ5]
    · isplitr [HZ4]
      · isplitr [HZ3]
        · isplitr [HZ2]
          · isplitr [HZ1]
            · iexact HZ0
            iexact HZ1
          iexact HZ2
        iexact HZ3
      iexact HZ4
    iexact HZ5
  isplitl [HA]
  · iapply (ent_eq (out_cols c (outC c XW XS XZ)).symm)
    iexact HA
  isplitl [HbW]
  · iexists XW
    iexact HbW
  isplitl [HbS]
  · iexists XS
    iexact HbS
  isplitl [HbZ]
  · iexists XZ
    iexact HbZ
  isplitl [HbO]
  · iapply (slots_join c fO)
    iexact HbO
  isplitl [HxW0 HxW1 HxW2 HxW3 HxW4 HxW5]
  · isplitr [HxW5]
    · isplitr [HxW4]
      · isplitr [HxW3]
        · isplitr [HxW2]
          · isplitr [HxW1]
            · iexact HxW0
            iexact HxW1
          iexact HxW2
        iexact HxW3
      iexact HxW4
    iexact HxW5
  isplitl [HxS0 HxS1 HxS2 HxS3 HxS4 HxS5]
  · isplitr [HxS5]
    · isplitr [HxS4]
      · isplitr [HxS3]
        · isplitr [HxS2]
          · isplitr [HxS1]
            · iexact HxS0
            iexact HxS1
          iexact HxS2
        iexact HxS3
      iexact HxS4
    iexact HxS5
  isplitl [HxZ0 HxZ1 HxZ2 HxZ3 HxZ4 HxZ5]
  · isplitr [HxZ5]
    · isplitr [HxZ4]
      · isplitr [HxZ3]
        · isplitr [HxZ2]
          · isplitr [HxZ1]
            · iexact HxZ0
            iexact HxZ1
          iexact HxZ2
        iexact HxZ3
      iexact HxZ4
    iexact HxZ5
  iexact Hx
end

end Cert.Proof.Kernel

end
-- ==== Proof.Kernel.Launch.lean ====
module

public import proofs.«01_k».proof.Proof.Kernel.Body
public import Idealize.ShloMosaic.Lib.Pipeline.FrameSuffixV

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! The launch: @main runs the kernel once, on whole arrays, and then three host operations on its output. -/

/-- The kernel's own cells: the eighteen of its reads, the one of each chunk's write. -/
def readCells : Fin 18 → DmaSems sig S_ :=
  ![xW0, xW1, xW2, xW3, xW4, xW5, xS0, xS1, xS2, xS3, xS4, xS5, xZ0, xZ1, xZ2, xZ3, xZ4, xZ5]
def osem : Fin 18 ⊕ Fin k0_t1_loop.trips → SemLoc sig :=
  Sum.elim (fun j => SemLoc.dma (readCells j).sem) (fun i => SemLoc.dma (oSem i).sem)
theorem ownSemFacts : Pipeline.OwnSemFacts (cfg0.spec) osem := by decide +kernel

section
variable (m : (ℓ : Loc nD τ sig) → Buf (Elt F) ℓ) (ρ : Dev nD → PrngReg)

/-- The contents at launch. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The host operations touch unscoped arrays only, allocate nothing, and no array of theirs is staged. -/
theorem sfx_sub : ∀ ops ∈ ([hostOps1] : List (List (HloOp τ sig (Elt F)))), ∀ op ∈ ops,
    op.bufs ⊆ Pipeline.tailRefs sig Pipeline.Prefetch.none (cfg0.spec) := by
  rw [Pipeline.tailRefs_none (cfg0.spec) launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef (cfg0.spec) w) ∉ op.writes :=
  fun _ _ _ _ w => w.elim0

/-- The arrays read whole; the array written. -/
def HR : Finset (Ref sig .tc) := {main_arg0, main_arg1, main_arg2}
def RR : Finset (Ref sig .tc) := {main_v0}
/-- What the written array ends at. -/
def G (c : Dev nD) (b : Ref sig .tc) : Buf (Elt F) ((c : Thread nD τ).loc b) :=
  if h : b = main_v0 then h ▸ outC c (V m c main_arg0) (V m c main_arg1) (V m c main_arg2) else V m c b
theorem G_out (c : Dev nD) : G m c main_v0 = outC c (V m c main_arg0) (V m c main_arg1) (V m c main_arg2) := by
  unfold G; rw [dif_pos rfl]

theorem HR_eq (Φ : Ref sig .tc → sProp 𝕄) : bigSep HR Φ = iprop(Φ main_arg0 ∗ Φ main_arg1 ∗ Φ main_arg2) := by
  unfold HR
  rw [bigSep_insert (by decide), bigSep_insert (by decide), bigSep_singleton]
  rfl
theorem RR_eq (Φ : Ref sig .tc → sProp 𝕄) : bigSep RR Φ = Φ main_v0 := bigSep_singleton
theorem cells_eq (c : Dev nD) : (Pipeline.ownSems0 (Ix := Unit) (Name := ℕ) (U := UU nD τ) (Lvl := ℕ) (Val := Elt F) (τ := τ) osem c : sProp 𝕄)
    = iprop((zeroP c xW0 ∗ zeroP c xW1 ∗ zeroP c xW2 ∗ zeroP c xW3 ∗ zeroP c xW4 ∗ zeroP c xW5
      ∗ zeroP c xS0 ∗ zeroP c xS1 ∗ zeroP c xS2 ∗ zeroP c xS3 ∗ zeroP c xS4 ∗ zeroP c xS5
      ∗ zeroP c xZ0 ∗ zeroP c xZ1 ∗ zeroP c xZ2 ∗ zeroP c xZ3 ∗ zeroP c xZ4 ∗ zeroP c xZ5) ∗ bigSep Finset.univ fun i => zeroP c (oSem i)) := by
  unfold Pipeline.ownSems0
  rw [bigSep_univ_sum, bigSep_univ_eq_bigSepL [0, 1, 2, 3, 4, 5, 6, 7, 8, 9, 10, 11, 12, 13, 14, 15, 16, 17] (by decide) (by decide)]
  rfl

/-- What the region holds besides the staged windows (there are none), the written array at `g`. -/
abbrev heldR (g : (c : Dev nD) → (b : Ref sig .tc) → Buf (Elt F) ((c : Thread nD τ).loc b)) (c : Dev nD) : sProp 𝕄 :=
  Pipeline.ΦDRV osem (cfg0.spec) HR RR (V m) g c

def dats (_ : Fin 1) (c : Dev nD) : Dat τ (Elt F) Unit ℕ (UU nD τ) ℕ cfg0 c where
  A w := V m c (Pipeline.arrRef (cfg0.spec) w)
  after w _ := w.elim0
  Φ t := heldR m (if t.val = 0 then V m else G m) c
  q _ := fullShare
  owed _ := 0

theorem held_in (c : Dev nD) (g) : heldR m g c = iprop(
    ((∃ f, ownP c bW f) ∗ (∃ f, ownP c bS f) ∗ (∃ f, ownP c bZ f) ∗ (∃ f, ownP c bO f))
    ∗ ((zeroP c xW0 ∗ zeroP c xW1 ∗ zeroP c xW2 ∗ zeroP c xW3 ∗ zeroP c xW4 ∗ zeroP c xW5
      ∗ zeroP c xS0 ∗ zeroP c xS1 ∗ zeroP c xS2 ∗ zeroP c xS3 ∗ zeroP c xS4 ∗ zeroP c xS5
      ∗ zeroP c xZ0 ∗ zeroP c xZ1 ∗ zeroP c xZ2 ∗ zeroP c xZ3 ∗ zeroP c xZ4 ∗ zeroP c xZ5) ∗ bigSep Finset.univ fun i => zeroP c (oSem i))
    ∗ (ownP c aW (V m c main_arg0) ∗ ownP c aS (V m c main_arg1) ∗ ownP c aZ (V m c main_arg2)) ∗ ownP c aO (g c main_v0)) := by
  unfold heldR Pipeline.ΦDRV
  rw [HR_eq, RR_eq, cells_eq, scopedRest0_eq]
  unfold ownP
  rw [show bW.view.set = Finset.univ from View.set_whole _, show bS.view.set = Finset.univ from View.set_whole _,
    show bZ.view.set = Finset.univ from View.set_whole _, show bO.view.set = Finset.univ from View.set_whole _,
    show aW.view.set = Finset.univ from View.set_whole _, show aS.view.set = Finset.univ from View.set_whole _,
    show aZ.view.set = Finset.univ from View.set_whole _, show aO.view.set = Finset.univ from View.set_whole _]

theorem defs_tc : (defs₀ (F := F)) .tc cfg0.body = fun a => bodyG := rfl
theorem prog_eq (t : Fin cfg0.N) : (defs₀ (F := F)) .tc cfg0.body (cfg0.bodyArgs t (cfg0.slots t)) = bodyG :=
  (congrFun defs_tc _).trans rfl

set_option backward.isDefEq.respectTransparency.types false in
set_option maxHeartbeats 2000000 in
theorem body_obligation (c : Dev nD) : BodyObligation (dats (F := F) m 0 c) (defs₀ (F := F)) 𝒱₀ () Set.univ := fun t => by
  have ht : t.val = 0 := congrArg Fin.val (fin_N0 t)
  rw [show (dats m 0 c).Φ t.castSucc = heldR m (V m) c from congrArg (fun g => heldR m g c) (if_pos ht),
    show (dats m 0 c).Φ t.succ = heldR m (G m) c from congrArg (fun g => heldR m g c) (if_neg (Nat.succ_ne_zero _)), held_in, held_in, G_out]
  unfold Dat.owesAt Pipeline.owesWithin
  rw [show (dats m 0 c).owed t.castSucc = 0 from rfl, show (dats m 0 c).owed t.succ = 0 from rfl]
  iintro ⟨⟨⟨HbW, HbS, HbZ, HbO⟩, ⟨⟨W0, W1, W2, W3, W4, W5, S0, S1, S2, S3, S4, S5, Z0, Z1, Z2, Z3, Z4, Z5⟩, Hx⟩, ⟨HW, HS, HZ⟩, HA⟩, ⟨%W, -, HO⟩, HE⟩
  sl_rw [prog_eq t]
  iapply (wp_wand_r Idealize.ShloMosaic.frame (wpE (defs₀ (F := F)) 𝒱₀ (c : Thread nD τ) none) Set.univ)
  isplitr [HE]
  · iapply (bodyRun c (V m c main_arg0) (V m c main_arg1) (V m c main_arg2))
    isplitl [HO]; · iexists W; iexact HO
    isplitl [HW]; · iexact HW
    isplitl [HS]; · iexact HS
    isplitl [HZ]; · iexact HZ
    isplitl [HA]; · iexists _; iexact HA
    isplitl [HbW]; · iexact HbW
    isplitl [HbS]; · iexact HbS
    isplitl [HbZ]; · iexact HbZ
    isplitl [HbO]; · iexact HbO
    isplitl [W0 W1 W2 W3 W4 W5]
    · isplitr [W5]
      · isplitr [W4]
        · isplitr [W3]
          · isplitr [W2]
            · isplitl [W0]; · iexact W0
              iexact W1
            iexact W2
          iexact W3
        iexact W4
      iexact W5
    isplitl [S0 S1 S2 S3 S4 S5]
    · isplitr [S5]
      · isplitr [S4]
        · isplitr [S3]
          · isplitr [S2]
            · isplitl [S0]; · iexact S0
              iexact S1
            iexact S2
          iexact S3
        iexact S4
      iexact S5
    isplitl [Z0 Z1 Z2 Z3 Z4 Z5]
    · isplitr [Z5]
      · isplitr [Z4]
        · isplitr [Z3]
          · isplitr [Z2]
            · isplitl [Z0]; · iexact Z0
              iexact Z1
            iexact Z2
          iexact Z3
        iexact Z4
      iexact Z5
    iexact Hx
  iintro %_ ⟨⟨%W', HO⟩, HW, HS, HZ, HA, HbW, HbS, HbZ, HbO, ⟨⟨⟨⟨⟨W0, W1⟩, W2⟩, W3⟩, W4⟩, W5⟩, ⟨⟨⟨⟨⟨S0, S1⟩, S2⟩, S3⟩, S4⟩, S5⟩, ⟨⟨⟨⟨⟨Z0, Z1⟩, Z2⟩, Z3⟩, Z4⟩, Z5⟩, Hx⟩
  isplitr [HO HE]
  · isplitl [HbW HbS HbZ HbO]
    · isplitl [HbW]; · iexact HbW
      isplitl [HbS]; · iexact HbS
      isplitl [HbZ]; · iexact HbZ
      iexact HbO
    isplitr [HW HS HZ HA]
    · isplitr [Hx]
      · isplitl [W0]; · iexact W0
        isplitl [W1]; · iexact W1
        isplitl [W2]; · iexact W2
        isplitl [W3]; · iexact W3
        isplitl [W4]; · iexact W4
        isplitl [W5]; · iexact W5
        isplitl [S0]; · iexact S0
        isplitl [S1]; · iexact S1
        isplitl [S2]; · iexact S2
        isplitl [S3]; · iexact S3
        isplitl [S4]; · iexact S4
        isplitl [S5]; · iexact S5
        isplitl [Z0]; · iexact Z0
        isplitl [Z1]; · iexact Z1
        isplitl [Z2]; · iexact Z2
        isplitl [Z3]; · iexact Z3
        isplitl [Z4]; · iexact Z4
        iexact Z5
      iexact Hx
    isplitr [HA]
    · isplitl [HW]; · iexact HW
      isplitl [HS]; · iexact HS
      iexact HZ
    iexact HA
  isplitl [HO]
  · iexists W'; isplitr; · ipureintro; exact fun _ _ => Or.inl trivial
    iexact HO
  iexact HE

/-- What the program leaves in array `b`: the host operations' result over the launch contents and the kernel's output. -/
def finalV (c : Dev nD) (b : Ref sig .tc) : Buf (Elt F) ((c : Thread nD τ).loc b) :=
  StableHlo.after ([hostOps1].flatten) (Pipeline.withArrays (cfg0.spec) c (Pipeline.withR (V0 m c) RR c (G m c)) fun w => (dats m 0 c).arrAt w cfg0.N) (Proc.devRef .tc b)

set_option backward.isDefEq.respectTransparency.types false in
/-- From any memory with zero counters every fair execution of @main ends, without fault, every array outside the kernel's
scratch at `finalV` and every counter at zero. -/
theorem run_main : θ_run defs (onTc (τ := τ) (main (F := F))) (s₀ m ρ)
    (fun r => (∀ c : Dev nD, ∀ b ∈ Pipeline.restRefs sig (cfg0.spec), r.2.mem ((c : Thread nD τ).loc b) = finalV m c b) ∧ r.2.sem = fun _ => 0) :=
  Pipeline.θ_run_frame_dmaR_aroundV cfgs (dats m) (0 : Fin 1) launch0 osem defs₀ 𝒱₀ ownSemFacts HR RR (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G m) (hmain := hmain m)
    (hA := fun _ _ => rfl) (hin := fun c => ent_eq rfl) (hout := fun c => ent_eq rfl)
    (Q' := fun r => (∀ c : Dev nD, ∀ b ∈ Pipeline.restRefs sig (cfg0.spec), r.2.mem ((c : Thread nD τ).loc b) = finalV m c b) ∧ r.2.sem = fun _ => 0)
    (hQ' := fun r h => ⟨fun c b hb => (h.1 c).2 b hb, h.2⟩)
end

end Cert.Proof.Kernel

end
-- ==== Proof.Kernel.Frame.lean ====
module

public import proofs.«01_k».proof.Proof.Kernel.Launch

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! # What the program leaves in its argument arrays -/

section
variable (m : (ℓ : Loc nD τ sig) → Buf (Elt F) ℓ) (ρ : Dev nD → PrngReg)

/-- The host operations after the kernel write none of the arrays `b` that differ from their results, and the kernel writes
only its result array: such an array ends as launched. -/
theorem finalV_main_arg0 (c : Dev nD) : finalV m c main_arg0 = m ((c : Thread nD τ).loc main_arg0) := by
  unfold finalV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Pipeline.withR (V0 m c) RR c (G m c)) _ main_arg0 (by exact (by decide : ∀ w, Pipeline.arrRef (cfg0.spec) w ≠ main_arg0)),
    Pipeline.withR_of_not_mem _ _ _ _ main_arg0 (by decide)]
  rfl
theorem finalV_main_arg1 (c : Dev nD) : finalV m c main_arg1 = m ((c : Thread nD τ).loc main_arg1) := by
  unfold finalV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Pipeline.withR (V0 m c) RR c (G m c)) _ main_arg1 (by exact (by decide : ∀ w, Pipeline.arrRef (cfg0.spec) w ≠ main_arg1)),
    Pipeline.withR_of_not_mem _ _ _ _ main_arg1 (by decide)]
  rfl
theorem finalV_main_arg2 (c : Dev nD) : finalV m c main_arg2 = m ((c : Thread nD τ).loc main_arg2) := by
  unfold finalV
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Pipeline.withR (V0 m c) RR c (G m c)) _ main_arg2 (by exact (by decide : ∀ w, Pipeline.arrRef (cfg0.spec) w ≠ main_arg2)),
    Pipeline.withR_of_not_mem _ _ _ _ main_arg2 (by decide)]
  rfl

/-- Every execution of the program ends without fault, its arguments as launched, its result array at `finalV` and every
counter at zero. -/
theorem run_value : θ_run defs (onTc (τ := τ) (main (F := F))) ⟨m, fun _ => 0, ρ⟩
    (fun r => (∀ c : Dev nD, r.2.mem ((c : Thread nD τ).loc main_v3) = finalV m c main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
      ⟨h.1 c main_v3 (Pipeline.mem_restRefs_of main_v3 (by decide) (by decide)),
       (h.1 c main_arg0 (Pipeline.mem_restRefs_of main_arg0 (by decide) (by decide))).trans (finalV_main_arg0 m c),
       (h.1 c main_arg1 (Pipeline.mem_restRefs_of main_arg1 (by decide) (by decide))).trans (finalV_main_arg1 m c),
       (h.1 c main_arg2 (Pipeline.mem_restRefs_of main_arg2 (by decide) (by decide))).trans (finalV_main_arg2 m c)⟩, h.2⟩) (run_main m ρ)

/-- Every execution ends without fault, its arguments as launched and every counter at zero. -/
theorem quiet : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).2, h.2⟩) (run_value m ρ)
end

end Cert.Proof.Kernel

end
-- ==== Proof.KernelIdeal.Names.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! Names: the resource algebra, the arrays and scratch buffers as the body sees them, one chunk's windows of each,
and the tile a chunk's row of stores leaves, as a function of the tile's number. -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev aW : Memref sig .tc .hbm S208x6656 .i32 := Memref.whole main_arg0
abbrev aS : Memref sig .tc .hbm S13x6656 .bf16 := Memref.whole main_arg1
abbrev aZ : Memref sig .tc .hbm S13x6656 .bf16 := Memref.whole main_arg2
abbrev aO : Memref sig .tc .hbm S208x26x16x128 .bf16 := Memref.whole main_v0
abbrev bW : Memref sig .tc .vmem S208x6656 .i32 := Memref.whole cc0_scoped0
abbrev bS : Memref sig .tc .vmem S13x6656 .bf16 := Memref.whole cc0_scoped1
abbrev bZ : Memref sig .tc .vmem S13x6656 .bf16 := Memref.whole cc0_scoped2
abbrev bO : Memref sig .tc .vmem S26x208x16x128 .bf16 := Memref.whole cc0_scoped3

/-- Chunk `k`'s 256 columns of the packed words, of the scales and of the zeros, in VMEM. -/
abbrev wWin (k : Fin k0_t1_loop.trips) : Memref sig .tc .vmem S208x256 .i32 :=
  bW.slice (Rect.unit (s := S208x6656) (k0_off2 k) S208x256.size (k0_off2_inb k)) (fun _ => rfl)
abbrev sWin (k : Fin k0_t1_loop.trips) : Memref sig .tc .vmem S13x256 .bf16 :=
  bS.slice (Rect.unit (s := S13x6656) (k0_off1 k) S13x256.size (k0_off1_inb k)) (fun _ => rfl)
abbrev zWin (k : Fin k0_t1_loop.trips) : Memref sig .tc .vmem S13x256 .bf16 :=
  bZ.slice (Rect.unit (s := S13x6656) (k0_off1 k) S13x256.size (k0_off1_inb k)) (fun _ => rfl)
/-- Chunk `k`'s slab of the output scratch. -/
abbrev oSlot (k : Fin k0_t1_loop.trips) : Memref sig .tc .vmem S208x16x128 .bf16 :=
  (bO.slice (Rect.unit (s := S26x208x16x128) (k0_off3 k) S1x208x16x128.size (k0_off3_inb k)) (fun _ => rfl)).squeeze S208x16x128 squeezes_S1x208x16x128_S208x16x128

theorem inb_row (g : ℕ) : ∀ a, (![g % 13, 0] : Fin 2 → ℕ) a + S1x256.size a ≤ S13x256.size a := by
  have := Nat.mod_lt g (show 0 < 13 by omega)
  intro a; fin_cases a <;> simp <;> omega
theorem inb_words (i : ℕ) : ∀ a, (![8 * (i % 26), 0] : Fin 2 → ℕ) a + S8x256.size a ≤ S208x256.size a := by
  have := Nat.mod_lt i (show 0 < 26 by omega)
  intro a; fin_cases a <;> simp <;> omega

/-- A store through one rectangle of a view leaves what a disjoint rectangle reads. -/
theorem read_slice_keep {sig : RefSig} {κ : Kind} {sp : Space} {s : Shape} {e : EltTy} {Val : EltTy → Type} (v : Memref sig κ sp s e)
    (r r' : Rect s) (f : v.view.ty.Contents Val) (w : r'.shape.Idx → Val e) (h : Disjoint (v.view.slice r).set (v.view.slice r').set) :
    (v.access r).read Val ((v.access r').write Val f w Finset.univ) = (v.access r).read Val f :=
  View.read_slice_write_slice_of_disjoint r r' f w Finset.univ (by rwa [View.setOn_univ])

section Tile
variable {c : Dev nD} (k : Fin k0_t1_loop.trips)
  (fW : Buf (Elt F) ((wWin k).view.loc (c : Thread nD τ))) (fS : Buf (Elt F) ((sWin k).view.loc (c : Thread nD τ)))
  (fZ : Buf (Elt F) ((zWin k).view.loc (c : Thread nD τ)))

/-- Row `g` of the chunk's scales; of its zeros; the `i`-th block of eight rows of its words. -/
def sRow (g : ℕ) : Vec F S1x256 .bf16 :=
  (sWin k).view.readAt (Elt F) (Rect.unit (s := S13x256) ![g % 13, 0] S1x256.size (inb_row g)).toLoadRect fS
def zRow (g : ℕ) : Vec F S1x256 .bf16 :=
  (zWin k).view.readAt (Elt F) (Rect.unit (s := S13x256) ![g % 13, 0] S1x256.size (inb_row g)).toLoadRect fZ
def wRows (i : ℕ) : Vec F S8x256 .i32 :=
  (wWin k).view.readAt (Elt F) (Rect.unit (s := S208x256) ![8 * (i % 26), 0] S8x256.size (inb_words i)).toLoadRect fW

/-- The words that carry nibble `f` of eight rows in their low nibble: a shift of the packed low or high halves. -/
def quads (w : Vec F S8x256 .i32) : ℕ → IVec S8x128 32
  | 0 => k0_pay33 w
  | 1 => shrui (k0_pay33 w) (broadcast S8x128 4#32)
  | 2 => shrui (k0_pay33 w) (broadcast S8x128 8#32)
  | 3 => shrui (k0_pay33 w) (broadcast S8x128 12#32)
  | 4 => k0_pay34 w
  | 5 => shrui (k0_pay34 w) (broadcast S8x128 4#32)
  | 6 => shrui (k0_pay34 w) (broadcast S8x128 8#32)
  | _ => shrui (k0_pay34 w) (broadcast S8x128 12#32)

/-- A tile from its words, its scales and its zeros. -/
def tileOf (s z : FVec F S16x128 .bf16) (q : IVec S8x128 32) : Vec F S1x1x16x128 .bf16 :=
  shapeCast S1x1x16x128
    (shapeCast S1x16x128
      (mulf (subf (subf
        (bitcastToFloat .bf16 (bitcast S16x128 16
          (ori (andi q (broadcast S8x128 983055#32)) (broadcast S8x128 1124090624#32)) bitcasts_S8x128_w32_S16x128_w16))
        (broadcast S16x128 (Scalar.ofBits .bf16 0x4300#16))) z) s)
      shapeCasts_S16x128_S1x16x128)
    shapeCasts_S1x16x128_S1x1x16x128

/-- Tile `t` of the chunk: nibble `t / 26` of the words' block `t % 26`, under the scales and zeros of group `8 t / 128`. -/
def tileAt (t : ℕ) : Vec F S1x1x16x128 .bf16 :=
  tileOf (k0_pay1 (sRow k fS (t * 8 / 128))) (k0_pay1 (zRow k fZ (t * 8 / 128))) (quads (wRows k fW (t % 26)) (t / 26))

/-- The contents `f` of the output scratch hold chunk `k`'s tile `t` for every `t` of the list. -/
def Agree (f : Buf (Elt F) ((oSlot k).view.loc (c : Thread nD τ))) (T : List ℕ) : Prop :=
  ∀ t ∈ T, ∀ inb, (bO.access (Rect.unit (s := S26x208x16x128) ![k.val, t, 0, 0] S1x1x16x128.size inb)).read (Elt F) f
    = tileAt k fW fS fZ t

theorem agree_nil (f : Buf (Elt F) ((oSlot k).view.loc (c : Thread nD τ))) : Agree k fW fS fZ f [] := by
  intro t ht; simp at ht

/-- One store of a tile keeps the tiles stored before and adds its own. -/
theorem agree_step {off : Fin 4 → ℕ} [h : ClosedOff off] {inb}
    {f : Buf (Elt F) ((oSlot k).view.loc (c : Thread nD τ))} {w : Vec F S1x1x16x128 .bf16} {t : ℕ} {T : List ℕ}
    (ho : h.form = ![k.val, t, 0, 0]) (hw : w = tileAt k fW fS fZ t) (hf : Agree k fW fS fZ f T) :
    Agree k fW fS fZ ((bO.access (Rect.unit (s := S26x208x16x128) off S1x1x16x128.size inb)).write (Elt F) f w Finset.univ) (t :: T) := by
  obtain rfl : off = ![k.val, t, 0, 0] := h.eq.trans ho
  intro t' ht' inb'
  by_cases e : t' = t
  · subst e; rw [hw]; exact View.read_write_univ _ _
  · have ht : t' ∈ T := by
      rcases List.mem_cons.1 ht' with h | h
      · exact absurd h e
      · exact h
    have hd : Disjoint (bO.view.slice (Rect.unit (s := S26x208x16x128) ![k.val, t', 0, 0] S1x1x16x128.size inb')).set
        (bO.view.slice (Rect.unit (s := S26x208x16x128) ![k.val, t, 0, 0] S1x1x16x128.size inb)).set :=
      View.disjoint_slice_of_sep bO.view _ _ (1 : Fin 4) rfl rfl (by
        show t' + 1 ≤ t ∨ t + 1 ≤ t'
        omega)
    have h1 := read_slice_keep (Val := Elt F) bO (Rect.unit (s := S26x208x16x128) ![k.val, t', 0, 0] S1x1x16x128.size inb')
      (Rect.unit (s := S26x208x16x128) ![k.val, t, 0, 0] S1x1x16x128.size inb) f w hd
    have h2 := hf t' ht inb'
    exact h1.trans h2

end Tile

/-- Chunk `k`'s three windows in VMEM. -/
abbrev winPre (c : Dev nD) (k : Fin k0_t1_loop.trips)
    (fW : Buf (Elt F) ((wWin k).view.loc (c : Thread nD τ))) (fS : Buf (Elt F) ((sWin k).view.loc (c : Thread nD τ)))
    (fZ : Buf (Elt F) ((zWin k).view.loc (c : Thread nD τ))) : sProp 𝕄 :=
  iprop(((wWin k).view.loc (c : Thread nD τ) ↦[(wWin k).view.set]{fullShare} fW)
    ∗ ((sWin k).view.loc (c : Thread nD τ) ↦[(sWin k).view.set]{fullShare} fS)
    ∗ ((zWin k).view.loc (c : Thread nD τ) ↦[(zWin k).view.set]{fullShare} fZ))

end Cert.Proof.KernelIdeal

end
-- ==== Proof.KernelIdeal.Reads.lean ====
module

public import proofs.«01_k».proof.Proof.KernelIdeal.Names

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! The six column groups of the operands: their windows in HBM and VMEM and their transfers' semaphores. -/

abbrev hW0 : Memref sig .tc .hbm S208x256 .i32 :=
  aW.slice (Rect.unit (s := S208x6656) ![0, 0] S208x256.size inb_S208x6656_S208x256_0_0) (fun _ => rfl)
abbrev vW0 : Memref sig .tc .vmem S208x256 .i32 :=
  bW.slice (Rect.unit (s := S208x6656) ![0, 0] S208x256.size inb_S208x6656_S208x256_0_0) (fun _ => rfl)
abbrev xW0 : DmaSems sig S_ := (cc0_scoped4.slice (Rect.unit (s := S6) ![0] S1.size inb_S6_S1_0)).squeeze S_ squeezes_S1_S_
abbrev hS0 : Memref sig .tc .hbm S13x256 .bf16 :=
  aS.slice (Rect.unit (s := S13x6656) ![0, 0] S13x256.size inb_S13x6656_S13x256_0_0) (fun _ => rfl)
abbrev vS0 : Memref sig .tc .vmem S13x256 .bf16 :=
  bS.slice (Rect.unit (s := S13x6656) ![0, 0] S13x256.size inb_S13x6656_S13x256_0_0) (fun _ => rfl)
abbrev xS0 : DmaSems sig S_ := (cc0_scoped5.slice (Rect.unit (s := S6) ![0] S1.size inb_S6_S1_0)).squeeze S_ squeezes_S1_S_
abbrev hZ0 : Memref sig .tc .hbm S13x256 .bf16 :=
  aZ.slice (Rect.unit (s := S13x6656) ![0, 0] S13x256.size inb_S13x6656_S13x256_0_0) (fun _ => rfl)
abbrev vZ0 : Memref sig .tc .vmem S13x256 .bf16 :=
  bZ.slice (Rect.unit (s := S13x6656) ![0, 0] S13x256.size inb_S13x6656_S13x256_0_0) (fun _ => rfl)
abbrev xZ0 : DmaSems sig S_ := (cc0_scoped6.slice (Rect.unit (s := S6) ![0] S1.size inb_S6_S1_0)).squeeze S_ squeezes_S1_S_
abbrev hW1 : Memref sig .tc .hbm S208x256 .i32 :=
  aW.slice (Rect.unit (s := S208x6656) ![0, 256] S208x256.size inb_S208x6656_S208x256_0_256) (fun _ => rfl)
abbrev vW1 : Memref sig .tc .vmem S208x256 .i32 :=
  bW.slice (Rect.unit (s := S208x6656) ![0, 256] S208x256.size inb_S208x6656_S208x256_0_256) (fun _ => rfl)
abbrev xW1 : DmaSems sig S_ := (cc0_scoped4.slice (Rect.unit (s := S6) ![1] S1.size inb_S6_S1_1)).squeeze S_ squeezes_S1_S_
abbrev hS1 : Memref sig .tc .hbm S13x256 .bf16 :=
  aS.slice (Rect.unit (s := S13x6656) ![0, 256] S13x256.size inb_S13x6656_S13x256_0_256) (fun _ => rfl)
abbrev vS1 : Memref sig .tc .vmem S13x256 .bf16 :=
  bS.slice (Rect.unit (s := S13x6656) ![0, 256] S13x256.size inb_S13x6656_S13x256_0_256) (fun _ => rfl)
abbrev xS1 : DmaSems sig S_ := (cc0_scoped5.slice (Rect.unit (s := S6) ![1] S1.size inb_S6_S1_1)).squeeze S_ squeezes_S1_S_
abbrev hZ1 : Memref sig .tc .hbm S13x256 .bf16 :=
  aZ.slice (Rect.unit (s := S13x6656) ![0, 256] S13x256.size inb_S13x6656_S13x256_0_256) (fun _ => rfl)
abbrev vZ1 : Memref sig .tc .vmem S13x256 .bf16 :=
  bZ.slice (Rect.unit (s := S13x6656) ![0, 256] S13x256.size inb_S13x6656_S13x256_0_256) (fun _ => rfl)
abbrev xZ1 : DmaSems sig S_ := (cc0_scoped6.slice (Rect.unit (s := S6) ![1] S1.size inb_S6_S1_1)).squeeze S_ squeezes_S1_S_
abbrev hW2 : Memref sig .tc .hbm S208x512 .i32 :=
  aW.slice (Rect.unit (s := S208x6656) ![0, 512] S208x512.size inb_S208x6656_S208x512_0_512) (fun _ => rfl)
abbrev vW2 : Memref sig .tc .vmem S208x512 .i32 :=
  bW.slice (Rect.unit (s := S208x6656) ![0, 512] S208x512.size inb_S208x6656_S208x512_0_512) (fun _ => rfl)
abbrev xW2 : DmaSems sig S_ := (cc0_scoped4.slice (Rect.unit (s := S6) ![2] S1.size inb_S6_S1_2)).squeeze S_ squeezes_S1_S_
abbrev hS2 : Memref sig .tc .hbm S13x512 .bf16 :=
  aS.slice (Rect.unit (s := S13x6656) ![0, 512] S13x512.size inb_S13x6656_S13x512_0_512) (fun _ => rfl)
abbrev vS2 : Memref sig .tc .vmem S13x512 .bf16 :=
  bS.slice (Rect.unit (s := S13x6656) ![0, 512] S13x512.size inb_S13x6656_S13x512_0_512) (fun _ => rfl)
abbrev xS2 : DmaSems sig S_ := (cc0_scoped5.slice (Rect.unit (s := S6) ![2] S1.size inb_S6_S1_2)).squeeze S_ squeezes_S1_S_
abbrev hZ2 : Memref sig .tc .hbm S13x512 .bf16 :=
  aZ.slice (Rect.unit (s := S13x6656) ![0, 512] S13x512.size inb_S13x6656_S13x512_0_512) (fun _ => rfl)
abbrev vZ2 : Memref sig .tc .vmem S13x512 .bf16 :=
  bZ.slice (Rect.unit (s := S13x6656) ![0, 512] S13x512.size inb_S13x6656_S13x512_0_512) (fun _ => rfl)
abbrev xZ2 : DmaSems sig S_ := (cc0_scoped6.slice (Rect.unit (s := S6) ![2] S1.size inb_S6_S1_2)).squeeze S_ squeezes_S1_S_
abbrev hW3 : Memref sig .tc .hbm S208x1024 .i32 :=
  aW.slice (Rect.unit (s := S208x6656) ![0, 1024] S208x1024.size inb_S208x6656_S208x1024_0_1024) (fun _ => rfl)
abbrev vW3 : Memref sig .tc .vmem S208x1024 .i32 :=
  bW.slice (Rect.unit (s := S208x6656) ![0, 1024] S208x1024.size inb_S208x6656_S208x1024_0_1024) (fun _ => rfl)
abbrev xW3 : DmaSems sig S_ := (cc0_scoped4.slice (Rect.unit (s := S6) ![3] S1.size inb_S6_S1_3)).squeeze S_ squeezes_S1_S_
abbrev hS3 : Memref sig .tc .hbm S13x1024 .bf16 :=
  aS.slice (Rect.unit (s := S13x6656) ![0, 1024] S13x1024.size inb_S13x6656_S13x1024_0_1024) (fun _ => rfl)
abbrev vS3 : Memref sig .tc .vmem S13x1024 .bf16 :=
  bS.slice (Rect.unit (s := S13x6656) ![0, 1024] S13x1024.size inb_S13x6656_S13x1024_0_1024) (fun _ => rfl)
abbrev xS3 : DmaSems sig S_ := (cc0_scoped5.slice (Rect.unit (s := S6) ![3] S1.size inb_S6_S1_3)).squeeze S_ squeezes_S1_S_
abbrev hZ3 : Memref sig .tc .hbm S13x1024 .bf16 :=
  aZ.slice (Rect.unit (s := S13x6656) ![0, 1024] S13x1024.size inb_S13x6656_S13x1024_0_1024) (fun _ => rfl)
abbrev vZ3 : Memref sig .tc .vmem S13x1024 .bf16 :=
  bZ.slice (Rect.unit (s := S13x6656) ![0, 1024] S13x1024.size inb_S13x6656_S13x1024_0_1024) (fun _ => rfl)
abbrev xZ3 : DmaSems sig S_ := (cc0_scoped6.slice (Rect.unit (s := S6) ![3] S1.size inb_S6_S1_3)).squeeze S_ squeezes_S1_S_
abbrev hW4 : Memref sig .tc .hbm S208x2048 .i32 :=
  aW.slice (Rect.unit (s := S208x6656) ![0, 2048] S208x2048.size inb_S208x6656_S208x2048_0_2048) (fun _ => rfl)
abbrev vW4 : Memref sig .tc .vmem S208x2048 .i32 :=
  bW.slice (Rect.unit (s := S208x6656) ![0, 2048] S208x2048.size inb_S208x6656_S208x2048_0_2048) (fun _ => rfl)
abbrev xW4 : DmaSems sig S_ := (cc0_scoped4.slice (Rect.unit (s := S6) ![4] S1.size inb_S6_S1_4)).squeeze S_ squeezes_S1_S_
abbrev hS4 : Memref sig .tc .hbm S13x2048 .bf16 :=
  aS.slice (Rect.unit (s := S13x6656) ![0, 2048] S13x2048.size inb_S13x6656_S13x2048_0_2048) (fun _ => rfl)
abbrev vS4 : Memref sig .tc .vmem S13x2048 .bf16 :=
  bS.slice (Rect.unit (s := S13x6656) ![0, 2048] S13x2048.size inb_S13x6656_S13x2048_0_2048) (fun _ => rfl)
abbrev xS4 : DmaSems sig S_ := (cc0_scoped5.slice (Rect.unit (s := S6) ![4] S1.size inb_S6_S1_4)).squeeze S_ squeezes_S1_S_
abbrev hZ4 : Memref sig .tc .hbm S13x2048 .bf16 :=
  aZ.slice (Rect.unit (s := S13x6656) ![0, 2048] S13x2048.size inb_S13x6656_S13x2048_0_2048) (fun _ => rfl)
abbrev vZ4 : Memref sig .tc .vmem S13x2048 .bf16 :=
  bZ.slice (Rect.unit (s := S13x6656) ![0, 2048] S13x2048.size inb_S13x6656_S13x2048_0_2048) (fun _ => rfl)
abbrev xZ4 : DmaSems sig S_ := (cc0_scoped6.slice (Rect.unit (s := S6) ![4] S1.size inb_S6_S1_4)).squeeze S_ squeezes_S1_S_
abbrev hW5 : Memref sig .tc .hbm S208x2560 .i32 :=
  aW.slice (Rect.unit (s := S208x6656) ![0, 4096] S208x2560.size inb_S208x6656_S208x2560_0_4096) (fun _ => rfl)
abbrev vW5 : Memref sig .tc .vmem S208x2560 .i32 :=
  bW.slice (Rect.unit (s := S208x6656) ![0, 4096] S208x2560.size inb_S208x6656_S208x2560_0_4096) (fun _ => rfl)
abbrev xW5 : DmaSems sig S_ := (cc0_scoped4.slice (Rect.unit (s := S6) ![5] S1.size inb_S6_S1_5)).squeeze S_ squeezes_S1_S_
abbrev hS5 : Memref sig .tc .hbm S13x2560 .bf16 :=
  aS.slice (Rect.unit (s := S13x6656) ![0, 4096] S13x2560.size inb_S13x6656_S13x2560_0_4096) (fun _ => rfl)
abbrev vS5 : Memref sig .tc .vmem S13x2560 .bf16 :=
  bS.slice (Rect.unit (s := S13x6656) ![0, 4096] S13x2560.size inb_S13x6656_S13x2560_0_4096) (fun _ => rfl)
abbrev xS5 : DmaSems sig S_ := (cc0_scoped5.slice (Rect.unit (s := S6) ![5] S1.size inb_S6_S1_5)).squeeze S_ squeezes_S1_S_
abbrev hZ5 : Memref sig .tc .hbm S13x2560 .bf16 :=
  aZ.slice (Rect.unit (s := S13x6656) ![0, 4096] S13x2560.size inb_S13x6656_S13x2560_0_4096) (fun _ => rfl)
abbrev vZ5 : Memref sig .tc .vmem S13x2560 .bf16 :=
  bZ.slice (Rect.unit (s := S13x6656) ![0, 4096] S13x2560.size inb_S13x6656_S13x2560_0_4096) (fun _ => rfl)
abbrev xZ5 : DmaSems sig S_ := (cc0_scoped6.slice (Rect.unit (s := S6) ![5] S1.size inb_S6_S1_5)).squeeze S_ squeezes_S1_S_

section Cols

/-- The columns of a 6656-column array left of column `m`. -/
def colsLt (R m : ℕ) : Finset (⟨2, ![R, 6656]⟩ : Shape).Idx := Finset.univ.filter fun y => (y 1).val < m

theorem mem_colsLt (R m : ℕ) (y : (⟨2, ![R, 6656]⟩ : Shape).Idx) : y ∈ colsLt R m ↔ (y 1).val < m := by
  simp [colsLt]
theorem colsLt_zero (R : ℕ) : colsLt R 0 = ∅ := by
  ext y; simp [mem_colsLt]
/-- Which elements a full-height window of `w` columns from column `a` on has. -/
theorem mem_win (R a w : ℕ) (inb : ∀ i, (![0, a] : Fin 2 → ℕ) i + (![R, w] : Fin 2 → ℕ) i ≤ (⟨2, ![R, 6656]⟩ : Shape).size i)
    (y : (⟨2, ![R, 6656]⟩ : Shape).Idx) :
    y ∈ (Rect.unit (s := (⟨2, ![R, 6656]⟩ : Shape)) ![0, a] ![R, w] inb).set ↔ a ≤ (y 1).val ∧ (y 1).val < a + w := by
  rw [Rect.mem_set_unit]
  have h0 : (y 0).val < R := (y 0).isLt
  constructor
  · intro H; exact H 1
  · intro H i; fin_cases i
    · show 0 ≤ (y 0).val ∧ (y 0).val < 0 + R; omega
    · exact H
theorem cols_union (R a w : ℕ) (inb) :
    colsLt R a ∪ (Rect.unit (s := (⟨2, ![R, 6656]⟩ : Shape)) ![0, a] ![R, w] inb).set = colsLt R (a + w) := by
  ext y; rw [Finset.mem_union, mem_colsLt, mem_win, mem_colsLt]; omega
theorem cols_disjoint (R a w : ℕ) (inb) :
    Disjoint (colsLt R a) (Rect.unit (s := (⟨2, ![R, 6656]⟩ : Shape)) ![0, a] ![R, w] inb).set := by
  rw [Finset.disjoint_left]; intro y h1 h2; rw [mem_colsLt] at h1; rw [mem_win] at h2; omega
theorem win_subset (R a w m : ℕ) (inb) (h : a + w ≤ m) :
    (Rect.unit (s := (⟨2, ![R, 6656]⟩ : Shape)) ![0, a] ![R, w] inb).set ⊆ colsLt R m := by
  intro y hy; rw [mem_win] at hy; rw [mem_colsLt]; omega
theorem cols_all (R : ℕ) : colsLt R 6656 = Finset.univ := by
  ext y
  have h1 : (y 1).val < 6656 := (y 1).isLt
  simp [mem_colsLt, h1]

end Cols

section
variable (c : Dev nD)

/-- A window held whole at contents `f`; a semaphore cell at zero. -/
abbrev ownP {sp : Space} {s : Shape} {e : EltTy} (m : Memref sig .tc sp s e) (f : Buf (Elt F) (m.view.loc (c : Thread nD τ))) : sProp 𝕄 :=
  m.view.loc (c : Thread nD τ) ↦[m.view.set]{fullShare} f
abbrev zeroP (x : DmaSems sig S_) : sProp 𝕄 := semVal ((c : Thread nD τ), SemLoc.dma x.sem) 0
/-- A transfer in flight on the cell `x`, delivering `D`. -/
abbrev flyP (x : DmaSems sig S_) (N : ℕ) (D : sProp 𝕄) : sProp 𝕄 :=
  Transfers.Flight countersEmb (c : Thread nD τ) (SemLoc.dma x.sem) () N D

variable (XW : Buf (Elt F) (aW.view.loc (c : Thread nD τ))) (XS : Buf (Elt F) (aS.view.loc (c : Thread nD τ)))
  (XZ : Buf (Elt F) (aZ.view.loc (c : Thread nD τ)))

/-- What a transfer of a window of an operand leaves in the same window of its VMEM copy is the operand's contents. -/
theorem landW (r : Rect S208x6656) (h) (f) :
    ownP c (bW.slice r h) ((bW.slice r h).view.writes (Elt F) f [⟨Rect.whole r.shape, ReadAs.same.apply ((aW.slice r h).view.read (Elt F) XW)⟩])
      = ownP (F := F) c (bW.slice r h) XW := by
  refine pointsTo_congr fun i hi => ?_
  obtain ⟨x, -, rfl⟩ := Finset.mem_map.1 hi
  exact congrFun (View.read_writes_whole (bW.slice r h).view f ((aW.slice r h).view.read (Elt F) XW)) x
theorem landS (r : Rect S13x6656) (h) (f) :
    ownP c (bS.slice r h) ((bS.slice r h).view.writes (Elt F) f [⟨Rect.whole r.shape, ReadAs.same.apply ((aS.slice r h).view.read (Elt F) XS)⟩])
      = ownP (F := F) c (bS.slice r h) XS := by
  refine pointsTo_congr fun i hi => ?_
  obtain ⟨x, -, rfl⟩ := Finset.mem_map.1 hi
  exact congrFun (View.read_writes_whole (bS.slice r h).view f ((aS.slice r h).view.read (Elt F) XS)) x
theorem landZ (r : Rect S13x6656) (h) (f) :
    ownP c (bZ.slice r h) ((bZ.slice r h).view.writes (Elt F) f [⟨Rect.whole r.shape, ReadAs.same.apply ((aZ.slice r h).view.read (Elt F) XZ)⟩])
      = ownP (F := F) c (bZ.slice r h) XZ := by
  refine pointsTo_congr fun i hi => ?_
  obtain ⟨x, -, rfl⟩ := Finset.mem_map.1 hi
  exact congrFun (View.read_writes_whole (bZ.slice r h).view f ((aZ.slice r h).view.read (Elt F) XZ)) x

/-- The VMEM copies' columns left of column `m`, at the operands' contents. -/
abbrev haveP (m : ℕ) : sProp 𝕄 :=
  iprop((bW.view.loc (c : Thread nD τ) ↦[colsLt 208 m]{fullShare} XW)
    ∗ (bS.view.loc (c : Thread nD τ) ↦[colsLt 13 m]{fullShare} XS)
    ∗ (bZ.view.loc (c : Thread nD τ) ↦[colsLt 13 m]{fullShare} XZ))

/-- A landed group of columns extends them. -/
theorem have_step (a w : ℕ) (iw is) (hw hs hz) :
    iprop(haveP c XW XS XZ a ∗ ownP c (bS.slice (Rect.unit (s := S13x6656) ![0, a] ![13, w] is) hs) XS
        ∗ ownP c (bZ.slice (Rect.unit (s := S13x6656) ![0, a] ![13, w] is) hz) XZ
        ∗ ownP c (bW.slice (Rect.unit (s := S208x6656) ![0, a] ![208, w] iw) hw) XW)
      ⊢ (haveP c XW XS XZ (a + w) : sProp 𝕄) := by
  unfold haveP
  rw [← cols_union 208 a w iw, ← cols_union 13 a w is]
  have eW : (bW.slice (Rect.unit (s := S208x6656) ![0, a] ![208, w] iw) hw).view.set = (Rect.unit (s := S208x6656) ![0, a] ![208, w] iw).set :=
    View.set_slice_whole _ _
  have eS : (bS.slice (Rect.unit (s := S13x6656) ![0, a] ![13, w] is) hs).view.set = (Rect.unit (s := S13x6656) ![0, a] ![13, w] is).set :=
    View.set_slice_whole _ _
  have eZ : (bZ.slice (Rect.unit (s := S13x6656) ![0, a] ![13, w] is) hz).view.set = (Rect.unit (s := S13x6656) ![0, a] ![13, w] is).set :=
    View.set_slice_whole _ _
  unfold ownP
  rw [eW, eS, eZ]
  iintro ⟨⟨A, B, C⟩, S, Z, W⟩
  isplitl [A W]
  · iapply (pointsTo_union (cols_disjoint 208 a w iw)).2
    isplitl [A]; · iexact A
    iexact W
  isplitl [B S]
  · iapply (pointsTo_union (cols_disjoint 13 a w is)).2
    isplitl [B]; · iexact B
    iexact S
  · iapply (pointsTo_union (cols_disjoint 13 a w is)).2
    isplitl [C]; · iexact C
    iexact Z

/-- Chunk `k`'s windows can be taken out of them and put back. -/
theorem have_chunk (k : Fin k0_t1_loop.trips) (m : ℕ) (h : 256 * k.val + 256 ≤ m) :
    haveP c XW XS XZ m ⊢ (iprop(winPre c k XW XS XZ ∗ (winPre c k XW XS XZ -∗ haveP c XW XS XZ m)) : sProp 𝕄) := by
  have eW : (wWin k).view.set ⊆ colsLt 208 m := by
    rw [show (wWin k).view.set = (Rect.unit (s := S208x6656) (k0_off2 k) S208x256.size (k0_off2_inb k)).set from View.set_slice_whole _ _]
    intro y hy
    have := Rect.mem_set_unit.1 hy 1
    rw [(closedOff_k0_off2 k).eq] at this
    rw [mem_colsLt]
    have h2 : (y 1).val < 256 * k.val + 256 := this.2
    omega
  have eS : (sWin k).view.set ⊆ colsLt 13 m := by
    rw [show (sWin k).view.set = (Rect.unit (s := S13x6656) (k0_off1 k) S13x256.size (k0_off1_inb k)).set from View.set_slice_whole _ _]
    intro y hy
    have := Rect.mem_set_unit.1 hy 1
    rw [(closedOff_k0_off1 k).eq] at this
    rw [mem_colsLt]
    have h2 : (y 1).val < 256 * k.val + 256 := this.2
    omega
  have eZ : (zWin k).view.set ⊆ colsLt 13 m := eS
  iintro ⟨A, B, C⟩
  ihave A := (pointsTo_split_subset eW).1 $$ A
  icases A with ⟨A1, A2⟩
  ihave B := (pointsTo_split_subset eS).1 $$ B
  icases B with ⟨B1, B2⟩
  ihave C := (pointsTo_split_subset eZ).1 $$ C
  icases C with ⟨C1, C2⟩
  isplitl [A1 B1 C1]
  · isplitl [A1]; · iexact A1
    isplitl [B1]; · iexact B1
    iexact C1
  iintro ⟨A1, B1, C1⟩
  isplitl [A1 A2]
  · iapply (pointsTo_split_subset eW).2
    isplitl [A1]; · iexact A1
    iexact A2
  isplitl [B1 B2]
  · iapply (pointsTo_split_subset eS).2
    isplitl [B1]; · iexact B1
    iexact B2
  · iapply (pointsTo_split_subset eZ).2
    isplitl [C1]; · iexact C1
    iexact C2

/-- The same beside anything else. -/
theorem have_chunk_beside (k : Fin k0_t1_loop.trips) (m : ℕ) (h : 256 * k.val + 256 ≤ m) (R : sProp 𝕄) :
    iprop(haveP c XW XS XZ m ∗ R) ⊢ iprop(winPre c k XW XS XZ ∗ (winPre c k XW XS XZ -∗ iprop(haveP c XW XS XZ m ∗ R))) := by
  iintro ⟨H, HR⟩
  ihave H := (have_chunk c XW XS XZ k m h) $$ H
  icases H with ⟨H1, H2⟩
  isplitl [H1]; · iexact H1
  iintro H1
  isplitl [H1 H2]
  · iapply H2; iexact H1
  iexact HR

/-! Group `j` in flight (three transfers), and group `j` read (its cells at zero, its windows of the operands back). -/

abbrev flyG0 : sProp 𝕄 :=
  iprop(flyP c xS0 208 iprop(ownP c vS0 XS ∗ ownP c hS0 XS) ∗ flyP c xZ0 208 iprop(ownP c vZ0 XZ ∗ ownP c hZ0 XZ)
    ∗ flyP c xW0 6656 iprop(ownP c vW0 XW ∗ ownP c hW0 XW))
abbrev homeG0 : sProp 𝕄 :=
  iprop(zeroP c xS0 ∗ zeroP c xZ0 ∗ zeroP c xW0 ∗ ownP c hS0 XS ∗ ownP c hZ0 XZ ∗ ownP c hW0 XW)
abbrev flyG1 : sProp 𝕄 :=
  iprop(flyP c xS1 208 iprop(ownP c vS1 XS ∗ ownP c hS1 XS) ∗ flyP c xZ1 208 iprop(ownP c vZ1 XZ ∗ ownP c hZ1 XZ)
    ∗ flyP c xW1 6656 iprop(ownP c vW1 XW ∗ ownP c hW1 XW))
abbrev homeG1 : sProp 𝕄 :=
  iprop(zeroP c xS1 ∗ zeroP c xZ1 ∗ zeroP c xW1 ∗ ownP c hS1 XS ∗ ownP c hZ1 XZ ∗ ownP c hW1 XW)
abbrev flyG2 : sProp 𝕄 :=
  iprop(flyP c xS2 416 iprop(ownP c vS2 XS ∗ ownP c hS2 XS) ∗ flyP c xZ2 416 iprop(ownP c vZ2 XZ ∗ ownP c hZ2 XZ)
    ∗ flyP c xW2 13312 iprop(ownP c vW2 XW ∗ ownP c hW2 XW))
abbrev homeG2 : sProp 𝕄 :=
  iprop(zeroP c xS2 ∗ zeroP c xZ2 ∗ zeroP c xW2 ∗ ownP c hS2 XS ∗ ownP c hZ2 XZ ∗ ownP c hW2 XW)
abbrev flyG3 : sProp 𝕄 :=
  iprop(flyP c xS3 832 iprop(ownP c vS3 XS ∗ ownP c hS3 XS) ∗ flyP c xZ3 832 iprop(ownP c vZ3 XZ ∗ ownP c hZ3 XZ)
    ∗ flyP c xW3 26624 iprop(ownP c vW3 XW ∗ ownP c hW3 XW))
abbrev homeG3 : sProp 𝕄 :=
  iprop(zeroP c xS3 ∗ zeroP c xZ3 ∗ zeroP c xW3 ∗ ownP c hS3 XS ∗ ownP c hZ3 XZ ∗ ownP c hW3 XW)
abbrev flyG4 : sProp 𝕄 :=
  iprop(flyP c xS4 1664 iprop(ownP c vS4 XS ∗ ownP c hS4 XS) ∗ flyP c xZ4 1664 iprop(ownP c vZ4 XZ ∗ ownP c hZ4 XZ)
    ∗ flyP c xW4 53248 iprop(ownP c vW4 XW ∗ ownP c hW4 XW))
abbrev homeG4 : sProp 𝕄 :=
  iprop(zeroP c xS4 ∗ zeroP c xZ4 ∗ zeroP c xW4 ∗ ownP c hS4 XS ∗ ownP c hZ4 XZ ∗ ownP c hW4 XW)
abbrev flyG5 : sProp 𝕄 :=
  iprop(flyP c xS5 2080 iprop(ownP c vS5 XS ∗ ownP c hS5 XS) ∗ flyP c xZ5 2080 iprop(ownP c vZ5 XZ ∗ ownP c hZ5 XZ)
    ∗ flyP c xW5 66560 iprop(ownP c vW5 XW ∗ ownP c hW5 XW))
abbrev homeG5 : sProp 𝕄 :=
  iprop(zeroP c xS5 ∗ zeroP c xZ5 ∗ zeroP c xW5 ∗ ownP c hS5 XS ∗ ownP c hZ5 XZ ∗ ownP c hW5 XW)

/-- Group `j`'s first chunk. -/
def gStart (j : ℕ) : ℕ := match j with | 0 => 0 | 1 => 1 | 2 => 2 | 3 => 4 | 4 => 8 | _ => 16
/-- Group `j`'s number of columns. -/
def gCols (j : ℕ) : ℕ := match j with | 0 => 256 | 1 => 256 | 2 => 512 | 3 => 1024 | 4 => 2048 | _ => 2560
/-- Group `j` in flight; group `j` read. -/
def flyG (j : ℕ) : sProp 𝕄 :=
  match j with
  | 0 => flyG0 c XW XS XZ | 1 => flyG1 c XW XS XZ | 2 => flyG2 c XW XS XZ | 3 => flyG3 c XW XS XZ | 4 => flyG4 c XW XS XZ | _ => flyG5 c XW XS XZ
def homeG (j : ℕ) : sProp 𝕄 :=
  match j with
  | 0 => homeG0 c XW XS XZ | 1 => homeG1 c XW XS XZ | 2 => homeG2 c XW XS XZ | 3 => homeG3 c XW XS XZ | 4 => homeG4 c XW XS XZ | _ => homeG5 c XW XS XZ
/-- Group `j` before trip `n`: in flight until the trip of its first chunk has waited for it. -/
def grp (n j : ℕ) : sProp 𝕄 := if n ≤ gStart j then flyG c XW XS XZ j else homeG c XW XS XZ j

/-- How many columns have been waited for before trip `n`. -/
def colsAt (n : ℕ) : ℕ :=
  if n ≤ 0 then 0 else if n ≤ 1 then 256 else if n ≤ 2 then 512 else if n ≤ 4 then 1024 else if n ≤ 8 then 2048 else if n ≤ 16 then 4096 else 6656

/-- The read side before trip `n`: the columns read so far, the core's waits, and the six groups. -/
def Rd (n : ℕ) : sProp 𝕄 :=
  iprop(haveP c XW XS XZ (colsAt n) ∗ (∃ W, owes (c : Thread nD τ) 0 W) ∗ bigSep (Finset.range 6) (grp c XW XS XZ n))

/-- Before the trip that waits for group `j`: that group apart. -/
theorem Rd_here (j : ℕ) (hj : j ∈ Finset.range 6) :
    Rd c XW XS XZ (gStart j) = iprop(haveP c XW XS XZ (gStart j * 256) ∗ (∃ W, owes (c : Thread nD τ) 0 W) ∗ flyG c XW XS XZ j
      ∗ bigSep ((Finset.range 6).erase j) (grp c XW XS XZ (gStart j))) := by
  have e : colsAt (gStart j) = gStart j * 256 := by
    rw [Finset.mem_range] at hj
    obtain rfl | rfl | rfl | rfl | rfl | rfl : j = 0 ∨ j = 1 ∨ j = 2 ∨ j = 3 ∨ j = 4 ∨ j = 5 := by omega
    all_goals rfl
  unfold Rd
  rw [e]
  conv_lhs => rw [← Finset.insert_erase hj, bigSep_insert (Finset.notMem_erase _ _)]
  rw [show grp c XW XS XZ (gStart j) j = flyG c XW XS XZ j from if_pos (le_refl _)]
  rfl
/-- After it: that group read, its columns there, the others as they were. -/
theorem Rd_next (j : ℕ) (hj : j ∈ Finset.range 6) :
    Rd c XW XS XZ (gStart j + 1) = iprop(haveP c XW XS XZ (gStart j * 256 + gCols j) ∗ (∃ W, owes (c : Thread nD τ) 0 W) ∗ homeG c XW XS XZ j
      ∗ bigSep ((Finset.range 6).erase j) (grp c XW XS XZ (gStart j))) := by
  have e : colsAt (gStart j + 1) = gStart j * 256 + gCols j := by
    rw [Finset.mem_range] at hj
    obtain rfl | rfl | rfl | rfl | rfl | rfl : j = 0 ∨ j = 1 ∨ j = 2 ∨ j = 3 ∨ j = 4 ∨ j = 5 := by omega
    all_goals rfl
  have e2 : bigSep ((Finset.range 6).erase j) (grp c XW XS XZ (gStart j + 1)) = bigSep ((Finset.range 6).erase j) (grp c XW XS XZ (gStart j)) := by
    refine bigSep_congr fun i hi => ?_
    have hp : (gStart j + 1 ≤ gStart i) = (gStart j ≤ gStart i) := by
      rw [Finset.mem_erase, Finset.mem_range] at hi
      obtain ⟨h1, h2⟩ := hi
      rw [Finset.mem_range] at hj
      refine propext ?_
      obtain rfl | rfl | rfl | rfl | rfl | rfl : j = 0 ∨ j = 1 ∨ j = 2 ∨ j = 3 ∨ j = 4 ∨ j = 5 := by omega
      all_goals
        obtain rfl | rfl | rfl | rfl | rfl | rfl : i = 0 ∨ i = 1 ∨ i = 2 ∨ i = 3 ∨ i = 4 ∨ i = 5 := by omega
        all_goals first | exact absurd rfl h1 | simp [gStart]
    simp only [grp, hp]
  unfold Rd
  rw [e]
  conv_lhs => rw [← Finset.insert_erase hj, bigSep_insert (Finset.notMem_erase _ _)]
  rw [show grp c XW XS XZ (gStart j + 1) j = homeG c XW XS XZ j from if_neg (by omega)]
  rw [e2]
  rfl
/-- A trip that waits for no group leaves the read side as it is. -/
theorem Rd_stay (n : ℕ) (h : n ≠ 0 ∧ n ≠ 1 ∧ n ≠ 2 ∧ n ≠ 4 ∧ n ≠ 8 ∧ n ≠ 16) : Rd c XW XS XZ (n + 1) = Rd c XW XS XZ n := by
  have e0 : (n + 1 ≤ 0) = (n ≤ 0) := propext (by omega)
  have e1 : (n + 1 ≤ 1) = (n ≤ 1) := propext (by omega)
  have e2 : (n + 1 ≤ 2) = (n ≤ 2) := propext (by omega)
  have e4 : (n + 1 ≤ 4) = (n ≤ 4) := propext (by omega)
  have e8 : (n + 1 ≤ 8) = (n ≤ 8) := propext (by omega)
  have e16 : (n + 1 ≤ 16) = (n ≤ 16) := propext (by omega)
  have eg : bigSep (Finset.range 6) (grp c XW XS XZ (n + 1)) = bigSep (Finset.range 6) (grp c XW XS XZ n) := by
    refine bigSep_congr fun i hi => ?_
    rw [Finset.mem_range] at hi
    have hp : (n + 1 ≤ gStart i) = (n ≤ gStart i) := by
      obtain rfl | rfl | rfl | rfl | rfl | rfl : i = 0 ∨ i = 1 ∨ i = 2 ∨ i = 3 ∨ i = 4 ∨ i = 5 := by omega
      all_goals simp only [gStart, e0, e1, e2, e4, e8, e16]
    simp only [grp, hp]
  unfold Rd
  rw [eg]
  simp only [colsAt, e0, e1, e2, e4, e8, e16]

end

section
variable (c : Dev nD)
variable (XW : Buf (Elt F) (aW.view.loc (c : Thread nD τ))) (XS : Buf (Elt F) (aS.view.loc (c : Thread nD τ)))
  (XZ : Buf (Elt F) (aZ.view.loc (c : Thread nD τ)))

/-- Trip `k` waits for the group whose first chunk is `j`. -/
abbrev waits (k : ℕ) (j : BitVec 32) : Prop :=
  Scalar.cmpi .ne (Scalar.extui (Scalar.cmpi .eq (Scalar.addi 0#32 (Scalar.muli (Scf.iv 0#32 1#32 k) 1#32)) j) : BitVec 32) 0#32 = 1#1

theorem no_wait : ∀ k : Fin k0_t1_loop.trips, k.val ≠ 0 ∧ k.val ≠ 1 ∧ k.val ≠ 2 ∧ k.val ≠ 4 ∧ k.val ≠ 8 ∧ k.val ≠ 16 →
    ¬ waits k.val 0#32 ∧ ¬ waits k.val 1#32 ∧ ¬ waits k.val 2#32 ∧ ¬ waits k.val 4#32 ∧ ¬ waits k.val 8#32 ∧ ¬ waits k.val 16#32 := by
  decide +kernel

/-- The head of trip `k`: the wait for the group that begins with chunk `k`, if one does, then two rows of scales;
afterwards chunk `k`'s windows can be taken and put back. -/
theorem part1_run (k : Fin k0_t1_loop.trips) :
    Rd c XW XS XZ k.val ⊢ wp frame (wpE (defs₀ (F := F)) 𝒱₀ (c : Thread nD τ) none) Set.univ
      (k0_part1 aW (Memref.isWhole_whole _) aS (Memref.isWhole_whole _) aZ (Memref.isWhole_whole _) aO (Memref.isWhole_whole _)
        bW (Memref.isWhole_whole _) bS (Memref.isWhole_whole _) bZ (Memref.isWhole_whole _) bO (Memref.isWhole_whole _)
        cc0_scoped4 cc0_scoped5 cc0_scoped6 cc0_scoped7 0#32 1#32 k)
      (fun r => iprop(⌜r.2.1 = k0_pay1 (sRow (c := c) k XS 0)⌝ ∗ ⌜r.2.2 = k0_pay2 (sRow (c := c) k XS 1)⌝ ∗ winPre c k XW XS XZ
        ∗ (winPre c k XW XS XZ -∗ Rd c XW XS XZ (k.val + 1)))) := by
  by_cases hh : k.val ≠ 0 ∧ k.val ≠ 1 ∧ k.val ≠ 2 ∧ k.val ≠ 4 ∧ k.val ≠ 8 ∧ k.val ≠ 16
  · have hlt : k.val < 26 := k.isLt
    obtain ⟨w0, w1, w2, w4, w8, w16⟩ := no_wait k hh
    dsimp only [waits] at w0 w1 w2 w4 w8 w16
    have hm : 256 * k.val + 256 ≤ colsAt k.val := by
      unfold colsAt; split_ifs <;> omega
    rw [Rd_stay c XW XS XZ k.val hh]
    refine (have_chunk_beside c XW XS XZ k _ hm _).trans ?_
    iintro ⟨⟨HW, HS, HZ⟩, HB⟩
    sl_unfold [k0_part1]
    sl_exec
    sl_step
    isplitr; · ipureintro; rfl
    isplitr; · ipureintro; rfl
    isplitl [HW HS HZ]
    · isplitl [HW]; · iexact HW
      isplitl [HS]; · iexact HS
      iexact HZ
    iexact HB
  · obtain ⟨j, hj, hk⟩ : ∃ j ∈ Finset.range 6, k.val = gStart j := by
      by_contra hne
      refine hh ⟨fun e => hne ⟨0, by decide, e⟩, fun e => hne ⟨1, by decide, e⟩, fun e => hne ⟨2, by decide, e⟩,
        fun e => hne ⟨3, by decide, e⟩, fun e => hne ⟨4, by decide, e⟩, fun e => hne ⟨5, by decide, e⟩⟩
    rw [hk, Rd_here c XW XS XZ j hj, Rd_next c XW XS XZ j hj]
    rw [Finset.mem_range] at hj
    obtain rfl | rfl | rfl | rfl | rfl | rfl : j = 0 ∨ j = 1 ∨ j = 2 ∨ j = 3 ∨ j = 4 ∨ j = 5 := by omega
    all_goals
      obtain rfl := (Fin.ext hk : k = ⟨_, by decide⟩)
      simp only [gStart, gCols, flyG, homeG]
      iintro ⟨HV, ⟨%W0, HO⟩, ⟨HFs, HFz, HFw⟩, HR⟩
      sl_unfold [k0_part1]
      sl_exec
      sl_step
      isplitr; · ipureintro; rfl
      isplitr; · ipureintro; rfl
      iapply (have_chunk_beside c XW XS XZ _ _ (by decide))
      isplitl [HV HFs_dst HFz_dst HFw_dst]
      · iapply (have_step c XW XS XZ _ _)
        isplitl [HV]; · iexact HV
        isplitl [HFs_dst]; · iexact HFs_dst
        isplitl [HFz_dst]; · iexact HFz_dst
        iexact HFw_dst
      isplitl [HO]; · iexists _; iexact HO
      isplitr [HR]
      · isplitl [HFs]; · iexact HFs
        isplitl [HFz]; · iexact HFz
        isplitl [HFw]; · iexact HFw
        isplitl [HFs_src]; · iexact HFs_src
        isplitl [HFz_src]; · iexact HFz_src
        iexact HFw_src
      iexact HR
end
end Cert.Proof.KernelIdeal
-- ==== Proof.KernelIdeal.Writes.lean ====
module

public import proofs.«01_k».proof.Proof.KernelIdeal.Reads
public import Idealize.ShloMosaic.Lib.ValueLayout

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! The write side: chunk `k`'s slab of the output scratch goes out to column `k` of the output array on cell `k`. -/

/-- Column `k` of the output array, and the cell of the transfer that fills it. -/
abbrev oCol (k : Fin k0_t1_loop.trips) : Memref sig .tc .hbm S208x16x128 .bf16 :=
  (aO.slice (Rect.unit (s := S208x26x16x128) (k0_off213 k) S208x1x16x128.size (k0_off213_inb k)) (fun _ => rfl)).squeeze S208x16x128 squeezes_S208x1x16x128_S208x16x128
abbrev oSem (k : Fin k0_t1_loop.trips) : DmaSems sig S_ :=
  (cc0_scoped7.slice (Rect.unit (s := S26) (k0_off212 k) S1.size (k0_off212_inb k))).squeeze S_ squeezes_S1_S_

/-- An index `(x, y, z)` matched with shape `[a, 1, b, c]` is `(x, 0, y, z)`. -/
theorem reshape_a1bc {a b c : ℕ} (h : (⟨3, ![a, b, c]⟩ : Shape).numel = (⟨4, ![a, 1, b, c]⟩ : Shape).numel)
    (x : Fin a) (y : Fin b) (z : Fin c) : Shape.reshapeEquiv h (ix3 x y z) = ix4 x (⟨0, Nat.one_pos⟩ : Fin 1) y z :=
  Shape.reshapeEquiv_eq_of_rowMajor h (by
    rw [Shape.rowMajor_val_four, Shape.rowMajor_val_three]
    show (((x.val * 1 + 0) * b + y.val) * c + z.val) = (x.val * b + y.val) * c + z.val
    simp only [Nat.mul_one, Nat.add_zero])

/-- Where element `(t, r, l)` of chunk `k`'s slab, and of column `k`, lies. -/
theorem emb_slot (k : Fin k0_t1_loop.trips) (t : Fin 208) (r : Fin 16) (l : Fin 128) :
    (oSlot k).view.emb (ix3 t r l) = (ix4 (⟨k.val, k.isLt⟩ : Fin 26) t r l : S26x208x16x128.Idx) := by
  have h1 : (oSlot k).view.emb (ix3 t r l)
      = (Rect.unit (s := S26x208x16x128) (k0_off3 k) S1x208x16x128.size (k0_off3_inb k)).emb
          (Shape.reshapeEquiv squeezes_S1x208x16x128_S208x16x128.numel_eq (ix3 t r l)) := rfl
  rw [h1, reshapeEquiv_ix3_1abc]
  funext a
  apply Fin.ext
  rw [Rect.emb_apply]
  have h2 := (closedOff_k0_off3 k).eq
  have h3 : ∀ a, (Rect.unit (s := S26x208x16x128) (k0_off3 k) S1x208x16x128.size (k0_off3_inb k)).off a = (![k.val, 0, 0, 0] : Fin 4 → ℕ) a :=
    fun a => congrFun h2 a
  rw [h3]
  match a with
  | ⟨0, _⟩ => show k.val + 1 * 0 = k.val; omega
  | ⟨1, _⟩ => show 0 + 1 * t.val = t.val; omega
  | ⟨2, _⟩ => show 0 + 1 * r.val = r.val; omega
  | ⟨3, _⟩ => show 0 + 1 * l.val = l.val; omega
theorem emb_col (k : Fin k0_t1_loop.trips) (t : Fin 208) (r : Fin 16) (l : Fin 128) :
    (oCol k).view.emb (ix3 t r l) = (ix4 t (⟨k.val, k.isLt⟩ : Fin 26) r l : S208x26x16x128.Idx) := by
  have h1 : (oCol k).view.emb (ix3 t r l)
      = (Rect.unit (s := S208x26x16x128) (k0_off213 k) S208x1x16x128.size (k0_off213_inb k)).emb
          (Shape.reshapeEquiv squeezes_S208x1x16x128_S208x16x128.numel_eq (ix3 t r l)) := rfl
  rw [h1, reshape_a1bc]
  funext a
  apply Fin.ext
  rw [Rect.emb_apply]
  have h2 := (closedOff_k0_off213 k).eq
  have h3 : ∀ a, (Rect.unit (s := S208x26x16x128) (k0_off213 k) S208x1x16x128.size (k0_off213_inb k)).off a = (![0, k.val, 0, 0] : Fin 4 → ℕ) a :=
    fun a => congrFun h2 a
  rw [h3]
  match a with
  | ⟨0, _⟩ => show 0 + 1 * t.val = t.val; omega
  | ⟨1, _⟩ => show k.val + 1 * 0 = k.val; omega
  | ⟨2, _⟩ => show 0 + 1 * r.val = r.val; omega
  | ⟨3, _⟩ => show 0 + 1 * l.val = l.val; omega

/-- Which elements of the output array column `k` is; of the scratch, slab `k`. -/
theorem mem_col (k : Fin k0_t1_loop.trips) (y : S208x26x16x128.Idx) : y ∈ (oCol k).view.set ↔ (y 1).val = k.val := by
  constructor
  · intro h
    obtain ⟨x, -, rfl⟩ := Finset.mem_map.1 h
    obtain ⟨t, r, l, rfl⟩ : ∃ t r l, x = ix3 t r l := ⟨x 0, x 1, x 2, by funext a; fin_cases a <;> rfl⟩
    have e := emb_col k t r l
    rw [e]
  · intro h
    refine Finset.mem_map.2 ⟨ix3 (y 0) (y 2) (y 3), Finset.mem_univ _, ?_⟩
    refine (emb_col k (y 0) (y 2) (y 3)).trans ?_
    funext a
    apply Fin.ext
    match a with
    | ⟨0, _⟩ => rfl
    | ⟨1, _⟩ => exact h.symm
    | ⟨2, _⟩ => rfl
    | ⟨3, _⟩ => rfl
theorem mem_slot (k : Fin k0_t1_loop.trips) (y : S26x208x16x128.Idx) : y ∈ (oSlot k).view.set ↔ (y 0).val = k.val := by
  constructor
  · intro h
    obtain ⟨x, -, rfl⟩ := Finset.mem_map.1 h
    obtain ⟨t, r, l, rfl⟩ : ∃ t r l, x = ix3 t r l := ⟨x 0, x 1, x 2, by funext a; fin_cases a <;> rfl⟩
    have e := emb_slot k t r l
    rw [e]
  · intro h
    refine Finset.mem_map.2 ⟨ix3 (y 1) (y 2) (y 3), Finset.mem_univ _, ?_⟩
    refine (emb_slot k (y 1) (y 2) (y 3)).trans ?_
    funext a
    apply Fin.ext
    match a with
    | ⟨0, _⟩ => exact h.symm
    | ⟨1, _⟩ => rfl
    | ⟨2, _⟩ => rfl
    | ⟨3, _⟩ => rfl

section
variable (c : Dev nD)
variable (XW : Buf (Elt F) (aW.view.loc (c : Thread nD τ))) (XS : Buf (Elt F) (aS.view.loc (c : Thread nD τ)))
  (XZ : Buf (Elt F) (aZ.view.loc (c : Thread nD τ)))

/-- What the output array holds in the end: at `(t, k, r, l)`, element `(r, l)` of chunk `k`'s tile `t`. -/
def outC : Buf (Elt F) (aO.view.loc (c : Thread nD τ)) :=
  fun (y : S208x26x16x128.Idx) => tileAt (c := c) (⟨(y 1).val, (y 1).isLt⟩ : Fin k0_t1_loop.trips) XW XS XZ (y 0).val (ix4 (0 : Fin 1) (0 : Fin 1) (y 2) (y 3))

theorem idx_eq (x : S208x16x128.Idx) : ∃ (t : Fin 208) (r : Fin 16) (l : Fin 128), x = ix3 t r l :=
  ⟨x 0, x 1, x 2, by funext a; fin_cases a <;> rfl⟩
/-- Its element `(t, r, l)` of column `k`. -/
theorem out_at (k : Fin k0_t1_loop.trips) (t : Fin 208) (r : Fin 16) (l : Fin 128) :
    outC c XW XS XZ ((oCol k).view.emb (ix3 t r l)) = tileAt (c := c) k XW XS XZ t.val (ix4 (0 : Fin 1) (0 : Fin 1) r l) := by
  refine (congrArg (outC c XW XS XZ) (emb_col k t r l)).trans ?_
  rfl

/-- Element `(r, l)` of tile `t` as it lies in the scratch. -/
theorem slot_tile (k : Fin k0_t1_loop.trips) (W : Buf (Elt F) ((oSlot k).view.loc (c : Thread nD τ)))
    (hW : Agree k XW XS XZ W (List.range 208)) (t : Fin 208) (r : Fin 16) (l : Fin 128) :
    (oSlot k).view.read (Elt F) W (ix3 t r l) = tileAt (c := c) k XW XS XZ t.val (ix4 (0 : Fin 1) (0 : Fin 1) r l) := by
  have inb : ∀ a, (![k.val, t.val, 0, 0] : Fin 4 → ℕ) a + S1x1x16x128.size a ≤ S26x208x16x128.size a := by
    have h1 : k.val < 26 := k.isLt
    have h2 := t.isLt
    intro a
    match a with
    | ⟨0, _⟩ => show k.val + 1 ≤ 26; omega
    | ⟨1, _⟩ => show t.val + 1 ≤ 208; omega
    | ⟨2, _⟩ => show 0 + 16 ≤ 16; omega
    | ⟨3, _⟩ => show 0 + 128 ≤ 128; omega
  have h := congrFun (hW t.val (List.mem_range.2 t.isLt) inb) (ix4 (0 : Fin 1) (0 : Fin 1) r l)
  rw [← h]
  show W ((oSlot k).view.emb (ix3 t r l)) = W ((Rect.unit (s := S26x208x16x128) ![k.val, t.val, 0, 0] S1x1x16x128.size inb).emb (ix4 (0 : Fin 1) (0 : Fin 1) r l))
  refine congrArg W ?_
  rw [emb_slot]
  funext a
  apply Fin.ext
  rw [Rect.emb_apply]
  match a with
  | ⟨0, _⟩ => show k.val = k.val + 1 * 0; omega
  | ⟨1, _⟩ => show t.val = t.val + 1 * 0; omega
  | ⟨2, _⟩ => show r.val = 0 + 1 * r.val; omega
  | ⟨3, _⟩ => show l.val = 0 + 1 * l.val; omega

/-- What the transfer of a filled slab leaves in its column is what the output array shall hold there. -/
theorem landO (k : Fin k0_t1_loop.trips) (W : Buf (Elt F) ((oSlot k).view.loc (c : Thread nD τ)))
    (hW : Agree k XW XS XZ W (List.range 208)) (g) :
    ownP c (oCol k) ((oCol k).view.writes (Elt F) g [⟨Rect.whole S208x16x128, ReadAs.same.apply ((oSlot k).view.read (Elt F) W)⟩])
      = ownP (F := F) c (oCol k) (outC c XW XS XZ) := by
  refine pointsTo_congr fun i hi => ?_
  obtain ⟨x, -, hx⟩ := Finset.mem_map.1 hi
  obtain ⟨t, r, l, hx3⟩ := idx_eq x
  have e : ∀ G : Buf (Elt F) ((oCol k).view.loc (c : Thread nD τ)), G ((oCol k).view.emb x) = (oCol k).view.read (Elt F) G x := fun G => rfl
  have h2 : (oSlot k).view.read (Elt F) W x = outC c XW XS XZ i := by
    rw [← hx, hx3, slot_tile c XW XS XZ k W hW t r l]
    exact (out_at c XW XS XZ k t r l).symm
  rw [← h2, ← hx]
  refine (e _).trans ?_
  rw [View.read_writes_whole]

/-! A chunk before its transfer, during it, and after it. -/

abbrev freeC (i : Fin k0_t1_loop.trips) : sProp 𝕄 :=
  iprop((∃ f, ownP c (oSlot i) f) ∗ (∃ g, ownP c (oCol i) g) ∗ zeroP c (oSem i))
abbrev flyC (i : Fin k0_t1_loop.trips) : sProp 𝕄 :=
  iprop(∃ f, flyP c (oSem i) 26624 iprop(ownP c (oCol i) (outC c XW XS XZ) ∗ ownP c (oSlot i) f))
abbrev doneC (i : Fin k0_t1_loop.trips) : sProp 𝕄 :=
  iprop((∃ f, ownP c (oSlot i) f) ∗ ownP c (oCol i) (outC c XW XS XZ) ∗ zeroP c (oSem i))
/-- Chunk `i` when the chunks below `lo` are out and those from `lo` to `hi` are on their way. -/
def chunk (lo hi : ℕ) (i : Fin k0_t1_loop.trips) : sProp 𝕄 :=
  if i.val < lo then doneC c XW XS XZ i else if i.val < hi then flyC c XW XS XZ i else freeC c i
def St (lo hi : ℕ) : sProp 𝕄 := bigSep Finset.univ (chunk c XW XS XZ lo hi)

theorem St_apart (lo hi : ℕ) (k : Fin k0_t1_loop.trips) :
    St c XW XS XZ lo hi = iprop(chunk c XW XS XZ lo hi k ∗ bigSep (Finset.univ.erase k) (chunk c XW XS XZ lo hi)) := by
  unfold St
  conv_lhs => rw [← Finset.insert_erase (Finset.mem_univ k), bigSep_insert (Finset.notMem_erase _ _)]
  rfl
/-- Chunk `k` before its transfer starts; as it starts. -/
theorem St_free (lo : ℕ) (k : Fin k0_t1_loop.trips) (h : lo ≤ k.val) :
    St c XW XS XZ lo k.val = iprop(freeC c k ∗ bigSep (Finset.univ.erase k) (chunk c XW XS XZ lo k.val)) := by
  rw [St_apart c XW XS XZ lo k.val k]
  rw [show chunk c XW XS XZ lo k.val k = freeC c k by unfold chunk; rw [if_neg (by omega), if_neg (by omega)]]
theorem St_start (lo : ℕ) (k : Fin k0_t1_loop.trips) (h : lo ≤ k.val) :
    St c XW XS XZ lo (k.val + 1) = iprop(flyC c XW XS XZ k ∗ bigSep (Finset.univ.erase k) (chunk c XW XS XZ lo k.val)) := by
  rw [St_apart c XW XS XZ lo (k.val + 1) k]
  rw [show chunk c XW XS XZ lo (k.val + 1) k = flyC c XW XS XZ k by unfold chunk; rw [if_neg (by omega), if_pos (by omega)]]
  congr 1
  refine bigSep_congr fun i hi => ?_
  have hne : i.val ≠ k.val := fun e => Finset.ne_of_mem_erase hi (Fin.ext e)
  have hp : (i.val < k.val + 1) = (i.val < k.val) := propext (by omega)
  simp only [chunk, hp]
/-- Chunk `p` while its transfer is the oldest; once it has been waited for. -/
theorem St_fly (p : Fin k0_t1_loop.trips) (hi : ℕ) (h : p.val < hi) :
    St c XW XS XZ p.val hi = iprop(flyC c XW XS XZ p ∗ bigSep (Finset.univ.erase p) (chunk c XW XS XZ p.val hi)) := by
  rw [St_apart c XW XS XZ p.val hi p]
  rw [show chunk c XW XS XZ p.val hi p = flyC c XW XS XZ p by unfold chunk; rw [if_neg (by omega), if_pos (by omega)]]
theorem St_done (p : Fin k0_t1_loop.trips) (hi : ℕ) :
    St c XW XS XZ (p.val + 1) hi = iprop(doneC c XW XS XZ p ∗ bigSep (Finset.univ.erase p) (chunk c XW XS XZ p.val hi)) := by
  rw [St_apart c XW XS XZ (p.val + 1) hi p]
  rw [show chunk c XW XS XZ (p.val + 1) hi p = doneC c XW XS XZ p by unfold chunk; rw [if_pos (by omega)]]
  congr 1
  refine bigSep_congr fun i hi => ?_
  have hne : i.val ≠ p.val := fun e => Finset.ne_of_mem_erase hi (Fin.ext e)
  have hp : (i.val < p.val + 1) = (i.val < p.val) := propext (by omega)
  simp only [chunk, hp]

/-! The names under which the waits mention an earlier chunk. -/

/-- The chunk whose transfer trip `k` waits for. -/
abbrev prev (k : Fin k0_t1_loop.trips) : Fin k0_t1_loop.trips := ⟨k.val - 5, lt_of_le_of_lt (Nat.sub_le _ _) k.isLt⟩
theorem cond7_iff : ∀ k : Fin k0_t1_loop.trips, k0_cond7 k = 1#1 ↔ 5 ≤ k.val := by decide +kernel
theorem off214_prev : ∀ k : Fin k0_t1_loop.trips, k0_cond7 k = 1#1 → k0_off214 k = k0_off212 (prev k) := by decide +kernel
theorem off215_prev : ∀ k : Fin k0_t1_loop.trips, k0_cond7 k = 1#1 → k0_off215 k = k0_off213 (prev k) := by decide +kernel
theorem off216_prev : ∀ k : Fin k0_t1_loop.trips, k0_cond7 k = 1#1 → k0_off216 k = k0_off3 (prev k) := by decide +kernel
abbrev last (k : Fin k0_t2_loop.trips) : Fin k0_t1_loop.trips := ⟨k.val + 21, by have h : k.val < 5 := k.isLt; show k.val + 21 < 26; omega⟩
theorem off217_last : ∀ k : Fin k0_t2_loop.trips, k0_off217 k = k0_off212 (last k) := by decide +kernel
theorem off218_last : ∀ k : Fin k0_t2_loop.trips, k0_off218 k = k0_off213 (last k) := by decide +kernel
theorem off219_last : ∀ k : Fin k0_t2_loop.trips, k0_off219 k = k0_off3 (last k) := by decide +kernel

/-- A transfer and what it moves under any other spelling of the same offsets. -/
theorem fly_respell {o1 o1' : Fin 1 → ℕ} {o2 o2' : Fin 4 → ℕ} {o3 o3' : Fin 4 → ℕ} (e1 : o1 = o1') (e2 : o2 = o2') (e3 : o3 = o3')
    (i1 i1' i2 i2' i3 i3') (G : Buf (Elt F) (aO.view.loc (c : Thread nD τ))) :
    (iprop(∃ f, flyP c ((cc0_scoped7.slice (Rect.unit (s := S26) o1 S1.size i1)).squeeze S_ squeezes_S1_S_) 26624
      iprop(ownP c ((aO.slice (Rect.unit (s := S208x26x16x128) o2 S208x1x16x128.size i2) (fun _ => rfl)).squeeze S208x16x128 squeezes_S208x1x16x128_S208x16x128) G
        ∗ (ownP c ((bO.slice (Rect.unit (s := S26x208x16x128) o3 S1x208x16x128.size i3) (fun _ => rfl)).squeeze S208x16x128 squeezes_S1x208x16x128_S208x16x128) f))) : sProp 𝕄)
    = iprop(∃ f, flyP c ((cc0_scoped7.slice (Rect.unit (s := S26) o1' S1.size i1')).squeeze S_ squeezes_S1_S_) 26624
      iprop(ownP c ((aO.slice (Rect.unit (s := S208x26x16x128) o2' S208x1x16x128.size i2') (fun _ => rfl)).squeeze S208x16x128 squeezes_S208x1x16x128_S208x16x128) G
        ∗ (ownP c ((bO.slice (Rect.unit (s := S26x208x16x128) o3' S1x208x16x128.size i3') (fun _ => rfl)).squeeze S208x16x128 squeezes_S1x208x16x128_S208x16x128) f))) := by
  subst e1 e2 e3; rfl
theorem done_respell {o1 o1' : Fin 1 → ℕ} {o2 o2' : Fin 4 → ℕ} {o3 o3' : Fin 4 → ℕ} (e1 : o1 = o1') (e2 : o2 = o2') (e3 : o3 = o3')
    (i1 i1' i2 i2' i3 i3') (G : Buf (Elt F) (aO.view.loc (c : Thread nD τ))) :
    (iprop((∃ f, ownP c ((bO.slice (Rect.unit (s := S26x208x16x128) o3 S1x208x16x128.size i3) (fun _ => rfl)).squeeze S208x16x128 squeezes_S1x208x16x128_S208x16x128) f)
      ∗ ownP c ((aO.slice (Rect.unit (s := S208x26x16x128) o2 S208x1x16x128.size i2) (fun _ => rfl)).squeeze S208x16x128 squeezes_S208x1x16x128_S208x16x128) G
      ∗ zeroP c ((cc0_scoped7.slice (Rect.unit (s := S26) o1 S1.size i1)).squeeze S_ squeezes_S1_S_)) : sProp 𝕄)
    = iprop((∃ f, ownP c ((bO.slice (Rect.unit (s := S26x208x16x128) o3' S1x208x16x128.size i3') (fun _ => rfl)).squeeze S208x16x128 squeezes_S1x208x16x128_S208x16x128) f)
      ∗ ownP c ((aO.slice (Rect.unit (s := S208x26x16x128) o2' S208x1x16x128.size i2') (fun _ => rfl)).squeeze S208x16x128 squeezes_S208x1x16x128_S208x16x128) G
      ∗ zeroP c ((cc0_scoped7.slice (Rect.unit (s := S26) o1' S1.size i1')).squeeze S_ squeezes_S1_S_)) := by
  subst e1 e2 e3; rfl

end

end Cert.Proof.KernelIdeal

end
-- ==== Proof.KernelIdeal.Dequant.lean ====
module

public import proofs.«01_k».proof.Proof.KernelIdeal.Names

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Agreement on a list that holds every tile's number is agreement on all tiles. -/
theorem agree_all {c : Dev nD} {k : Fin k0_t1_loop.trips}
    {fW : Buf (Elt F) ((wWin k).view.loc (c : Thread nD τ))} {fS : Buf (Elt F) ((sWin k).view.loc (c : Thread nD τ))}
    {fZ : Buf (Elt F) ((zWin k).view.loc (c : Thread nD τ))} {f : Buf (Elt F) ((oSlot k).view.loc (c : Thread nD τ))} {T : List ℕ}
    (h : Agree k fW fS fZ f T) (hT : ∀ t : Fin 208, t.val ∈ T) : Agree k fW fS fZ f (List.range 208) :=
  fun t ht => h t (hT ⟨t, List.mem_range.1 ht⟩)

set_option sl_exec.partsLeafInline true in
set_option maxHeartbeats 0 in
set_option maxRecDepth 100000 in
/-- One trip's dequantization: from the first printed part's specification (`hcut`: it hands over the chunk's windows and
the first two rows of scales), all 208 stores into the chunk's slab run, and the slab then holds every tile. -/
theorem dequantRun (c : Dev nD) (k : Fin k0_t1_loop.trips) (c0 c1 : BitVec 32) (A B : sProp 𝕄)
    (fW : Buf (Elt F) ((wWin k).view.loc (c : Thread nD τ))) (fS : Buf (Elt F) ((sWin k).view.loc (c : Thread nD τ)))
    (fZ : Buf (Elt F) ((zWin k).view.loc (c : Thread nD τ)))
    (fO : Buf (Elt F) ((oSlot k).view.loc (c : Thread nD τ)))
    (hcut : A ⊢ wp frame (wpE (defs₀ (F := F)) 𝒱₀ (c : Thread nD τ) none) Set.univ
      (k0_part1 aW (Memref.isWhole_whole _) aS (Memref.isWhole_whole _) aZ (Memref.isWhole_whole _) aO (Memref.isWhole_whole _)
        bW (Memref.isWhole_whole _) bS (Memref.isWhole_whole _) bZ (Memref.isWhole_whole _) bO (Memref.isWhole_whole _)
        cc0_scoped4 cc0_scoped5 cc0_scoped6 cc0_scoped7 c0 c1 k)
      (fun r => iprop(⌜r.2.1 = k0_pay1 (sRow k fS 0)⌝ ∗ ⌜r.2.2 = k0_pay2 (sRow k fS 1)⌝ ∗ winPre c k fW fS fZ ∗ B))) :
    ∃ W : Buf (Elt F) ((oSlot k).view.loc (c : Thread nD τ)), Agree k fW fS fZ W (List.range 208) ∧
    ∀ (Q : PUnit → sProp 𝕄),
     iprop(A ∗ ((oSlot k).view.loc (c : Thread nD τ) ↦[(oSlot k).view.set]{fullShare} fO)
       ∗ (iprop(winPre c k fW fS fZ ∗ B ∗ ((oSlot k).view.loc (c : Thread nD τ) ↦[(oSlot k).view.set]{fullShare} W)) -∗ Q ⟨⟩))
     ⊢ wp frame (wpE (defs₀ (F := F)) 𝒱₀ (c : Thread nD τ) none) Set.univ
      (do
        let ⟨v79_r0, v106_r0, v113_r0, v120_r0, v127_r0, v134_r0, v141_r0, v148_r0, v155_r0, v162_r0, v169_r0, v176_r0, v183_r0, v190_r0, v197_r0, v204_r0, v211_r0, v218_r0, v225_r0, v232_r0, v239_r0, v246_r0, v253_r0, v260_r0, v267_r0, v274_r0, v281_r0, v2181_r0, v2182_r0, v2191_r0⟩ ←
          k0_part107 aW (Memref.isWhole_whole _) aS (Memref.isWhole_whole _) aZ (Memref.isWhole_whole _) aO (Memref.isWhole_whole _)
            bW (Memref.isWhole_whole _) bS (Memref.isWhole_whole _) bZ (Memref.isWhole_whole _) bO (Memref.isWhole_whole _)
            cc0_scoped4 cc0_scoped5 cc0_scoped6 cc0_scoped7 c0 c1 k
        k0_part108 aW (Memref.isWhole_whole _) aS (Memref.isWhole_whole _) aZ (Memref.isWhole_whole _) aO (Memref.isWhole_whole _)
          bW (Memref.isWhole_whole _) bS (Memref.isWhole_whole _) bZ (Memref.isWhole_whole _) bO (Memref.isWhole_whole _)
          cc0_scoped4 cc0_scoped5 cc0_scoped6 cc0_scoped7 k v106_r0 v113_r0 v120_r0 v127_r0 v134_r0 v141_r0 v148_r0 v155_r0 v162_r0 v169_r0 v176_r0 v183_r0 v190_r0 v197_r0 v204_r0 v211_r0 v218_r0 v225_r0 v232_r0 v239_r0 v246_r0 v253_r0 v260_r0 v267_r0 v274_r0 v281_r0 v2181_r0 v2182_r0 v2191_r0) Q := by
  refine ⟨?_, ?good, fun Q => ?run⟩
  case run =>
    iintro ⟨HA, HO, Hk⟩
    sl_exec_parts
    sl_step
    obtain rfl : v106_r0 = _ := hk0_part1_0
    obtain rfl : v109_r0 = _ := hk0_part1_1
    iapply Hk
    isplitr [Hk0_part1_5 HO]
    · isplitl [Hk0_part1_2]; · iexact Hk0_part1_2
      isplitl [Hk0_part1_3]; · iexact Hk0_part1_3
      iexact Hk0_part1_4
    isplitl [Hk0_part1_5]; · iexact Hk0_part1_5
    iexact HO
  case good =>
    apply agree_all
    case h =>
      iterate 208
        apply agree_step k fW fS fZ
        · exact rfl
        · exact rfl
      exact agree_nil k fW fS fZ fO
    case hT => exact (by decide +kernel)

end Cert.Proof.KernelIdeal

end
-- ==== Proof.KernelIdeal.Trip.lean ====
module

public import proofs.«01_k».proof.Proof.KernelIdeal.Writes
public import proofs.«01_k».proof.Proof.KernelIdeal.Dequant

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

theorem ent_eq {P Q : sProp 𝕄} (h : P = Q) : P ⊢ Q := by rw [h]

section
variable (c : Dev nD)
variable (XW : Buf (Elt F) (aW.view.loc (c : Thread nD τ))) (XS : Buf (Elt F) (aS.view.loc (c : Thread nD τ)))
  (XZ : Buf (Elt F) (aZ.view.loc (c : Thread nD τ)))

/-- The transfer that trip `k` starts. -/
abbrev enqG (k : Fin k0_t1_loop.trips) : Prog (TpuEff nD τ sig (Elt F) Λ₀ .tc) PUnit :=
  Prog.lift (.enqueueDma (oSlot k) (.here (oCol k)) (.dma (oSem k).sem)
    (((Memref.isWhole_whole cc0_scoped3).wordExact_slice rfl _ (k0_off3_wordsbf16 k)).reshape _ _)
    (((Memref.isWhole_whole main_v0).wordExact_slice rfl _ (k0_off213_wordsbf16 k)).reshape _ _) ⟨Or.inl rfl, trivial⟩)
/-- The wait that ends trip `k`, from the sixth trip on. -/
abbrev waitG (k : Fin k0_t1_loop.trips) : Prog (TpuEff nD τ sig (Elt F) Λ₀ .tc) PUnit := do
  if k0_h7 : k0_cond7 k = 1#1 then do
    Prog.lift (.waitDma2 ((cc0_scoped7.slice (Rect.unit (s := S26) (k0_off214 k) S1.size (k0_off214_inb k k0_h7))).squeeze S_ squeezes_S1_S_).sem
      ((bO.slice (Rect.unit (s := S26x208x16x128) (k0_off216 k) S1x208x16x128.size (k0_off216_inb k k0_h7)) (fun _ => rfl)).squeeze S208x16x128 squeezes_S1x208x16x128_S208x16x128)
      ((aO.slice (Rect.unit (s := S208x26x16x128) (k0_off215 k) S208x1x16x128.size (k0_off215_inb k k0_h7)) (fun _ => rfl)).squeeze S208x16x128 squeezes_S208x1x16x128_S208x16x128)
      (((Memref.isWhole_whole cc0_scoped3).wordExact_slice rfl _ (k0_off216_wordsbf16 k k0_h7)).reshape _ _)
      (((Memref.isWhole_whole main_v0).wordExact_slice rfl _ (k0_off215_wordsbf16 k k0_h7)).reshape _ _))
    pure ⟨⟩
  else do
    pure ⟨⟩
  pure ⟨⟩

set_option maxHeartbeats 2000000 in
/-- Starting chunk `k`'s transfer from a slab that holds every tile. -/
theorem enq_run (k : Fin k0_t1_loop.trips) (W : Buf (Elt F) ((oSlot k).view.loc (c : Thread nD τ)))
    (hW : Agree k XW XS XZ W (List.range 208)) :
    iprop((∃ O, owes (c : Thread nD τ) 0 O) ∗ ownP c (oSlot k) W ∗ (∃ g, ownP c (oCol k) g) ∗ zeroP c (oSem k))
      ⊢ wp frame (wpE (defs₀ (F := F)) 𝒱₀ (c : Thread nD τ) none) Set.univ (enqG k)
        (fun _ => iprop((∃ O, owes (c : Thread nD τ) 0 O) ∗ flyC c XW XS XZ k)) := by
  iintro ⟨⟨%O, HO⟩, HS, ⟨%g, HC⟩, HZ⟩
  sl_exec
  sl_step
  isplitl [HO]; · iexists _; iexact HO
  iexists W
  irw [← landO c XW XS XZ k W hW g]
  iexact HZ

set_option maxHeartbeats 2000000 in
/-- The wait of trip `k`. -/
theorem wait_run (k : Fin k0_t1_loop.trips) (h7 : k0_cond7 k = 1#1) :
    iprop((∃ O, owes (c : Thread nD τ) 0 O) ∗ flyC c XW XS XZ (prev k))
      ⊢ wp frame (wpE (defs₀ (F := F)) 𝒱₀ (c : Thread nD τ) none) Set.univ (waitG k)
        (fun _ => iprop((∃ O, owes (c : Thread nD τ) 0 O) ∗ doneC c XW XS XZ (prev k))) := by
  unfold flyC doneC oSem oCol oSlot
  rw [fly_respell c (off214_prev k h7).symm (off215_prev k h7).symm (off216_prev k h7).symm _ (k0_off214_inb k h7) _ (k0_off215_inb k h7) _ (k0_off216_inb k h7),
    done_respell c (off214_prev k h7).symm (off215_prev k h7).symm (off216_prev k h7).symm _ (k0_off214_inb k h7) _ (k0_off215_inb k h7) _ (k0_off216_inb k h7)]
  iintro ⟨⟨%O, HO⟩, ⟨%f, HF⟩⟩
  sl_exec
  sl_step
  isplitl [HO]; · iexists _; iexact HO
  isplitl [HF_src]; · iexists f; iexact HF_src
  isplitl [HF_dst]; · iexact HF_dst
  iexact HF
theorem nowait_run (k : Fin k0_t1_loop.trips) (h7 : ¬ k0_cond7 k = 1#1) (P : sProp 𝕄) :
    P ⊢ wp frame (wpE (defs₀ (F := F)) 𝒱₀ (c : Thread nD τ) none) Set.univ (waitG k) (fun _ => P) := by
  iintro HP
  sl_exec
  sl_step
  iexact HP

/-- Trip `k`'s dequantization. -/
abbrev prefG (k : Fin k0_t1_loop.trips) : Prog (TpuEff nD τ sig (Elt F) Λ₀ .tc) PUnit := do
  let ⟨v79_r0, v106_r0, v113_r0, v120_r0, v127_r0, v134_r0, v141_r0, v148_r0, v155_r0, v162_r0, v169_r0, v176_r0, v183_r0, v190_r0, v197_r0, v204_r0, v211_r0, v218_r0, v225_r0, v232_r0, v239_r0, v246_r0, v253_r0, v260_r0, v267_r0, v274_r0, v281_r0, v2181_r0, v2182_r0, v2191_r0⟩ ←
    k0_part107 aW (Memref.isWhole_whole _) aS (Memref.isWhole_whole _) aZ (Memref.isWhole_whole _) aO (Memref.isWhole_whole _)
      bW (Memref.isWhole_whole _) bS (Memref.isWhole_whole _) bZ (Memref.isWhole_whole _) bO (Memref.isWhole_whole _)
      cc0_scoped4 cc0_scoped5 cc0_scoped6 cc0_scoped7 0#32 1#32 k
  k0_part108 aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 k v106_r0 v113_r0 v120_r0 v127_r0 v134_r0 v141_r0 v148_r0 v155_r0 v162_r0 v169_r0 v176_r0 v183_r0 v190_r0 v197_r0 v204_r0 v211_r0 v218_r0 v225_r0 v232_r0 v239_r0 v246_r0 v253_r0 v260_r0 v267_r0 v274_r0 v281_r0 v2181_r0 v2182_r0 v2191_r0

abbrev body1 (k : Fin k0_t1_loop.trips) : Prog (TpuEff nD τ sig (Elt F) Λ₀ .tc) Unit :=
  k0_t1_body aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 k ()
abbrev body2 (k : Fin k0_t2_loop.trips) : Prog (TpuEff nD τ sig (Elt F) Λ₀ .tc) Unit :=
  k0_t2_body aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 k ()

/-- A trip is its dequantization, its transfer, its wait. -/
theorem body1_eq (k : Fin k0_t1_loop.trips) : body1 (F := F) k = (prefG k >>= fun _ => enqG k >>= fun _ => waitG k) := by
  unfold prefG
  rw [Prog.bind_assoc]
  rfl

/-- The state before trip `k`. -/
abbrev inv1 (k : ℕ) : sProp 𝕄 := iprop(Rd c XW XS XZ k ∗ St c XW XS XZ (k - 5) k)
abbrev inv2 (k : ℕ) : sProp 𝕄 := iprop(Rd c XW XS XZ 26 ∗ St c XW XS XZ (k + 21) 26)

theorem trip_deq (k : Fin k0_t1_loop.trips) (fO : Buf (Elt F) ((oSlot k).view.loc (c : Thread nD τ))) :
    iprop(Rd c XW XS XZ k.val ∗ ownP c (oSlot k) fO)
      ⊢ wp frame (wpE (defs₀ (F := F)) 𝒱₀ (c : Thread nD τ) none) Set.univ (prefG k)
        (fun _ => iprop(∃ W, ⌜Agree k XW XS XZ W (List.range 208)⌝ ∗ Rd c XW XS XZ (k.val + 1) ∗ ownP c (oSlot k) W)) := by
  obtain ⟨W, hW, hrun⟩ := dequantRun c k 0#32 1#32 (Rd c XW XS XZ k.val)
    iprop(winPre c k XW XS XZ -∗ Rd c XW XS XZ (k.val + 1)) XW XS XZ fO (part1_run c XW XS XZ k)
  iintro ⟨HR, HO⟩
  iapply (hrun _)
  isplitl [HR]; · iexact HR
  isplitl [HO]; · iexact HO
  iintro ⟨HW, HB, HO⟩
  iexists W
  isplitr; · ipureintro; exact hW
  isplitl [HW HB]
  · iapply HB; iexact HW
  iexact HO

/-- One trip of the main loop. -/
theorem trip1_run (k : Fin k0_t1_loop.trips) :
    inv1 c XW XS XZ k.val ⊢ wp frame (wpE (defs₀ (F := F)) 𝒱₀ (c : Thread nD τ) none) Set.univ (body1 k)
      (fun _ => inv1 c XW XS XZ (k.val + 1)) := by
  rw [body1_eq, wp_bind]
  unfold inv1
  rw [St_free c XW XS XZ (k.val - 5) k (Nat.sub_le _ _)]
  iintro ⟨HR, ⟨⟨⟨%fO, HS⟩, HC, HZ⟩, Hrest⟩⟩
  iapply (wp_wand_r Idealize.ShloMosaic.frame (wpE (defs₀ (F := F)) 𝒱₀ (c : Thread nD τ) none) Set.univ)
  isplitl [HR HS]
  · iapply (trip_deq c XW XS XZ k fO)
    isplitl [HR]; · iexact HR
    iexact HS
  iintro %_ ⟨%W, %hW, HR, HS⟩
  irw [wp_bind]
  unfold Rd
  icases HR with ⟨HV, HO, HG⟩
  iapply (wp_wand_r Idealize.ShloMosaic.frame (wpE (defs₀ (F := F)) 𝒱₀ (c : Thread nD τ) none) Set.univ)
  isplitl [HO HS HC HZ]
  · iapply (enq_run c XW XS XZ k W hW)
    isplitl [HO]; · iexact HO
    isplitl [HS]; · iexact HS
    isplitl [HC]; · iexact HC
    iexact HZ
  iintro %_ ⟨HO, HF⟩
  ihave HT := (ent_eq (St_start c XW XS XZ (k.val - 5) k (Nat.sub_le _ _)).symm) $$ [HF Hrest]
  · isplitl [HF]; · iexact HF
    iexact Hrest
  by_cases h7 : k0_cond7 k = 1#1
  · have h5 : 5 ≤ k.val := (cond7_iff k).1 h7
    ihave HT := (ent_eq (St_fly c XW XS XZ (prev k) (k.val + 1) (by show k.val - 5 < k.val + 1; omega))) $$ HT
    icases HT with ⟨HF, Hrest⟩
    iapply (wp_wand_r Idealize.ShloMosaic.frame (wpE (defs₀ (F := F)) 𝒱₀ (c : Thread nD τ) none) Set.univ)
    isplitl [HO HF]
    · iapply (wait_run c XW XS XZ k h7)
      isplitl [HO]; · iexact HO
      iexact HF
    iintro %_ ⟨HO, HD⟩
    isplitl [HV HO HG]
    · isplitl [HV]; · iexact HV
      isplitl [HO]; · iexact HO
      iexact HG
    have e : k.val + 1 - 5 = (prev k).val + 1 := by show k.val + 1 - 5 = k.val - 5 + 1; omega
    irw [e]
    iapply (ent_eq (St_done c XW XS XZ (prev k) (k.val + 1)).symm)
    isplitl [HD]; · iexact HD
    iexact Hrest
  · have h5 : ¬ 5 ≤ k.val := fun h => h7 ((cond7_iff k).2 h)
    iapply (nowait_run c k h7)
    isplitl [HV HO HG]
    · isplitl [HV]; · iexact HV
      isplitl [HO]; · iexact HO
      iexact HG
    have e : k.val + 1 - 5 = k.val - 5 := by omega
    irw [e]
    iexact HT

set_option maxHeartbeats 2000000 in
/-- One trip of the draining loop. -/
theorem trip2_run (k : Fin k0_t2_loop.trips) :
    inv2 c XW XS XZ k.val ⊢ wp frame (wpE (defs₀ (F := F)) 𝒱₀ (c : Thread nD τ) none) Set.univ (body2 k)
      (fun _ => inv2 c XW XS XZ (k.val + 1)) := by
  have hk : k.val < 5 := k.isLt
  unfold inv2 Rd
  rw [show k.val + 1 + 21 = (last k).val + 1 by show k.val + 1 + 21 = k.val + 21 + 1; omega,
    show k.val + 21 = (last k).val from rfl,
    St_fly c XW XS XZ (last k) 26 (by show k.val + 21 < 26; omega), St_done c XW XS XZ (last k) 26]
  unfold flyC doneC oSem oCol oSlot
  rw [fly_respell c (off217_last k).symm (off218_last k).symm (off219_last k).symm _ (k0_off217_inb k) _ (k0_off218_inb k) _ (k0_off219_inb k),
    done_respell c (off217_last k).symm (off218_last k).symm (off219_last k).symm _ (k0_off217_inb k) _ (k0_off218_inb k) _ (k0_off219_inb k)]
  iintro ⟨⟨HV, ⟨%O, HO⟩, HG⟩, ⟨⟨%f, HF⟩, Hrest⟩⟩
  dsimp only [body2]
  sl_unfold [k0_t2_body]
  sl_exec
  sl_step
  isplitl [HV HO HG]
  · isplitl [HV]; · iexact HV
    isplitl [HO]; · iexists _; iexact HO
    iexact HG
  isplitr [Hrest]
  · isplitl [HF_src]; · iexists f; iexact HF_src
    isplitl [HF_dst]; · iexact HF_dst
    iexact HF
  iexact Hrest

set_option warn.classDefReducibility false in
/-- The main loop's invariant; the draining loop's. -/
def loopInv1 : LoopInvTy_k0_t1 (F := F) Unit ℕ (UU nD τ) ℕ 𝒱₀ c none Set.univ
    aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 where
  inv k _ := inv1 c XW XS XZ k
  step k _ := trip1_run c XW XS XZ k
set_option warn.classDefReducibility false in
def loopInv2 : LoopInvTy_k0_t2 (F := F) Unit ℕ (UU nD τ) ℕ 𝒱₀ c none Set.univ
    aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7 where
  inv k _ := inv2 c XW XS XZ k
  step k _ := trip2_run c XW XS XZ k
end

end Cert.Proof.KernelIdeal

end
-- ==== Proof.KernelIdeal.Prologue.lean ====
module

public import proofs.«01_k».proof.Proof.KernelIdeal.Trip

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section
variable (c : Dev nD)

/-- The columns left of `a + w` are those left of `a` and the window of `w` columns from `a` on. -/
theorem own_win {sp : Space} {R : ℕ} {e : EltTy} (m : Memref sig .tc sp (⟨2, ![R, 6656]⟩ : Shape) e) (a w : ℕ) (inb) (h)
    (f : Buf (Elt F) (m.view.loc (c : Thread nD τ))) :
    (m.view.loc (c : Thread nD τ) ↦[m.view.setOn (colsLt R (a + w))]{fullShare} f : sProp 𝕄)
      = iprop((m.view.loc (c : Thread nD τ) ↦[m.view.setOn (colsLt R a)]{fullShare} f)
        ∗ ownP c (m.slice (Rect.unit (s := (⟨2, ![R, 6656]⟩ : Shape)) ![0, a] ![R, w] inb) h) f) := by
  have e1 : m.view.setOn (colsLt R (a + w)) = m.view.setOn (colsLt R a)
      ∪ (m.slice (Rect.unit (s := (⟨2, ![R, 6656]⟩ : Shape)) ![0, a] ![R, w] inb) h).view.set := by
    rw [← cols_union R a w inb]
    exact (Finset.map_union _ _).trans (congrArg (_ ∪ ·) (View.set_slice m.view _).symm)
  rw [e1]
  have hd := (Finset.disjoint_map m.view.emb).2 (cols_disjoint R a w inb)
  rw [← View.set_slice] at hd
  exact equiv_iff.mp ⟨(pointsTo_union hd).1, (pointsTo_union hd).2⟩
/-- An array of 6656 columns is its six groups of columns. -/
theorem own_six {sp : Space} {R : ℕ} {e : EltTy} (m : Memref sig .tc sp (⟨2, ![R, 6656]⟩ : Shape) e) (i0 i1 i2 i3 i4 i5) (h0 h1 h2 h3 h4 h5)
    (f : Buf (Elt F) (m.view.loc (c : Thread nD τ))) :
    (ownP c m f : sProp 𝕄) = iprop((((((ownP c (m.slice (Rect.unit (s := (⟨2, ![R, 6656]⟩ : Shape)) ![0, 0] ![R, 256] i0) h0) f ∗ ownP c (m.slice (Rect.unit (s := (⟨2, ![R, 6656]⟩ : Shape)) ![0, 256] ![R, 256] i1) h1) f) ∗ ownP c (m.slice (Rect.unit (s := (⟨2, ![R, 6656]⟩ : Shape)) ![0, 512] ![R, 512] i2) h2) f) ∗ ownP c (m.slice (Rect.unit (s := (⟨2, ![R, 6656]⟩ : Shape)) ![0, 1024] ![R, 1024] i3) h3) f) ∗ ownP c (m.slice (Rect.unit (s := (⟨2, ![R, 6656]⟩ : Shape)) ![0, 2048] ![R, 2048] i4) h4) f) ∗ ownP c (m.slice (Rect.unit (s := (⟨2, ![R, 6656]⟩ : Shape)) ![0, 4096] ![R, 2560] i5) h5) f)) := by
  have e0 : (m.view.loc (c : Thread nD τ) ↦[m.view.setOn (colsLt R 256)]{fullShare} f : sProp 𝕄)
      = ownP c (m.slice (Rect.unit (s := (⟨2, ![R, 6656]⟩ : Shape)) ![0, 0] ![R, 256] i0) h0) f := by
    have := own_win c m 0 256 i0 h0 f
    rw [colsLt_zero, show m.view.setOn ∅ = ∅ from Finset.map_empty _, pointsTo_empty] at this
    exact this.trans (equiv_iff.mp emp_sep)
  have e5 : (ownP c m f : sProp 𝕄) = (m.view.loc (c : Thread nD τ) ↦[m.view.setOn (colsLt R 6656)]{fullShare} f) := by
    rw [cols_all]; rfl
  have s1 : (m.view.loc (c : Thread nD τ) ↦[m.view.setOn (colsLt R 512)]{fullShare} f : sProp 𝕄) = _ := own_win c m 256 256 i1 h1 f
  have s2 : (m.view.loc (c : Thread nD τ) ↦[m.view.setOn (colsLt R 1024)]{fullShare} f : sProp 𝕄) = _ := own_win c m 512 512 i2 h2 f
  have s3 : (m.view.loc (c : Thread nD τ) ↦[m.view.setOn (colsLt R 2048)]{fullShare} f : sProp 𝕄) = _ := own_win c m 1024 1024 i3 h3 f
  have s4 : (m.view.loc (c : Thread nD τ) ↦[m.view.setOn (colsLt R 4096)]{fullShare} f : sProp 𝕄) = _ := own_win c m 2048 2048 i4 h4 f
  have s5 : (m.view.loc (c : Thread nD τ) ↦[m.view.setOn (colsLt R 6656)]{fullShare} f : sProp 𝕄) = _ := own_win c m 4096 2560 i5 h5 f
  rw [e5, s5, s4, s3, s2, s1, e0]

variable (XW : Buf (Elt F) (aW.view.loc (c : Thread nD τ))) (XS : Buf (Elt F) (aS.view.loc (c : Thread nD τ)))
  (XZ : Buf (Elt F) (aZ.view.loc (c : Thread nD τ)))

/-! The six groups of each operand, of each VMEM copy, and the eighteen read cells. -/
abbrev hAllW : sProp 𝕄 := iprop((((((ownP c hW0 XW ∗ ownP c hW1 XW) ∗ ownP c hW2 XW) ∗ ownP c hW3 XW) ∗ ownP c hW4 XW) ∗ ownP c hW5 XW))
abbrev vAllW (f : Buf (Elt F) (bW.view.loc (c : Thread nD τ))) : sProp 𝕄 := iprop((((((ownP c vW0 f ∗ ownP c vW1 f) ∗ ownP c vW2 f) ∗ ownP c vW3 f) ∗ ownP c vW4 f) ∗ ownP c vW5 f))
abbrev xAllW : sProp 𝕄 := iprop((((((zeroP c xW0 ∗ zeroP c xW1) ∗ zeroP c xW2) ∗ zeroP c xW3) ∗ zeroP c xW4) ∗ zeroP c xW5))
abbrev hAllS : sProp 𝕄 := iprop((((((ownP c hS0 XS ∗ ownP c hS1 XS) ∗ ownP c hS2 XS) ∗ ownP c hS3 XS) ∗ ownP c hS4 XS) ∗ ownP c hS5 XS))
abbrev vAllS (f : Buf (Elt F) (bS.view.loc (c : Thread nD τ))) : sProp 𝕄 := iprop((((((ownP c vS0 f ∗ ownP c vS1 f) ∗ ownP c vS2 f) ∗ ownP c vS3 f) ∗ ownP c vS4 f) ∗ ownP c vS5 f))
abbrev xAllS : sProp 𝕄 := iprop((((((zeroP c xS0 ∗ zeroP c xS1) ∗ zeroP c xS2) ∗ zeroP c xS3) ∗ zeroP c xS4) ∗ zeroP c xS5))
abbrev hAllZ : sProp 𝕄 := iprop((((((ownP c hZ0 XZ ∗ ownP c hZ1 XZ) ∗ ownP c hZ2 XZ) ∗ ownP c hZ3 XZ) ∗ ownP c hZ4 XZ) ∗ ownP c hZ5 XZ))
abbrev vAllZ (f : Buf (Elt F) (bZ.view.loc (c : Thread nD τ))) : sProp 𝕄 := iprop((((((ownP c vZ0 f ∗ ownP c vZ1 f) ∗ ownP c vZ2 f) ∗ ownP c vZ3 f) ∗ ownP c vZ4 f) ∗ ownP c vZ5 f))
abbrev xAllZ : sProp 𝕄 := iprop((((((zeroP c xZ0 ∗ zeroP c xZ1) ∗ zeroP c xZ2) ∗ zeroP c xZ3) ∗ zeroP c xZ4) ∗ zeroP c xZ5))
theorem hAllW_eq : (ownP c aW XW : sProp 𝕄) = hAllW c XW := own_six c aW _ _ _ _ _ _ _ _ _ _ _ _ XW
theorem vAllW_eq (f) : (ownP c bW f : sProp 𝕄) = vAllW c f := own_six c bW _ _ _ _ _ _ _ _ _ _ _ _ f
theorem hAllS_eq : (ownP c aS XS : sProp 𝕄) = hAllS c XS := own_six c aS _ _ _ _ _ _ _ _ _ _ _ _ XS
theorem vAllS_eq (f) : (ownP c bS f : sProp 𝕄) = vAllS c f := own_six c bS _ _ _ _ _ _ _ _ _ _ _ _ f
theorem hAllZ_eq : (ownP c aZ XZ : sProp 𝕄) = hAllZ c XZ := own_six c aZ _ _ _ _ _ _ _ _ _ _ _ _ XZ
theorem vAllZ_eq (f) : (ownP c bZ f : sProp 𝕄) = vAllZ c f := own_six c bZ _ _ _ _ _ _ _ _ _ _ _ _ f

/-- The eighteen reads that the kernel starts with. -/
abbrev proG : Prog (TpuEff nD τ sig (Elt F) Λ₀ .tc) PUnit := do
  k0_part109 aW (Memref.isWhole_whole _) aS (Memref.isWhole_whole _) aZ (Memref.isWhole_whole _) aO (Memref.isWhole_whole _) bW (Memref.isWhole_whole _) bS (Memref.isWhole_whole _) bZ (Memref.isWhole_whole _) bO (Memref.isWhole_whole _) cc0_scoped4 cc0_scoped5 cc0_scoped6 cc0_scoped7
  k0_part110 aW (Memref.isWhole_whole _) aS (Memref.isWhole_whole _) aZ (Memref.isWhole_whole _) aO (Memref.isWhole_whole _) bW (Memref.isWhole_whole _) bS (Memref.isWhole_whole _) bZ (Memref.isWhole_whole _) bO (Memref.isWhole_whole _) cc0_scoped4 cc0_scoped5 cc0_scoped6 cc0_scoped7
  k0_part111 aW (Memref.isWhole_whole _) aS (Memref.isWhole_whole _) aZ (Memref.isWhole_whole _) aO (Memref.isWhole_whole _) bW (Memref.isWhole_whole _) bS (Memref.isWhole_whole _) bZ (Memref.isWhole_whole _) bO (Memref.isWhole_whole _) cc0_scoped4 cc0_scoped5 cc0_scoped6 cc0_scoped7

set_option maxHeartbeats 8000000 in
/-- They leave six groups in flight, each with its windows of the operands and of the copies. -/
theorem pro_run (fW fS fZ) :
    iprop((∃ O, owes (c : Thread nD τ) 0 O) ∗ hAllW c XW ∗ hAllS c XS ∗ hAllZ c XZ ∗ vAllW c fW ∗ vAllS c fS ∗ vAllZ c fZ ∗ xAllW c ∗ xAllS c ∗ xAllZ c)
      ⊢ wp frame (wpE (defs₀ (F := F)) 𝒱₀ (c : Thread nD τ) none) Set.univ (proG (F := F))
        (fun _ => iprop((∃ O, owes (c : Thread nD τ) 0 O) ∗ flyG0 c XW XS XZ ∗ flyG1 c XW XS XZ ∗ flyG2 c XW XS XZ ∗ flyG3 c XW XS XZ ∗ flyG4 c XW XS XZ
          ∗ flyG5 c XW XS XZ)) := by
  iintro ⟨⟨%O, HO⟩, ⟨⟨⟨⟨⟨HHW0, HHW1⟩, HHW2⟩, HHW3⟩, HHW4⟩, HHW5⟩, ⟨⟨⟨⟨⟨HHS0, HHS1⟩, HHS2⟩, HHS3⟩, HHS4⟩, HHS5⟩, ⟨⟨⟨⟨⟨HHZ0, HHZ1⟩, HHZ2⟩, HHZ3⟩, HHZ4⟩, HHZ5⟩, ⟨⟨⟨⟨⟨HVW0, HVW1⟩, HVW2⟩, HVW3⟩, HVW4⟩, HVW5⟩, ⟨⟨⟨⟨⟨HVS0, HVS1⟩, HVS2⟩, HVS3⟩, HVS4⟩, HVS5⟩, ⟨⟨⟨⟨⟨HVZ0, HVZ1⟩, HVZ2⟩, HVZ3⟩, HVZ4⟩, HVZ5⟩, ⟨⟨⟨⟨⟨HXW0, HXW1⟩, HXW2⟩, HXW3⟩, HXW4⟩, HXW5⟩, ⟨⟨⟨⟨⟨HXS0, HXS1⟩, HXS2⟩, HXS3⟩, HXS4⟩, HXS5⟩, ⟨⟨⟨⟨⟨HXZ0, HXZ1⟩, HXZ2⟩, HXZ3⟩, HXZ4⟩, HXZ5⟩⟩
  sl_unfold [proG, k0_part109, k0_part110, k0_part111]
  sl_exec
  sl_step
  isplitl [HO]; · iexists _; iexact HO
  isplitl [HXS0 HXZ0 HXW0]
  · isplitl [HXS0]
    · irw [← landS c XS (Rect.unit (s := S13x6656) ![0, 0] S13x256.size inb_S13x6656_S13x256_0_0) (fun _ => rfl) fS]
      iexact HXS0
    isplitl [HXZ0]
    · irw [← landZ c XZ (Rect.unit (s := S13x6656) ![0, 0] S13x256.size inb_S13x6656_S13x256_0_0) (fun _ => rfl) fZ]
      iexact HXZ0
    irw [← landW c XW (Rect.unit (s := S208x6656) ![0, 0] S208x256.size inb_S208x6656_S208x256_0_0) (fun _ => rfl) fW]
    iexact HXW0
  isplitl [HXS1 HXZ1 HXW1]
  · isplitl [HXS1]
    · irw [← landS c XS (Rect.unit (s := S13x6656) ![0, 256] S13x256.size inb_S13x6656_S13x256_0_256) (fun _ => rfl) fS]
      iexact HXS1
    isplitl [HXZ1]
    · irw [← landZ c XZ (Rect.unit (s := S13x6656) ![0, 256] S13x256.size inb_S13x6656_S13x256_0_256) (fun _ => rfl) fZ]
      iexact HXZ1
    irw [← landW c XW (Rect.unit (s := S208x6656) ![0, 256] S208x256.size inb_S208x6656_S208x256_0_256) (fun _ => rfl) fW]
    iexact HXW1
  isplitl [HXS2 HXZ2 HXW2]
  · isplitl [HXS2]
    · irw [← landS c XS (Rect.unit (s := S13x6656) ![0, 512] S13x512.size inb_S13x6656_S13x512_0_512) (fun _ => rfl) fS]
      iexact HXS2
    isplitl [HXZ2]
    · irw [← landZ c XZ (Rect.unit (s := S13x6656) ![0, 512] S13x512.size inb_S13x6656_S13x512_0_512) (fun _ => rfl) fZ]
      iexact HXZ2
    irw [← landW c XW (Rect.unit (s := S208x6656) ![0, 512] S208x512.size inb_S208x6656_S208x512_0_512) (fun _ => rfl) fW]
    iexact HXW2
  isplitl [HXS3 HXZ3 HXW3]
  · isplitl [HXS3]
    · irw [← landS c XS (Rect.unit (s := S13x6656) ![0, 1024] S13x1024.size inb_S13x6656_S13x1024_0_1024) (fun _ => rfl) fS]
      iexact HXS3
    isplitl [HXZ3]
    · irw [← landZ c XZ (Rect.unit (s := S13x6656) ![0, 1024] S13x1024.size inb_S13x6656_S13x1024_0_1024) (fun _ => rfl) fZ]
      iexact HXZ3
    irw [← landW c XW (Rect.unit (s := S208x6656) ![0, 1024] S208x1024.size inb_S208x6656_S208x1024_0_1024) (fun _ => rfl) fW]
    iexact HXW3
  isplitl [HXS4 HXZ4 HXW4]
  · isplitl [HXS4]
    · irw [← landS c XS (Rect.unit (s := S13x6656) ![0, 2048] S13x2048.size inb_S13x6656_S13x2048_0_2048) (fun _ => rfl) fS]
      iexact HXS4
    isplitl [HXZ4]
    · irw [← landZ c XZ (Rect.unit (s := S13x6656) ![0, 2048] S13x2048.size inb_S13x6656_S13x2048_0_2048) (fun _ => rfl) fZ]
      iexact HXZ4
    irw [← landW c XW (Rect.unit (s := S208x6656) ![0, 2048] S208x2048.size inb_S208x6656_S208x2048_0_2048) (fun _ => rfl) fW]
    iexact HXW4
  isplitl [HXS5]
  · irw [← landS c XS (Rect.unit (s := S13x6656) ![0, 4096] S13x2560.size inb_S13x6656_S13x2560_0_4096) (fun _ => rfl) fS]
    iexact HXS5
  isplitl [HXZ5]
  · irw [← landZ c XZ (Rect.unit (s := S13x6656) ![0, 4096] S13x2560.size inb_S13x6656_S13x2560_0_4096) (fun _ => rfl) fZ]
    iexact HXZ5
  irw [← landW c XW (Rect.unit (s := S208x6656) ![0, 4096] S208x2560.size inb_S208x6656_S208x2560_0_4096) (fun _ => rfl) fW]
  iexact HXW5
end

end Cert.Proof.KernelIdeal

end
-- ==== Proof.KernelIdeal.Body.lean ====
module

public import proofs.«01_k».proof.Proof.KernelIdeal.Prologue

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section
variable (c : Dev nD)
variable (XW : Buf (Elt F) (aW.view.loc (c : Thread nD τ))) (XS : Buf (Elt F) (aS.view.loc (c : Thread nD τ)))
  (XZ : Buf (Elt F) (aZ.view.loc (c : Thread nD τ)))

/-! The output array is its columns, the output scratch its slabs. -/

theorem cols_apart : ∀ i j : Fin k0_t1_loop.trips, i ≠ j → Disjoint (oCol i).view.set (oCol j).view.set := by
  intro i j h
  rw [Finset.disjoint_left]
  intro y h1 h2
  exact h (Fin.ext (((mem_col i y).1 h1).symm.trans ((mem_col j y).1 h2)))
theorem cols_cover : (Finset.univ.biUnion fun i : Fin k0_t1_loop.trips => (oCol i).view.set) = (Finset.univ : Finset S208x26x16x128.Idx) := by
  ext y
  simp only [Finset.mem_biUnion, Finset.mem_univ, true_and, iff_true]
  exact ⟨⟨(y 1).val, (y 1).isLt⟩, (mem_col _ y).2 rfl⟩
theorem slots_apart : ∀ i j : Fin k0_t1_loop.trips, i ≠ j → Disjoint (oSlot i).view.set (oSlot j).view.set := by
  intro i j h
  rw [Finset.disjoint_left]
  intro y h1 h2
  exact h (Fin.ext (((mem_slot i y).1 h1).symm.trans ((mem_slot j y).1 h2)))
theorem slots_cover : (Finset.univ.biUnion fun i : Fin k0_t1_loop.trips => (oSlot i).view.set) = (Finset.univ : Finset S26x208x16x128.Idx) := by
  ext y
  simp only [Finset.mem_biUnion, Finset.mem_univ, true_and, iff_true]
  exact ⟨⟨(y 0).val, (y 0).isLt⟩, (mem_slot _ y).2 rfl⟩

/-- A whole array, held through its view, is held at every index. -/
theorem own_whole (b : Ref sig .tc) (f : Buf (Elt F) ((c : Thread nD τ).loc b)) :
    ((c : Thread nD τ).loc b ↦[(View.whole b).set]{fullShare} f : sProp 𝕄) = ((c : Thread nD τ).loc b ↦{fullShare} f) := by
  rw [View.set_whole]

theorem out_cols (f : Buf (Elt F) (aO.view.loc (c : Thread nD τ))) :
    (ownP c aO f : sProp 𝕄) = bigSep Finset.univ fun i : Fin k0_t1_loop.trips => ownP c (oCol i) f :=
  (own_whole c main_v0 f).trans
    (Ring.pointsTo_blocks (ℓ := aO.view.loc (c : Thread nD τ)) (fun i : Fin k0_t1_loop.trips => (oCol i).view.set) cols_apart cols_cover f)
theorem out_slots (f : Buf (Elt F) (bO.view.loc (c : Thread nD τ))) :
    (ownP c bO f : sProp 𝕄) = bigSep Finset.univ fun i : Fin k0_t1_loop.trips => ownP c (oSlot i) f :=
  (own_whole c cc0_scoped3 f).trans
    (Ring.pointsTo_blocks (ℓ := bO.view.loc (c : Thread nD τ)) (fun i : Fin k0_t1_loop.trips => (oSlot i).view.set) slots_apart slots_cover f)
theorem slots_join (f₀ : Buf (Elt F) (bO.view.loc (c : Thread nD τ))) :
    (bigSep Finset.univ fun i : Fin k0_t1_loop.trips => iprop(∃ f, ownP c (oSlot i) f)) ⊢ (iprop(∃ f, ownP c bO f) : sProp 𝕄) := by
  have h : (bigSep Finset.univ fun i : Fin k0_t1_loop.trips => iprop(∃ f, ownP c (oSlot i) f))
      ⊢ (iprop(∃ f, bO.view.loc (c : Thread nD τ) ↦{fullShare} f) : sProp 𝕄) :=
    Ring.pointsTo_blocks_join_exists (ℓ := bO.view.loc (c : Thread nD τ)) (fun i : Fin k0_t1_loop.trips => (oSlot i).view.set) slots_apart slots_cover f₀
  refine h.trans ?_
  iintro ⟨%f, H⟩
  iexists f
  iapply (ent_eq (own_whole c cc0_scoped3 f).symm)
  iexact H
/-- A column, a slab, at some contents. -/
theorem cols_some (g : Buf (Elt F) (aO.view.loc (c : Thread nD τ))) :
    (bigSep Finset.univ fun i : Fin k0_t1_loop.trips => ownP c (oCol i) g)
      ⊢ (bigSep Finset.univ fun i : Fin k0_t1_loop.trips => iprop(∃ g, ownP c (oCol i) g) : sProp 𝕄) :=
  have h : ∀ i : Fin k0_t1_loop.trips, (ownP c (oCol i) g : sProp 𝕄) ⊢ iprop(∃ g, ownP c (oCol i) g) := fun i => by
    iintro H; iexists g; iexact H
  bigSep_mono fun i _ => h i
theorem slots_some (f : Buf (Elt F) (bO.view.loc (c : Thread nD τ))) :
    (bigSep Finset.univ fun i : Fin k0_t1_loop.trips => ownP c (oSlot i) f)
      ⊢ (bigSep Finset.univ fun i : Fin k0_t1_loop.trips => iprop(∃ f, ownP c (oSlot i) f) : sProp 𝕄) :=
  have h : ∀ i : Fin k0_t1_loop.trips, (ownP c (oSlot i) f : sProp 𝕄) ⊢ iprop(∃ f, ownP c (oSlot i) f) := fun i => by
    iintro H; iexists f; iexact H
  bigSep_mono fun i _ => h i
theorem apart3 (A B C : Fin k0_t1_loop.trips → sProp 𝕄) :
    bigSep Finset.univ (fun i => iprop(A i ∗ B i ∗ C i)) = iprop(bigSep Finset.univ A ∗ bigSep Finset.univ B ∗ bigSep Finset.univ C) :=
  (bigSep_sep Finset.univ A fun i => iprop(B i ∗ C i)).trans (congrArg (fun X => iprop(bigSep Finset.univ A ∗ X)) (bigSep_sep Finset.univ B C))

/-- All chunks before their transfers; after them. -/
theorem St_zero : St c XW XS XZ (0 - 5) 0 = iprop((bigSep Finset.univ fun i => iprop(∃ f, ownP c (oSlot i) f))
    ∗ (bigSep Finset.univ fun i => iprop(∃ g, ownP c (oCol i) g)) ∗ bigSep Finset.univ fun i => zeroP (F := F) c (oSem i)) := by
  unfold St
  rw [bigSep_congr (Ψ := fun i => freeC c i) (fun i _ => by unfold chunk; rw [if_neg (by omega), if_neg (by omega)])]
  exact apart3 _ _ _
theorem St_end : St c XW XS XZ 26 26 = iprop((bigSep Finset.univ fun i => iprop(∃ f, ownP c (oSlot i) f))
    ∗ (bigSep Finset.univ fun i => ownP c (oCol i) (outC c XW XS XZ)) ∗ bigSep Finset.univ fun i => zeroP (F := F) c (oSem i)) := by
  unfold St
  rw [bigSep_congr (Ψ := fun i => doneC c XW XS XZ i) (fun i _ => by
    have h : i.val < 26 := i.isLt
    unfold chunk; rw [if_pos h])]
  exact apart3 _ _ _

/-- Six groups, one by one. -/
theorem six_groups (Φ : ℕ → sProp 𝕄) : bigSep (Finset.range 6) Φ = iprop(Φ 0 ∗ Φ 1 ∗ Φ 2 ∗ Φ 3 ∗ Φ 4 ∗ Φ 5) := by
  rw [show Finset.range 6 = {0, 1, 2, 3, 4, 5} by decide, bigSep_insert (by decide), bigSep_insert (by decide), bigSep_insert (by decide),
    bigSep_insert (by decide), bigSep_insert (by decide), bigSep_singleton]
  rfl
/-- The read side before the first trip; after the last. -/
theorem Rd_zero : Rd c XW XS XZ 0 = iprop(haveP c XW XS XZ 0 ∗ (∃ W, owes (c : Thread nD τ) 0 W)
    ∗ flyG0 c XW XS XZ ∗ flyG1 c XW XS XZ ∗ flyG2 c XW XS XZ ∗ flyG3 c XW XS XZ ∗ flyG4 c XW XS XZ ∗ flyG5 c XW XS XZ) := by
  unfold Rd
  rw [six_groups]
  rfl
theorem Rd_end : Rd c XW XS XZ 26 = iprop(haveP c XW XS XZ 6656 ∗ (∃ W, owes (c : Thread nD τ) 0 W)
    ∗ homeG0 c XW XS XZ ∗ homeG1 c XW XS XZ ∗ homeG2 c XW XS XZ ∗ homeG3 c XW XS XZ ∗ homeG4 c XW XS XZ ∗ homeG5 c XW XS XZ) := by
  unfold Rd
  rw [six_groups]
  rfl
theorem have_zero : (iprop(emp) : sProp 𝕄) ⊢ haveP c XW XS XZ 0 := by
  unfold haveP
  rw [colsLt_zero, colsLt_zero, pointsTo_empty, pointsTo_empty, pointsTo_empty]
  iintro _
  isplitl []; · itrivial
  isplitl []; · itrivial
  itrivial
theorem have_all : haveP c XW XS XZ 6656 = iprop(ownP c bW XW ∗ ownP c bS XS ∗ ownP (F := F) c bZ XZ) := by
  unfold haveP
  rw [cols_all, cols_all]
  unfold ownP
  rw [show bW.view.set = Finset.univ from View.set_whole _, show bS.view.set = Finset.univ from View.set_whole _,
    show bZ.view.set = Finset.univ from View.set_whole _]

/-- What the kernel starts with; what it leaves: the operands as they were, the output filled, every cell at zero. -/
abbrev bodyPre : sProp 𝕄 :=
  iprop((∃ O, owes (c : Thread nD τ) 0 O) ∗ ownP c aW XW ∗ ownP c aS XS ∗ ownP c aZ XZ ∗ (∃ g, ownP c aO g)
    ∗ (∃ f, ownP c bW f) ∗ (∃ f, ownP c bS f) ∗ (∃ f, ownP c bZ f) ∗ (∃ f, ownP c bO f)
    ∗ xAllW c ∗ xAllS c ∗ xAllZ c ∗ bigSep Finset.univ fun i => zeroP c (oSem i))
abbrev bodyPost : sProp 𝕄 :=
  iprop((∃ O, owes (c : Thread nD τ) 0 O) ∗ ownP c aW XW ∗ ownP c aS XS ∗ ownP c aZ XZ ∗ ownP c aO (outC c XW XS XZ)
    ∗ (∃ f, ownP c bW f) ∗ (∃ f, ownP c bS f) ∗ (∃ f, ownP c bZ f) ∗ (∃ f, ownP c bO f)
    ∗ xAllW c ∗ xAllS c ∗ xAllZ c ∗ bigSep Finset.univ fun i => zeroP c (oSem i))

abbrev bodyG : Prog (TpuEff nD τ sig (Elt F) Λ₀ .tc) PUnit :=
  cc0_dequant aW (Memref.isWhole_whole _) aS (Memref.isWhole_whole _) aZ (Memref.isWhole_whole _) aO (Memref.isWhole_whole _)
    bW (Memref.isWhole_whole _) bS (Memref.isWhole_whole _) bZ (Memref.isWhole_whole _) bO (Memref.isWhole_whole _)
    cc0_scoped4 cc0_scoped5 cc0_scoped6 cc0_scoped7
/-- The kernel is its reads' starts, its main loop, its draining loop. -/
theorem bodyG_eq : bodyG (F := F) = (proG >>= fun _ => Scf.Loop.for k0_t1_loop k0_t1_ok ⟨⟩ (fun k _ => body1 k)
    >>= fun _ => Scf.Loop.for k0_t2_loop k0_t2_ok ⟨⟩ (fun k _ => body2 k) >>= fun _ => pure PUnit.unit) := by
  unfold proG bodyG
  rw [cc0_dequant_eq_skeleton, Prog.bind_assoc]
  refine congrArg (_ >>= ·) ?_
  funext _
  rw [Prog.bind_assoc]

set_option warn.classDefReducibility false in
/-- The loops' invariants at the loops as the kernel runs them. -/
abbrev L1 : LoopInv (M := 𝕄) Idealize.ShloMosaic.frame (wpE (defs₀ (F := F)) 𝒱₀ (c : Thread nD τ) none) Set.univ
    k0_t1_loop.lb k0_t1_loop.ub k0_t1_loop.st k0_t1_ok () (fun k _ => body1 k) := loopInv1 c XW XS XZ
set_option warn.classDefReducibility false in
abbrev L2 : LoopInv (M := 𝕄) Idealize.ShloMosaic.frame (wpE (defs₀ (F := F)) 𝒱₀ (c : Thread nD τ) none) Set.univ
    k0_t2_loop.lb k0_t2_loop.ub k0_t2_loop.st k0_t2_ok () (fun k _ => body2 k) := loopInv2 c XW XS XZ
theorem loop1_in : iprop(Rd c XW XS XZ 0 ∗ St c XW XS XZ (0 - 5) 0) = (L1 c XW XS XZ).inv 0 () := rfl
theorem loop1_out (u : Unit) : (L1 c XW XS XZ).inv (Scf.trips k0_t1_loop.lb k0_t1_loop.ub k0_t1_loop.st) u = (L2 c XW XS XZ).inv 0 () := rfl
theorem loop2_out (u : Unit) : (L2 c XW XS XZ).inv (Scf.trips k0_t2_loop.lb k0_t2_loop.ub k0_t2_loop.st) u = iprop(Rd c XW XS XZ 26 ∗ St c XW XS XZ 26 26) := rfl
/-- The two loops. -/
theorem loops_run :
    iprop(Rd c XW XS XZ 0 ∗ St c XW XS XZ (0 - 5) 0)
      ⊢ wp frame (wpE (defs₀ (F := F)) 𝒱₀ (c : Thread nD τ) none) Set.univ
        (Scf.Loop.for k0_t1_loop k0_t1_ok ⟨⟩ (fun k _ => body1 (F := F) k)
          >>= fun _ => Scf.Loop.for k0_t2_loop k0_t2_ok ⟨⟩ (fun k _ => body2 (F := F) k) >>= fun _ => pure PUnit.unit)
        (fun _ => iprop(Rd c XW XS XZ 26 ∗ St c XW XS XZ 26 26)) := by
  rw [loop1_in]
  iintro H
  iapply (exec_loop Idealize.ShloMosaic.frame (wpE (defs₀ (F := F)) 𝒱₀ (c : Thread nD τ) none) Set.univ
    k0_t1_loop.lb k0_t1_loop.ub k0_t1_loop.st k0_t1_ok () (fun k _ => body1 k) (L1 c XW XS XZ)) $$ [H]
  · iexact H
  iintro %u H
  ihave H := (ent_eq (loop1_out c XW XS XZ u)) $$ H
  iapply (exec_loop Idealize.ShloMosaic.frame (wpE (defs₀ (F := F)) 𝒱₀ (c : Thread nD τ) none) Set.univ
    k0_t2_loop.lb k0_t2_loop.ub k0_t2_loop.st k0_t2_ok () (fun k _ => body2 k) (L2 c XW XS XZ)) $$ [H]
  · iexact H
  iintro %u' H
  ihave H := (ent_eq (loop2_out c XW XS XZ u')) $$ H
  sl_step
  iexact H

set_option maxHeartbeats 2000000 in
theorem bodyRun :
    bodyPre c XW XS XZ ⊢ wp frame (wpE (defs₀ (F := F)) 𝒱₀ (c : Thread nD τ) none) Set.univ bodyG (fun _ => bodyPost c XW XS XZ) := by
  rw [bodyG_eq, wp_bind]
  iintro ⟨HO, HW, HS, HZ, ⟨%g, HA⟩, ⟨%fW, HbW⟩, ⟨%fS, HbS⟩, ⟨%fZ, HbZ⟩, ⟨%fO, HbO⟩, HxW, HxS, HxZ, Hx⟩
  ihave HW := (ent_eq (hAllW_eq c XW)) $$ HW
  ihave HS := (ent_eq (hAllS_eq c XS)) $$ HS
  ihave HZ := (ent_eq (hAllZ_eq c XZ)) $$ HZ
  ihave HbW := (ent_eq (vAllW_eq c fW)) $$ HbW
  ihave HbS := (ent_eq (vAllS_eq c fS)) $$ HbS
  ihave HbZ := (ent_eq (vAllZ_eq c fZ)) $$ HbZ
  ihave HA := (ent_eq (out_cols c g)) $$ HA
  ihave HbO := (ent_eq (out_slots c fO)) $$ HbO
  ihave HA := (cols_some c g) $$ HA
  ihave HbO := (slots_some c fO) $$ HbO
  iapply (wp_wand_r Idealize.ShloMosaic.frame (wpE (defs₀ (F := F)) 𝒱₀ (c : Thread nD τ) none) Set.univ)
  isplitl [HO HW HS HZ HbW HbS HbZ HxW HxS HxZ]
  · iapply (pro_run c XW XS XZ fW fS fZ)
    isplitl [HO]; · iexact HO
    isplitl [HW]; · iexact HW
    isplitl [HS]; · iexact HS
    isplitl [HZ]; · iexact HZ
    isplitl [HbW]; · iexact HbW
    isplitl [HbS]; · iexact HbS
    isplitl [HbZ]; · iexact HbZ
    isplitl [HxW]; · iexact HxW
    isplitl [HxS]; · iexact HxS
    iexact HxZ
  iintro %_ ⟨HO, HG⟩
  iapply (wp_wand_r Idealize.ShloMosaic.frame (wpE (defs₀ (F := F)) 𝒱₀ (c : Thread nD τ) none) Set.univ)
  isplitl [HO HG HA HbO Hx]
  · iapply (loops_run c XW XS XZ)
    isplitl [HO HG]
    · iapply (ent_eq (Rd_zero c XW XS XZ).symm)
      isplitl []
      · iapply (have_zero c XW XS XZ)
        itrivial
      isplitl [HO]; · iexact HO
      iexact HG
    iapply (ent_eq (St_zero c XW XS XZ).symm)
    isplitl [HbO]; · iexact HbO
    isplitl [HA]; · iexact HA
    iexact Hx
  iintro %_ ⟨HR, HT⟩
  ihave HR := (ent_eq (Rd_end c XW XS XZ)) $$ HR
  ihave HT := (ent_eq (St_end c XW XS XZ)) $$ HT
  icases HR with ⟨HV, HO, ⟨HxS0, HxZ0, HxW0, HS0, HZ0, HW0⟩, ⟨HxS1, HxZ1, HxW1, HS1, HZ1, HW1⟩, ⟨HxS2, HxZ2, HxW2, HS2, HZ2, HW2⟩,
    ⟨HxS3, HxZ3, HxW3, HS3, HZ3, HW3⟩, ⟨HxS4, HxZ4, HxW4, HS4, HZ4, HW4⟩, HxS5, HxZ5, HxW5, HS5, HZ5, HW5⟩
  icases HT with ⟨HbO, HA, Hx⟩
  ihave HV := (ent_eq (have_all c XW XS XZ)) $$ HV
  icases HV with ⟨HbW, HbS, HbZ⟩
  isplitl [HO]; · iexact HO
  isplitl [HW0 HW1 HW2 HW3 HW4 HW5]
  · iapply (ent_eq (hAllW_eq c XW).symm)
    isplitr [HW5]
    · isplitr [HW4]
      · isplitr [HW3]
        · isplitr [HW2]
          · isplitr [HW1]
            · iexact HW0
            iexact HW1
          iexact HW2
        iexact HW3
      iexact HW4
    iexact HW5
  isplitl [HS0 HS1 HS2 HS3 HS4 HS5]
  · iapply (ent_eq (hAllS_eq c XS).symm)
    isplitr [HS5]
    · isplitr [HS4]
      · isplitr [HS3]
        · isplitr [HS2]
          · isplitr [HS1]
            · iexact HS0
            iexact HS1
          iexact HS2
        iexact HS3
      iexact HS4
    iexact HS5
  isplitl [HZ0 HZ1 HZ2 HZ3 HZ4 HZ5]
  · iapply (ent_eq (hAllZ_eq c XZ).symm)
    isplitr [HZ5]
    · isplitr [HZ4]
      · isplitr [HZ3]
        · isplitr [HZ2]
          · isplitr [HZ1]
            · iexact HZ0
            iexact HZ1
          iexact HZ2
        iexact HZ3
      iexact HZ4
    iexact HZ5
  isplitl [HA]
  · iapply (ent_eq (out_cols c (outC c XW XS XZ)).symm)
    iexact HA
  isplitl [HbW]
  · iexists XW
    iexact HbW
  isplitl [HbS]
  · iexists XS
    iexact HbS
  isplitl [HbZ]
  · iexists XZ
    iexact HbZ
  isplitl [HbO]
  · iapply (slots_join c fO)
    iexact HbO
  isplitl [HxW0 HxW1 HxW2 HxW3 HxW4 HxW5]
  · isplitr [HxW5]
    · isplitr [HxW4]
      · isplitr [HxW3]
        · isplitr [HxW2]
          · isplitr [HxW1]
            · iexact HxW0
            iexact HxW1
          iexact HxW2
        iexact HxW3
      iexact HxW4
    iexact HxW5
  isplitl [HxS0 HxS1 HxS2 HxS3 HxS4 HxS5]
  · isplitr [HxS5]
    · isplitr [HxS4]
      · isplitr [HxS3]
        · isplitr [HxS2]
          · isplitr [HxS1]
            · iexact HxS0
            iexact HxS1
          iexact HxS2
        iexact HxS3
      iexact HxS4
    iexact HxS5
  isplitl [HxZ0 HxZ1 HxZ2 HxZ3 HxZ4 HxZ5]
  · isplitr [HxZ5]
    · isplitr [HxZ4]
      · isplitr [HxZ3]
        · isplitr [HxZ2]
          · isplitr [HxZ1]
            · iexact HxZ0
            iexact HxZ1
          iexact HxZ2
        iexact HxZ3
      iexact HxZ4
    iexact HxZ5
  iexact Hx
end

end Cert.Proof.KernelIdeal

end
-- ==== Proof.KernelIdeal.Launch.lean ====
module

public import proofs.«01_k».proof.Proof.KernelIdeal.Body
public import Idealize.ShloMosaic.Lib.Pipeline.FrameSuffixV

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! The launch: @main runs the kernel once, on whole arrays, and then three host operations on its output. -/

/-- The kernel's own cells: the eighteen of its reads, the one of each chunk's write. -/
def readCells : Fin 18 → DmaSems sig S_ :=
  ![xW0, xW1, xW2, xW3, xW4, xW5, xS0, xS1, xS2, xS3, xS4, xS5, xZ0, xZ1, xZ2, xZ3, xZ4, xZ5]
def osem : Fin 18 ⊕ Fin k0_t1_loop.trips → SemLoc sig :=
  Sum.elim (fun j => SemLoc.dma (readCells j).sem) (fun i => SemLoc.dma (oSem i).sem)
theorem ownSemFacts : Pipeline.OwnSemFacts (cfg0.spec) osem := by decide +kernel

section
variable (m : (ℓ : Loc nD τ sig) → Buf (Elt F) ℓ) (ρ : Dev nD → PrngReg)

/-- The contents at launch. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The host operations touch unscoped arrays only, allocate nothing, and no array of theirs is staged. -/
theorem sfx_sub : ∀ ops ∈ ([hostOps1] : List (List (HloOp τ sig (Elt F)))), ∀ op ∈ ops,
    op.bufs ⊆ Pipeline.tailRefs sig Pipeline.Prefetch.none (cfg0.spec) := by
  rw [Pipeline.tailRefs_none (cfg0.spec) launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef (cfg0.spec) w) ∉ op.writes :=
  fun _ _ _ _ w => w.elim0

/-- The arrays read whole; the array written. -/
def HR : Finset (Ref sig .tc) := {main_arg0, main_arg1, main_arg2}
def RR : Finset (Ref sig .tc) := {main_v0}
/-- What the written array ends at. -/
def G (c : Dev nD) (b : Ref sig .tc) : Buf (Elt F) ((c : Thread nD τ).loc b) :=
  if h : b = main_v0 then h ▸ outC c (V m c main_arg0) (V m c main_arg1) (V m c main_arg2) else V m c b
theorem G_out (c : Dev nD) : G m c main_v0 = outC c (V m c main_arg0) (V m c main_arg1) (V m c main_arg2) := by
  unfold G; rw [dif_pos rfl]

theorem HR_eq (Φ : Ref sig .tc → sProp 𝕄) : bigSep HR Φ = iprop(Φ main_arg0 ∗ Φ main_arg1 ∗ Φ main_arg2) := by
  unfold HR
  rw [bigSep_insert (by decide), bigSep_insert (by decide), bigSep_singleton]
  rfl
theorem RR_eq (Φ : Ref sig .tc → sProp 𝕄) : bigSep RR Φ = Φ main_v0 := bigSep_singleton
theorem cells_eq (c : Dev nD) : (Pipeline.ownSems0 (Ix := Unit) (Name := ℕ) (U := UU nD τ) (Lvl := ℕ) (Val := Elt F) (τ := τ) osem c : sProp 𝕄)
    = iprop((zeroP c xW0 ∗ zeroP c xW1 ∗ zeroP c xW2 ∗ zeroP c xW3 ∗ zeroP c xW4 ∗ zeroP c xW5
      ∗ zeroP c xS0 ∗ zeroP c xS1 ∗ zeroP c xS2 ∗ zeroP c xS3 ∗ zeroP c xS4 ∗ zeroP c xS5
      ∗ zeroP c xZ0 ∗ zeroP c xZ1 ∗ zeroP c xZ2 ∗ zeroP c xZ3 ∗ zeroP c xZ4 ∗ zeroP c xZ5) ∗ bigSep Finset.univ fun i => zeroP c (oSem i)) := by
  unfold Pipeline.ownSems0
  rw [bigSep_univ_sum, bigSep_univ_eq_bigSepL [0, 1, 2, 3, 4, 5, 6, 7, 8, 9, 10, 11, 12, 13, 14, 15, 16, 17] (by decide) (by decide)]
  rfl

/-- What the region holds besides the staged windows (there are none), the written array at `g`. -/
abbrev heldR (g : (c : Dev nD) → (b : Ref sig .tc) → Buf (Elt F) ((c : Thread nD τ).loc b)) (c : Dev nD) : sProp 𝕄 :=
  Pipeline.ΦDRV osem (cfg0.spec) HR RR (V m) g c

def dats (_ : Fin 1) (c : Dev nD) : Dat τ (Elt F) Unit ℕ (UU nD τ) ℕ cfg0 c where
  A w := V m c (Pipeline.arrRef (cfg0.spec) w)
  after w _ := w.elim0
  Φ t := heldR m (if t.val = 0 then V m else G m) c
  q _ := fullShare
  owed _ := 0

theorem held_in (c : Dev nD) (g) : heldR m g c = iprop(
    ((∃ f, ownP c bW f) ∗ (∃ f, ownP c bS f) ∗ (∃ f, ownP c bZ f) ∗ (∃ f, ownP c bO f))
    ∗ ((zeroP c xW0 ∗ zeroP c xW1 ∗ zeroP c xW2 ∗ zeroP c xW3 ∗ zeroP c xW4 ∗ zeroP c xW5
      ∗ zeroP c xS0 ∗ zeroP c xS1 ∗ zeroP c xS2 ∗ zeroP c xS3 ∗ zeroP c xS4 ∗ zeroP c xS5
      ∗ zeroP c xZ0 ∗ zeroP c xZ1 ∗ zeroP c xZ2 ∗ zeroP c xZ3 ∗ zeroP c xZ4 ∗ zeroP c xZ5) ∗ bigSep Finset.univ fun i => zeroP c (oSem i))
    ∗ (ownP c aW (V m c main_arg0) ∗ ownP c aS (V m c main_arg1) ∗ ownP c aZ (V m c main_arg2)) ∗ ownP c aO (g c main_v0)) := by
  unfold heldR Pipeline.ΦDRV
  rw [HR_eq, RR_eq, cells_eq, scopedRest0_eq]
  unfold ownP
  rw [show bW.view.set = Finset.univ from View.set_whole _, show bS.view.set = Finset.univ from View.set_whole _,
    show bZ.view.set = Finset.univ from View.set_whole _, show bO.view.set = Finset.univ from View.set_whole _,
    show aW.view.set = Finset.univ from View.set_whole _, show aS.view.set = Finset.univ from View.set_whole _,
    show aZ.view.set = Finset.univ from View.set_whole _, show aO.view.set = Finset.univ from View.set_whole _]

theorem defs_tc : (defs₀ (F := F)) .tc cfg0.body = fun a => bodyG := rfl
theorem prog_eq (t : Fin cfg0.N) : (defs₀ (F := F)) .tc cfg0.body (cfg0.bodyArgs t (cfg0.slots t)) = bodyG :=
  (congrFun defs_tc _).trans rfl

set_option backward.isDefEq.respectTransparency.types false in
set_option maxHeartbeats 2000000 in
theorem body_obligation (c : Dev nD) : BodyObligation (dats (F := F) m 0 c) (defs₀ (F := F)) 𝒱₀ () Set.univ := fun t => by
  have ht : t.val = 0 := congrArg Fin.val (fin_N0 t)
  rw [show (dats m 0 c).Φ t.castSucc = heldR m (V m) c from congrArg (fun g => heldR m g c) (if_pos ht),
    show (dats m 0 c).Φ t.succ = heldR m (G m) c from congrArg (fun g => heldR m g c) (if_neg (Nat.succ_ne_zero _)), held_in, held_in, G_out]
  unfold Dat.owesAt Pipeline.owesWithin
  rw [show (dats m 0 c).owed t.castSucc = 0 from rfl, show (dats m 0 c).owed t.succ = 0 from rfl]
  iintro ⟨⟨⟨HbW, HbS, HbZ, HbO⟩, ⟨⟨W0, W1, W2, W3, W4, W5, S0, S1, S2, S3, S4, S5, Z0, Z1, Z2, Z3, Z4, Z5⟩, Hx⟩, ⟨HW, HS, HZ⟩, HA⟩, ⟨%W, -, HO⟩, HE⟩
  sl_rw [prog_eq t]
  iapply (wp_wand_r Idealize.ShloMosaic.frame (wpE (defs₀ (F := F)) 𝒱₀ (c : Thread nD τ) none) Set.univ)
  isplitr [HE]
  · iapply (bodyRun c (V m c main_arg0) (V m c main_arg1) (V m c main_arg2))
    isplitl [HO]; · iexists W; iexact HO
    isplitl [HW]; · iexact HW
    isplitl [HS]; · iexact HS
    isplitl [HZ]; · iexact HZ
    isplitl [HA]; · iexists _; iexact HA
    isplitl [HbW]; · iexact HbW
    isplitl [HbS]; · iexact HbS
    isplitl [HbZ]; · iexact HbZ
    isplitl [HbO]; · iexact HbO
    isplitl [W0 W1 W2 W3 W4 W5]
    · isplitr [W5]
      · isplitr [W4]
        · isplitr [W3]
          · isplitr [W2]
            · isplitl [W0]; · iexact W0
              iexact W1
            iexact W2
          iexact W3
        iexact W4
      iexact W5
    isplitl [S0 S1 S2 S3 S4 S5]
    · isplitr [S5]
      · isplitr [S4]
        · isplitr [S3]
          · isplitr [S2]
            · isplitl [S0]; · iexact S0
              iexact S1
            iexact S2
          iexact S3
        iexact S4
      iexact S5
    isplitl [Z0 Z1 Z2 Z3 Z4 Z5]
    · isplitr [Z5]
      · isplitr [Z4]
        · isplitr [Z3]
          · isplitr [Z2]
            · isplitl [Z0]; · iexact Z0
              iexact Z1
            iexact Z2
          iexact Z3
        iexact Z4
      iexact Z5
    iexact Hx
  iintro %_ ⟨⟨%W', HO⟩, HW, HS, HZ, HA, HbW, HbS, HbZ, HbO, ⟨⟨⟨⟨⟨W0, W1⟩, W2⟩, W3⟩, W4⟩, W5⟩, ⟨⟨⟨⟨⟨S0, S1⟩, S2⟩, S3⟩, S4⟩, S5⟩, ⟨⟨⟨⟨⟨Z0, Z1⟩, Z2⟩, Z3⟩, Z4⟩, Z5⟩, Hx⟩
  isplitr [HO HE]
  · isplitl [HbW HbS HbZ HbO]
    · isplitl [HbW]; · iexact HbW
      isplitl [HbS]; · iexact HbS
      isplitl [HbZ]; · iexact HbZ
      iexact HbO
    isplitr [HW HS HZ HA]
    · isplitr [Hx]
      · isplitl [W0]; · iexact W0
        isplitl [W1]; · iexact W1
        isplitl [W2]; · iexact W2
        isplitl [W3]; · iexact W3
        isplitl [W4]; · iexact W4
        isplitl [W5]; · iexact W5
        isplitl [S0]; · iexact S0
        isplitl [S1]; · iexact S1
        isplitl [S2]; · iexact S2
        isplitl [S3]; · iexact S3
        isplitl [S4]; · iexact S4
        isplitl [S5]; · iexact S5
        isplitl [Z0]; · iexact Z0
        isplitl [Z1]; · iexact Z1
        isplitl [Z2]; · iexact Z2
        isplitl [Z3]; · iexact Z3
        isplitl [Z4]; · iexact Z4
        iexact Z5
      iexact Hx
    isplitr [HA]
    · isplitl [HW]; · iexact HW
      isplitl [HS]; · iexact HS
      iexact HZ
    iexact HA
  isplitl [HO]
  · iexists W'; isplitr; · ipureintro; exact fun _ _ => Or.inl trivial
    iexact HO
  iexact HE

/-- What the program leaves in array `b`: the host operations' result over the launch contents and the kernel's output. -/
def finalV (c : Dev nD) (b : Ref sig .tc) : Buf (Elt F) ((c : Thread nD τ).loc b) :=
  StableHlo.after ([hostOps1].flatten) (Pipeline.withArrays (cfg0.spec) c (Pipeline.withR (V0 m c) RR c (G m c)) fun w => (dats m 0 c).arrAt w cfg0.N) (Proc.devRef .tc b)

set_option backward.isDefEq.respectTransparency.types false in
/-- From any memory with zero counters every fair execution of @main ends, without fault, every array outside the kernel's
scratch at `finalV` and every counter at zero. -/
theorem run_main : θ_run defs (onTc (τ := τ) (main (F := F))) (s₀ m ρ)
    (fun r => (∀ c : Dev nD, ∀ b ∈ Pipeline.restRefs sig (cfg0.spec), r.2.mem ((c : Thread nD τ).loc b) = finalV m c b) ∧ r.2.sem = fun _ => 0) :=
  Pipeline.θ_run_frame_dmaR_aroundV cfgs (dats m) (0 : Fin 1) launch0 osem defs₀ 𝒱₀ ownSemFacts HR RR (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G m) (hmain := hmain m)
    (hA := fun _ _ => rfl) (hin := fun c => ent_eq rfl) (hout := fun c => ent_eq rfl)
    (Q' := fun r => (∀ c : Dev nD, ∀ b ∈ Pipeline.restRefs sig (cfg0.spec), r.2.mem ((c : Thread nD τ).loc b) = finalV m c b) ∧ r.2.sem = fun _ => 0)
    (hQ' := fun r h => ⟨fun c b hb => (h.1 c).2 b hb, h.2⟩)
end

end Cert.Proof.KernelIdeal

end
-- ==== Proof.KernelIdeal.Frame.lean ====
module

public import proofs.«01_k».proof.Proof.KernelIdeal.Launch

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! # What the program leaves in its argument arrays -/

section
variable (m : (ℓ : Loc nD τ sig) → Buf (Elt F) ℓ) (ρ : Dev nD → PrngReg)

/-- The host operations after the kernel write none of the arrays `b` that differ from their results, and the kernel writes
only its result array: such an array ends as launched. -/
theorem finalV_main_arg0 (c : Dev nD) : finalV m c main_arg0 = m ((c : Thread nD τ).loc main_arg0) := by
  unfold finalV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Pipeline.withR (V0 m c) RR c (G m c)) _ main_arg0 (by exact (by decide : ∀ w, Pipeline.arrRef (cfg0.spec) w ≠ main_arg0)),
    Pipeline.withR_of_not_mem _ _ _ _ main_arg0 (by decide)]
  rfl
theorem finalV_main_arg1 (c : Dev nD) : finalV m c main_arg1 = m ((c : Thread nD τ).loc main_arg1) := by
  unfold finalV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Pipeline.withR (V0 m c) RR c (G m c)) _ main_arg1 (by exact (by decide : ∀ w, Pipeline.arrRef (cfg0.spec) w ≠ main_arg1)),
    Pipeline.withR_of_not_mem _ _ _ _ main_arg1 (by decide)]
  rfl
theorem finalV_main_arg2 (c : Dev nD) : finalV m c main_arg2 = m ((c : Thread nD τ).loc main_arg2) := by
  unfold finalV
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Pipeline.withR (V0 m c) RR c (G m c)) _ main_arg2 (by exact (by decide : ∀ w, Pipeline.arrRef (cfg0.spec) w ≠ main_arg2)),
    Pipeline.withR_of_not_mem _ _ _ _ main_arg2 (by decide)]
  rfl

/-- Every execution of the program ends without fault, its arguments as launched, its result array at `finalV` and every
counter at zero. -/
theorem run_value : θ_run defs (onTc (τ := τ) (main (F := F))) ⟨m, fun _ => 0, ρ⟩
    (fun r => (∀ c : Dev nD, r.2.mem ((c : Thread nD τ).loc main_v3) = finalV m c main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
      ⟨h.1 c main_v3 (Pipeline.mem_restRefs_of main_v3 (by decide) (by decide)),
       (h.1 c main_arg0 (Pipeline.mem_restRefs_of main_arg0 (by decide) (by decide))).trans (finalV_main_arg0 m c),
       (h.1 c main_arg1 (Pipeline.mem_restRefs_of main_arg1 (by decide) (by decide))).trans (finalV_main_arg1 m c),
       (h.1 c main_arg2 (Pipeline.mem_restRefs_of main_arg2 (by decide) (by decide))).trans (finalV_main_arg2 m c)⟩, h.2⟩) (run_main m ρ)

/-- Every execution ends without fault, its arguments as launched and every counter at zero. -/
theorem quiet : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).2, h.2⟩) (run_value m ρ)
end

end Cert.Proof.KernelIdeal

end
-- ==== Proof.Nibble.lean ====
module

public import Idealize.ShloMosaic.PureOps.Ideal
public import Idealize.ShloMosaic.Lib.BitcastPair
public import Idealize.ShloMosaic.Lib.Pointwise

@[expose] public section

/-! # One nibble, from a packed word to a number

The kernel takes nibble `f` of a 32-bit word as four bits of one of its halves, lays them under the pattern `0x4300` of the
bf16 number 128 and subtracts 128; the reference shifts the word and masks it. Both are the nibble as a number. -/

namespace Cert.Proof.Nibble

open Idealize.ShloMosaic

/-- Nibble `f` of a word, as a natural number. -/
def nib (w : BitVec 32) (f : ℕ) : ℕ := (w >>> (4 * f)).toNat % 16

theorem nib_lt (w : BitVec 32) (f : ℕ) : nib w f < 16 := Nat.mod_lt _ (by decide)

/-- Sixteen bits of a pair of halves, shifted, masked and laid under the pattern of 128: those of half `p`. -/
theorem pair_bits (hi lo : BitVec 16) (k p : ℕ) (hk : k < 4) (hp : p < 2) :
    ((((hi ++ lo : BitVec 32) >>> (4 * k)) &&& 983055#32) ||| 1124090624#32).extractLsb' (16 * p) 16
      = (((if p = 0 then lo else hi) >>> (4 * k)) &&& 15#16) ||| 0x4300#16 := by
  apply BitVec.eq_of_getLsbD_eq
  intro i hi'
  have hk' : k = 0 ∨ k = 1 ∨ k = 2 ∨ k = 3 := by omega
  have hp' : p = 0 ∨ p = 1 := by omega
  have key : ∀ i : Fin 16, (983055#32).getLsbD i.val = decide (i.val < 4) ∧ (983055#32).getLsbD (16 + i.val) = decide (i.val < 4)
      ∧ (15#16).getLsbD i.val = decide (i.val < 4) ∧ (1124090624#32).getLsbD i.val = (0x4300#16).getLsbD i.val
      ∧ (1124090624#32).getLsbD (16 + i.val) = (0x4300#16).getLsbD i.val := by decide
  obtain ⟨h1, h2, h3, h4, h5⟩ := key ⟨i, hi'⟩
  rw [BitVec.getLsbD_extractLsb', BitVec.getLsbD_or, BitVec.getLsbD_and, BitVec.getLsbD_ushiftRight, BitVec.getLsbD_append,
    BitVec.getLsbD_or, BitVec.getLsbD_and, BitVec.getLsbD_ushiftRight]
  dsimp only at h1 h2 h3 h4 h5
  rcases hp' with rfl | rfl
  · simp only [Nat.mul_zero, Nat.zero_add, h1, h3, h4, hi', decide_true, Bool.true_and, if_true]
    by_cases h : i < 4
    · rw [if_pos (by omega)]
    · simp only [h, decide_false, Bool.and_false]
  · simp only [Nat.mul_one, h2, h3, h5, hi', decide_true, Bool.true_and, if_neg (show ¬ (1 : ℕ) = 0 by decide)]
    by_cases h : i < 4
    · rw [if_neg (by omega), show 4 * k + (16 + i) - 16 = 4 * k + i by omega]
    · simp only [h, decide_false, Bool.and_false]

/-- Four bits under the pattern of 128 denote 128 and those four bits. -/
theorem ofBits_pattern (h : BitVec 16) :
    Ideal.ofBits .bf16 ((h &&& 15#16) ||| 0x4300#16) = (((128 + h.toNat % 16 : ℕ) : ℝ) : EReal) := by
  have e : h &&& 15#16 = BitVec.ofNat 16 (h.toNat % 16) := by
    apply BitVec.eq_of_toNat_eq
    rw [BitVec.toNat_and]
    show h.toNat &&& (2 ^ 4 - 1) = _
    rw [Nat.and_two_pow_sub_one_eq_mod, BitVec.toNat_ofNat]
    omega
  rw [e]
  have hn : h.toNat % 16 < 16 := Nat.mod_lt _ (by decide)
  generalize h.toNat % 16 = n at hn
  have key : ∀ n : Fin 16, ((BitVec.ofNat 16 n.val ||| 0x4300#16).extractLsb' 15 1 == 1#1) = false
      ∧ ((BitVec.ofNat 16 n.val ||| 0x4300#16).extractLsb' 7 8).toNat = 134
      ∧ ((BitVec.ofNat 16 n.val ||| 0x4300#16).extractLsb' 0 7).toNat = n.val := by decide
  obtain ⟨h1, h2, h3⟩ := key ⟨n, hn⟩
  dsimp only at h1 h2 h3
  show Ideal.ieee 8 7 (BitVec.ofNat 16 n ||| 0x4300#16) = _
  unfold Ideal.ieee
  simp only [h1, h2, h3, show (8 + 7 : ℕ) = 15 from rfl]
  rw [if_neg (by norm_num), if_neg (by norm_num)]
  norm_num

/-- The number 128, as the kernel writes it. -/
theorem ofBits_128 : Ideal.ofBits .bf16 0x4300#16 = ((128 : ℝ) : EReal) := by
  have h := ofBits_pattern 0#16
  simpa using h

/-- The nibble's pattern less 128 is the nibble. -/
theorem pattern_sub (h : BitVec 16) :
    Ideal.ofBits .bf16 ((h &&& 15#16) ||| 0x4300#16) - Ideal.ofBits .bf16 0x4300#16 = (((h.toNat % 16 : ℕ) : ℝ) : EReal) := by
  rw [ofBits_pattern, ofBits_128, ← EReal.coe_sub]
  congr 1
  push_cast
  ring

/-- The low half of a word, shifted by a whole number of nibbles, ends in one of the word's lower four. -/
theorem low_half (w : BitVec 32) (k : ℕ) (hk : k < 4) : ((w.setWidth 16) >>> (4 * k)).toNat % 16 = nib w k := by
  unfold nib
  rw [BitVec.toNat_ushiftRight, BitVec.toNat_ushiftRight, BitVec.toNat_setWidth]
  have hk' : k = 0 ∨ k = 1 ∨ k = 2 ∨ k = 3 := by omega
  rcases hk' with rfl | rfl | rfl | rfl <;> simp only [Nat.shiftRight_eq_div_pow] <;> omega

/-- The high half, in one of the upper four. -/
theorem high_half (w : BitVec 32) (k : ℕ) (hk : k < 4) : (((w >>> 16).setWidth 16) >>> (4 * k)).toNat % 16 = nib w (4 + k) := by
  unfold nib
  rw [BitVec.toNat_ushiftRight, BitVec.toNat_ushiftRight, BitVec.toNat_setWidth, BitVec.toNat_ushiftRight]
  have hk' : k = 0 ∨ k = 1 ∨ k = 2 ∨ k = 3 := by omega
  rcases hk' with rfl | rfl | rfl | rfl <;> simp only [Nat.shiftRight_eq_div_pow] <;> omega

/-- A word shifted and masked as the reference does it. -/
theorem masked (w : BitVec 32) (f : ℕ) : ((w >>> (4 * f)) &&& 15#32).toNat = nib w f := by
  unfold nib
  rw [BitVec.toNat_and]
  exact Nat.and_two_pow_sub_one_eq_mod _ 4

end Cert.Proof.Nibble

end
-- ==== Proof.KernelIdeal.Value.lean ====
module

public import proofs.«01_k».proof.Proof.KernelIdeal.Frame
public import proofs.«01_k».proof.Proof.Nibble

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # One element of a tile, as a number -/

section Windows
variable {c : Dev nD} (k : Fin k0_t1_loop.trips)
  (fW : Buf (Elt F) ((wWin k).view.loc (c : Thread nD τ))) (fS : Buf (Elt F) ((sWin k).view.loc (c : Thread nD τ)))
  (fZ : Buf (Elt F) ((zWin k).view.loc (c : Thread nD τ)))

/-- There are 26 chunks, and chunk `k` begins at row 0, column `256 k` of each array. -/
theorem trip_lt : k.val < 26 := k.isLt
theorem off1_0 : k0_off1 k 0 = 0 := congrFun (closedOff_k0_off1 k).eq 0
theorem off1_1 : k0_off1 k 1 = 256 * k.val := congrFun (closedOff_k0_off1 k).eq 1
theorem off2_0 : k0_off2 k 0 = 0 := congrFun (closedOff_k0_off2 k).eq 0
theorem off2_1 : k0_off2 k 1 = 256 * k.val := congrFun (closedOff_k0_off2 k).eq 1

/-- Column `l` of chunk `k`, in the whole arrays. -/
def colOf (l : Fin 256) : Fin 6656 := ⟨256 * k.val + l.val, by have := trip_lt k; omega⟩

/-- Column `l` of the chunk's row `g` of scales. -/
theorem sRow_apply (g : ℕ) (hg : g < 13) (l : Fin 256) : sRow k fS g (ix2 0 l) = fS (ix2 ⟨g, hg⟩ (colOf k l)) := by
  refine congrArg fS (funext fun a => Fin.ext ?_)
  match a with
  | ⟨0, _⟩ =>
    show k0_off1 k 0 + 1 * (g % 13 + 1 * 0) = g
    rw [off1_0, Nat.mod_eq_of_lt hg]; omega
  | ⟨1, _⟩ =>
    show k0_off1 k 1 + 1 * (0 + 1 * l.val) = 256 * k.val + l.val
    rw [off1_1]; omega

/-- Column `l` of the chunk's row `g` of zeros. -/
theorem zRow_apply (g : ℕ) (hg : g < 13) (l : Fin 256) : zRow k fZ g (ix2 0 l) = fZ (ix2 ⟨g, hg⟩ (colOf k l)) := by
  refine congrArg fZ (funext fun a => Fin.ext ?_)
  match a with
  | ⟨0, _⟩ =>
    show k0_off1 k 0 + 1 * (g % 13 + 1 * 0) = g
    rw [off1_0, Nat.mod_eq_of_lt hg]; omega
  | ⟨1, _⟩ =>
    show k0_off1 k 1 + 1 * (0 + 1 * l.val) = 256 * k.val + l.val
    rw [off1_1]; omega

/-- Row `r`, column `l` of the chunk's `i`-th eight rows of words. -/
theorem wRows_apply (i : ℕ) (hi : i < 26) (r : Fin 8) (l : Fin 256) :
    wRows k fW i (ix2 r l) = fW (ix2 ⟨8 * i + r.val, by omega⟩ (colOf k l)) := by
  refine congrArg fW (funext fun a => Fin.ext ?_)
  match a with
  | ⟨0, _⟩ =>
    show k0_off2 k 0 + 1 * (8 * (i % 26) + 1 * r.val) = 8 * i + r.val
    rw [off2_0, Nat.mod_eq_of_lt hi]; omega
  | ⟨1, _⟩ =>
    show k0_off2 k 1 + 1 * (0 + 1 * l.val) = 256 * k.val + l.val
    rw [off2_1]; omega
end Windows

/-- Lane `l` of row `R` of a stacked pair: column `l` of the left 128 in rows 0 to 7, of the right 128 below. -/
def laneOf (R : Fin 16) (l : Fin 128) : Fin 256 := ⟨R.val / 8 * 128 + l.val, by omega⟩

/-- Two blocks of 8 × 128 cut side by side from 8 × 256 and stacked: element (R, l). -/
theorem stack_apply {α : Type} (x : S8x256.Idx → α) (R : Fin 16) (l : Fin 128) :
    concatenate S16x128 0 [⟨S8x128, extractStridedSlice S8x128 ![0, 0] x slices_S8x256_o0_0_S8x128⟩,
      ⟨S8x128, extractStridedSlice S8x128 ![0, 128] x slices_S8x256_o0_128_S8x128⟩] concatenates_S8x128_S8x128_S16x128_d0 (ix2 R l)
      = x (ix2 ⟨R.val % 8, by omega⟩ (laneOf R l)) := by
  pointwise
  by_cases h : R.val < 8
  · rw [dif_pos h]
    refine congrArg x ?_
    congr 1 <;> apply Fin.ext
    · show R.val = R.val % 8
      omega
    · show l.val = R.val / 8 * 128 + l.val
      omega
  · rw [dif_neg h]
    refine congrArg x ?_
    congr 1 <;> apply Fin.ext
    · show R.val - 8 = R.val % 8
      omega
    · show 128 + l.val = R.val / 8 * 128 + l.val
      omega

/-- The stacked row of scales or zeros. -/
theorem k0_pay1_apply (v : Vec F S1x256 .bf16) (R : Fin 16) (l : Fin 128) : k0_pay1 v (ix2 R l) = v (ix2 0 (laneOf R l)) := by
  unfold k0_pay1
  refine (stack_apply _ R l).trans ?_
  pointwise

/-- The stacked words. -/
theorem k0_pay32_apply (w : Vec F S8x256 .i32) (R : Fin 16) (l : Fin 128) :
    k0_pay32 (F := F) w (ix2 R l) = w (ix2 ⟨R.val % 8, by omega⟩ (laneOf R l)) :=
  stack_apply w R l

/-- A 32-bit word of the pairing of rows: rows `2 i` and `2 i + 1`. -/
theorem pair_apply (x : IVec S16x128 16) (i : Fin 8) (l : Fin 128) :
    bitcast S8x128 32 x bitcasts_S16x128_w16_S8x128_w32 (ix2 i l)
      = x (ix2 ⟨2 * i.val + 1, by omega⟩ l) ++ x (ix2 ⟨2 * i.val, by omega⟩ l) := by
  rw [bitcast_16_32]
  congr 1 <;> congr 1 <;> funext a <;> apply Fin.ext <;> match a with | ⟨0, _⟩ => rfl | ⟨1, _⟩ => rfl

/-- And back: row `R` is half `R % 2` of word `R / 2`. -/
theorem unpair_apply (x : IVec S8x128 32) (R : Fin 16) (l : Fin 128) :
    bitcast S16x128 16 x bitcasts_S8x128_w32_S16x128_w16 (ix2 R l)
      = (x (ix2 ⟨R.val / 2, by omega⟩ l)).extractLsb' (16 * (R.val % 2)) 16 := by
  rw [bitcast_32_16]
  congr 1
  congr 1 <;> funext a <;> apply Fin.ext <;> match a with | ⟨0, _⟩ => rfl | ⟨1, _⟩ => rfl

/-- The sixteen bits of a word that carry nibble `f`. -/
def half (f : ℕ) (x : BitVec 32) : BitVec 16 := if f < 4 then x.setWidth 16 else (x >>> 16).setWidth 16

/-- The half, shifted, begins with nibble `f` of the word. -/
theorem half_nib (f : ℕ) (hf : f < 8) (x : BitVec 32) : ((half f x) >>> (4 * (f % 4))).toNat % 16 = Nibble.nib x f := by
  unfold half
  by_cases h : f < 4
  · rw [if_pos h, Nat.mod_eq_of_lt h]; exact Nibble.low_half x f h
  · rw [if_neg h, Nibble.high_half x (f % 4) (by omega)]
    congr 1; omega

/-- A shift of every word by one amount. -/
theorem shift_apply {s : Shape} (x : IVec s 32) (n : ℕ) (hn : n < 32) (i : s.Idx) :
    shrui x (broadcast s (BitVec.ofNat 32 n)) i = x i >>> n := by
  show IntOp.shrui .vector (x i) (BitVec.ofNat 32 n) = _
  have e : (BitVec.ofNat 32 n).toNat = n := by rw [BitVec.toNat_ofNat]; omega
  unfold IntOp.shrui
  rw [if_pos (by rw [e]; exact hn)]
  show x i >>> (BitVec.ofNat 32 n).toNat = _
  rw [e]

/-- The packed low halves. -/
theorem low_apply (w : Vec F S8x256 .i32) (i : Fin 8) (l : Fin 128) :
    k0_pay33 (F := F) w (ix2 i l) = (k0_pay32 (F := F) w (ix2 ⟨2 * i.val + 1, by omega⟩ l)).setWidth 16
      ++ (k0_pay32 (F := F) w (ix2 ⟨2 * i.val, by omega⟩ l)).setWidth 16 := by
  unfold k0_pay33
  rw [pair_apply]
  unfold trunci
  rfl

/-- The packed high halves. -/
theorem high_apply (w : Vec F S8x256 .i32) (i : Fin 8) (l : Fin 128) :
    k0_pay34 (F := F) w (ix2 i l) = ((k0_pay32 (F := F) w (ix2 ⟨2 * i.val + 1, by omega⟩ l)) >>> 16).setWidth 16
      ++ ((k0_pay32 (F := F) w (ix2 ⟨2 * i.val, by omega⟩ l)) >>> 16).setWidth 16 := by
  unfold k0_pay34
  rw [pair_apply]
  unfold trunci
  rw [shift_apply _ 16 (by decide), shift_apply _ 16 (by decide)]

/-- One word of the pairing that carries nibble `f`. -/
theorem quads_apply (w : Vec F S8x256 .i32) (f : ℕ) (hf : f < 8) (i : Fin 8) (l : Fin 128) :
    quads (F := F) w f (ix2 i l) = (half f (k0_pay32 (F := F) w (ix2 ⟨2 * i.val + 1, by omega⟩ l))
      ++ half f (k0_pay32 (F := F) w (ix2 ⟨2 * i.val, by omega⟩ l)) : BitVec 32) >>> (4 * (f % 4)) := by
  have lo' (hl : f < 4) : k0_pay33 (F := F) w (ix2 i l) = half f (k0_pay32 (F := F) w (ix2 ⟨2 * i.val + 1, by omega⟩ l))
      ++ half f (k0_pay32 (F := F) w (ix2 ⟨2 * i.val, by omega⟩ l)) := by
    unfold half; rw [if_pos hl, if_pos hl, low_apply]
  have hi' (hl : ¬ f < 4) : k0_pay34 (F := F) w (ix2 i l) = half f (k0_pay32 (F := F) w (ix2 ⟨2 * i.val + 1, by omega⟩ l))
      ++ half f (k0_pay32 (F := F) w (ix2 ⟨2 * i.val, by omega⟩ l)) := by
    unfold half; rw [if_neg hl, if_neg hl, high_apply]
  have hs (x : IVec S8x128 32) (n : ℕ) (hn : n < 32) (he : n = 4 * (f % 4)) (B : BitVec 32) (hx : x (ix2 i l) = B) :
      shrui x (broadcast S8x128 (BitVec.ofNat 32 n)) (ix2 i l) = B >>> (4 * (f % 4)) := by
    rw [shift_apply x n hn, hx, he]
  have h0 (x : IVec S8x128 32) (he : 0 = 4 * (f % 4)) (B : BitVec 32) (hx : x (ix2 i l) = B) :
      x (ix2 i l) = B >>> (4 * (f % 4)) := by
    rw [← he, hx, BitVec.ushiftRight_zero]
  have hf' : f = 0 ∨ f = 1 ∨ f = 2 ∨ f = 3 ∨ f = 4 ∨ f = 5 ∨ f = 6 ∨ f = 7 := by omega
  rcases hf' with rfl | rfl | rfl | rfl | rfl | rfl | rfl | rfl
  · exact h0 _ (by decide) _ (lo' (by decide))
  · exact hs _ 4 (by decide) (by decide) _ (lo' (by decide))
  · exact hs _ 8 (by decide) (by decide) _ (lo' (by decide))
  · exact hs _ 12 (by decide) (by decide) _ (lo' (by decide))
  · exact h0 _ (by decide) _ (hi' (by decide))
  · exact hs _ 4 (by decide) (by decide) _ (hi' (by decide))
  · exact hs _ 8 (by decide) (by decide) _ (hi' (by decide))
  · exact hs _ 12 (by decide) (by decide) _ (hi' (by decide))

/-- The pattern a tile's element is made of: nibble `f` of its word under the pattern of 128. -/
theorem pattern_apply (w : Vec F S8x256 .i32) (f : ℕ) (hf : f < 8) (R : Fin 16) (l : Fin 128) :
    bitcast S16x128 16 (ori (andi (quads (F := F) w f) (broadcast S8x128 983055#32)) (broadcast S8x128 1124090624#32))
        bitcasts_S8x128_w32_S16x128_w16 (ix2 R l)
      = ((half f (w (ix2 ⟨R.val % 8, by omega⟩ (laneOf R l))) >>> (4 * (f % 4))) &&& 15#16) ||| 0x4300#16 := by
  rw [unpair_apply]
  show BitVec.extractLsb' _ _ (((quads (F := F) w f (ix2 ⟨R.val / 2, _⟩ l)) &&& 983055#32) ||| 1124090624#32) = _
  rw [quads_apply w f hf, Nibble.pair_bits _ _ (f % 4) (R.val % 2) (by omega) (by omega), ← apply_ite (half f)]
  congr 4
  rw [← k0_pay32_apply (F := F) w R l, ← apply_ite (k0_pay32 (F := F) w)]
  refine congrArg _ ?_
  by_cases h : R.val % 2 = 0
  · rw [if_pos h]; congr 1; apply Fin.ext; show 2 * (R.val / 2) = R.val; omega
  · rw [if_neg h]; congr 1; apply Fin.ext; show 2 * (R.val / 2) + 1 = R.val; omega

/-- One element of a tile: the nibble less its zero, times its scale. -/
theorem tileOf_apply (s z : FVec Ideal S16x128 .bf16) (w : Vec Ideal S8x256 .i32) (f : ℕ) (hf : f < 8) (R : Fin 16) (l : Fin 128) :
    tileOf s z (quads (F := Ideal) w f) (ix4 0 0 R l)
      = ((((Nibble.nib (w (ix2 ⟨R.val % 8, by omega⟩ (laneOf R l))) f : ℕ) : ℝ) : EReal) - z (ix2 R l)) * s (ix2 R l) := by
  have h : tileOf s z (quads (F := Ideal) w f) (ix4 0 0 R l)
      = (mulf (subf (subf
        (bitcastToFloat .bf16 (bitcast S16x128 16
          (ori (andi (quads (F := Ideal) w f) (broadcast S8x128 983055#32)) (broadcast S8x128 1124090624#32)) bitcasts_S8x128_w32_S16x128_w16))
        (broadcast S16x128 (Scalar.ofBits .bf16 0x4300#16))) z) s : FVec Ideal S16x128 .bf16) (ix2 R l) := by
    unfold tileOf
    generalize (mulf _ _ : FVec Ideal S16x128 .bf16) = x
    pointwise
  rw [h]
  show ((Ideal.ofBits .bf16 (bitcast S16x128 16 _ _ (ix2 R l)) - Ideal.ofBits .bf16 0x4300#16 : EReal) - z (ix2 R l)) * s (ix2 R l) = _
  rw [pattern_apply w f hf R l, Nibble.pattern_sub, half_nib f hf]

end Cert.Proof.KernelIdeal

end
-- ==== Proof.Spec.lean ====
module

public import proofs.«01_k».proof.Proof.Nibble

@[expose] public section

noncomputable section

namespace Cert.Proof.Spec

open Idealize.ShloMosaic

/-! # What both programs compute

Row `r` of the result is nibble `r / 208` of row `r % 208` of the packed words, less the zero of the row's group of 128,
times the scale of that group. -/

/-- One element of the result. -/
def elem (W : Shape.Idx ⟨2, ![208, 6656]⟩ → BitVec 32) (S Z : Shape.Idx ⟨2, ![13, 6656]⟩ → EReal) (r : Fin 1664) (l : Fin 6656) : EReal :=
  ((((Nibble.nib (W (ix2 ⟨r.val % 208, by omega⟩ l)) (r.val / 208) : ℕ) : ℝ) : EReal) - Z (ix2 ⟨r.val / 128, by omega⟩ l))
    * S (ix2 ⟨r.val / 128, by omega⟩ l)

end Cert.Proof.Spec

end
-- ==== Proof.KernelIdeal.Result.lean ====
module

public import proofs.«01_k».proof.Proof.KernelIdeal.Value
public import proofs.«01_k».proof.Proof.Spec

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The result array, element by element -/

/-- One element of tile `t`. -/
theorem tileAt_apply {c : Dev nD} (k : Fin k0_t1_loop.trips) (fW : Buf (Elt Ideal) ((wWin k).view.loc (c : Thread nD τ)))
    (fS : Buf (Elt Ideal) ((sWin k).view.loc (c : Thread nD τ))) (fZ : Buf (Elt Ideal) ((zWin k).view.loc (c : Thread nD τ)))
    (t : ℕ) (ht : t < 208) (R : Fin 16) (l : Fin 128) :
    tileAt k fW fS fZ t (ix4 0 0 R l)
      = ((((Nibble.nib (fW (ix2 (⟨8 * (t % 26) + R.val % 8, by omega⟩ : Fin 208) (colOf k (laneOf R l)))) (t / 26) : ℕ) : ℝ) : EReal)
        - fZ (ix2 (⟨t * 8 / 128, by omega⟩ : Fin 13) (colOf k (laneOf R l))))
        * fS (ix2 (⟨t * 8 / 128, by omega⟩ : Fin 13) (colOf k (laneOf R l))) := by
  unfold tileAt
  rw [tileOf_apply _ _ _ _ (by omega), k0_pay1_apply, k0_pay1_apply, sRow_apply _ _ _ (by omega), zRow_apply _ _ _ (by omega),
    wRows_apply _ _ _ (by omega)]

/-- The same, by the row and column of the result it becomes. -/
theorem tileAt_elem {c : Dev nD} (k : Fin k0_t1_loop.trips) (fW : Buf (Elt Ideal) ((wWin k).view.loc (c : Thread nD τ)))
    (fS : Buf (Elt Ideal) ((sWin k).view.loc (c : Thread nD τ))) (fZ : Buf (Elt Ideal) ((zWin k).view.loc (c : Thread nD τ)))
    (r : Fin 1664) (l : Fin 6656) (hk : k.val = l.val / 256) :
    tileAt k fW fS fZ (r.val / 8) (ix4 0 0 (⟨l.val % 256 / 128 * 8 + r.val % 8, by omega⟩ : Fin 16) (⟨l.val % 128, by omega⟩ : Fin 128))
      = Spec.elem fW fS fZ r l := by
  rw [tileAt_apply k fW fS fZ _ (by omega)]
  have hl : colOf k (laneOf (⟨l.val % 256 / 128 * 8 + r.val % 8, by omega⟩ : Fin 16) (⟨l.val % 128, by omega⟩ : Fin 128)) = l := by
    apply Fin.ext
    show 256 * k.val + ((l.val % 256 / 128 * 8 + r.val % 8) / 8 * 128 + l.val % 128) = l.val
    omega
  have hr : (⟨8 * (r.val / 8 % 26) + (l.val % 256 / 128 * 8 + r.val % 8) % 8, by omega⟩ : Fin 208) = ⟨r.val % 208, by omega⟩ := by
    apply Fin.ext
    show 8 * (r.val / 8 % 26) + (l.val % 256 / 128 * 8 + r.val % 8) % 8 = r.val % 208
    omega
  have hf : r.val / 8 / 26 = r.val / 208 := by omega
  have hg : (⟨r.val / 8 * 8 / 128, by omega⟩ : Fin 13) = ⟨r.val / 128, by omega⟩ := by
    apply Fin.ext
    show r.val / 8 * 8 / 128 = r.val / 128
    omega
  rw [hl, hg, hf, hr]
  rfl

section
variable (c : Dev nD) (XW : Buf (Elt Ideal) (aW.view.loc (c : Thread nD τ))) (XS : Buf (Elt Ideal) (aS.view.loc (c : Thread nD τ)))
  (XZ : Buf (Elt Ideal) (aZ.view.loc (c : Thread nD τ)))

/-- An element of what the kernel writes, as an element of a tile. -/
theorem outC_tile (k : Fin k0_t1_loop.trips) (t : Fin 208) (k' : Fin 26) (hk : k'.val = k.val) (R : Fin 16) (l : Fin 128) :
    outC c XW XS XZ (ix4 t k' R l) = tileAt (c := c) k XW XS XZ t.val (ix4 0 0 R l) := by
  obtain rfl : k = ⟨k'.val, k'.isLt⟩ := Fin.ext hk.symm
  rw [ix4_eq_valueIdx, ix4_eq_valueIdx]
  rfl

/-- An element of what the kernel writes, by the row and column of the result it becomes. -/
theorem outC_apply (r : Fin 1664) (l : Fin 6656) :
    outC c XW XS XZ (ix4 (⟨r.val / 8, by omega⟩ : Fin 208) (⟨l.val / 256, by omega⟩ : Fin 26)
        (⟨l.val % 256 / 128 * 8 + r.val % 8, by omega⟩ : Fin 16) (⟨l.val % 128, by omega⟩ : Fin 128))
      = Spec.elem XW XS XZ r l := by
  have hk : l.val / 256 < k0_t1_loop.trips := by have := l.isLt; show _ < 26; omega
  refine (outC_tile c XW XS XZ ⟨l.val / 256, hk⟩ _ _ rfl _ _).trans ?_
  exact tileAt_elem (c := c) ⟨l.val / 256, hk⟩ XW XS XZ r l rfl
end

variable (m : (ℓ : Loc nD τ sig) → Buf (Elt Ideal) ℓ)

/-- The host operations after the kernel: what they leave in the result. -/
theorem finalV_main_v3 (c : Dev nD) : finalV m c main_v3
    = shapeCast S1664x6656 (transpose S208x8x26x2x128 [0, 3, 1, 2, 4] (shapeCast S208x26x2x8x128
        (outC c (m ((c : Thread nD τ).loc main_arg0)) (m ((c : Thread nD τ).loc main_arg1)) (m ((c : Thread nD τ).loc main_arg2)))
        shapeCasts_S208x26x16x128_S208x26x2x8x128) transposes_S208x26x2x8x128_S208x8x26x2x128_0_3_1_2_4) shapeCasts_S208x8x26x2x128_S1664x6656 := by
  unfold finalV
  rw [List.flatten_cons, List.flatten_nil, List.append_nil]
  after_results_simp
  rw [Pipeline.withArrays_of_ne _ c (Pipeline.withR (V0 m c) RR c (G m c)) _ main_v0 (by exact (by decide : ∀ w, Pipeline.arrRef (cfg0.spec) w ≠ main_v0)),
    Pipeline.withR_of_mem _ _ _ _ main_v0 (by decide), G_out]
  rfl

/-- The last reshape, the transposition and the first reshape, element by element. -/
theorem tail_apply (x : S208x26x16x128.Idx → EReal) (r : Fin 1664) (l : Fin 6656) :
    shapeCast S1664x6656 (transpose S208x8x26x2x128 [0, 3, 1, 2, 4] (shapeCast S208x26x2x8x128 x
        shapeCasts_S208x26x16x128_S208x26x2x8x128) transposes_S208x26x2x8x128_S208x8x26x2x128_0_3_1_2_4) shapeCasts_S208x8x26x2x128_S1664x6656 (ix2 r l)
      = x (ix4 (⟨r.val / 8, by omega⟩ : Fin 208) (⟨l.val / 256, by omega⟩ : Fin 26)
        (⟨l.val % 256 / 128 * 8 + r.val % 8, by omega⟩ : Fin 16) (⟨l.val % 128, by omega⟩ : Fin 128)) := by
  pointwise
  refine congrArg x ?_
  congr 1
  apply Fin.ext
  show l.val / 128 % 2 * 8 + r.val % 8 = l.val % 256 / 128 * 8 + r.val % 8
  omega

/-- The result, element by element. -/
theorem result_apply (c : Dev nD) (r : Fin 1664) (l : Fin 6656) : finalV m c main_v3 (ix2 r l)
    = Spec.elem (m ((c : Thread nD τ).loc main_arg0)) (m ((c : Thread nD τ).loc main_arg1)) (m ((c : Thread nD τ).loc main_arg2)) r l := by
  rw [finalV_main_v3]
  exact (tail_apply _ r l).trans (outC_apply c _ _ _ r l)

end Cert.Proof.KernelIdeal

end
-- ==== Proof.ReferenceIdeal.Result.lean ====
module

public import proofs.«01_k».proof.Proof.Gen.ReferenceIdeal.Run
public import proofs.«01_k».proof.Proof.Spec

@[expose] public section

noncomputable section

namespace Cert.Proof.ReferenceIdeal

open Cert.ReferenceIdeal Cert.ReferenceIdeal.Gen Cert.ReferenceIdeal.Value
open Idealize.ShloMosaic Idealize.ShloMosaic.TcCoe Idealize.ShloMosaic.Tactic

/-! # The reference's result, element by element -/

/-- A row of scales or zeros spread over its group: row `r` of the result reads row `r / 128`. -/
theorem spread_apply (x : FVec Ideal S13x6656 .bf16) (r : Fin 1664) (l : Fin 6656) :
    shapeCast S1664x6656 (broadcastInDim S13x128x6656 ![0, 1, 2] bcast_S13x1x6656_S13x128x6656_0_1_2
      (broadcastInDim S13x1x6656 ![0, 2] bcast_S13x6656_S13x1x6656_0_2 x)) shapeCasts_S13x128x6656_S1664x6656 (ix2 r l)
      = x (ix2 ⟨r.val / 128, by omega⟩ l) := by
  pointwise

/-- The words shifted by `4 f` and masked, as numbers. -/
theorem nibble_apply (W : IVec S208x6656 32) (f : ℕ) (hf : f < 8) (i : Fin 208) (l : Fin 6656) :
    (uitofp .bf16 (andi (Host.shrui (id W) (broadcastInDim S208x6656 ![] bcast_S_S208x6656 (constantI S_ 32 (BitVec.ofNat 32 (4 * f)))))
      (broadcastInDim S208x6656 ![] bcast_S_S208x6656 (constantI S_ 32 15#32))) : FVec Ideal S208x6656 .bf16) (ix2 i l)
      = (((Nibble.nib (W (ix2 i l)) f : ℕ) : ℝ) : EReal) := by
  pointwise
  show FloatOps.uitofp (F := Ideal) .bf16 (IntOp.shrui .host (W (ix2 i l)) (BitVec.ofNat 32 (4 * f)) &&& 15#32) = _
  have e : (BitVec.ofNat 32 (4 * f)).toNat = 4 * f := by rw [BitVec.toNat_ofNat]; omega
  have h : IntOp.shrui .host (W (ix2 i l)) (BitVec.ofNat 32 (4 * f)) = W (ix2 i l) >>> (4 * f) := by
    unfold IntOp.shrui
    rw [if_pos (by rw [e]; omega)]
    show W (ix2 i l) >>> (BitVec.ofNat 32 (4 * f)).toNat = _
    rw [e]
  rw [h]
  show (((W (ix2 i l) >>> (4 * f) &&& 15#32).toNat : ℝ) : EReal) = _
  rw [Nibble.masked]

/-- Rows `208 f` to `208 f + 207` of the result. -/
def piece (W : IVec S208x6656 32) (S Z : FVec Ideal S13x6656 .bf16) (f : ℕ) (h : S1664x6656.Slices ![208 * f, 0] S208x6656) : FVec Ideal S208x6656 .bf16 :=
  mulf (subf (uitofp .bf16 (andi (Host.shrui (id W) (broadcastInDim S208x6656 ![] bcast_S_S208x6656 (constantI S_ 32 (BitVec.ofNat 32 (4 * f)))))
      (broadcastInDim S208x6656 ![] bcast_S_S208x6656 (constantI S_ 32 15#32))))
    (extractStridedSlice S208x6656 ![208 * f, 0] (shapeCast S1664x6656 (broadcastInDim S13x128x6656 ![0, 1, 2] bcast_S13x1x6656_S13x128x6656_0_1_2
      (broadcastInDim S13x1x6656 ![0, 2] bcast_S13x6656_S13x1x6656_0_2 Z)) shapeCasts_S13x128x6656_S1664x6656) h))
    (extractStridedSlice S208x6656 ![208 * f, 0] (shapeCast S1664x6656 (broadcastInDim S13x128x6656 ![0, 1, 2] bcast_S13x1x6656_S13x128x6656_0_1_2
      (broadcastInDim S13x1x6656 ![0, 2] bcast_S13x6656_S13x1x6656_0_2 S)) shapeCasts_S13x128x6656_S1664x6656) h)

/-- Row `i` of the slice that begins at row `208 f`. -/
theorem slice_apply (x : S1664x6656.Idx → EReal) (f : ℕ) (hf : f < 8) (h : S1664x6656.Slices ![208 * f, 0] S208x6656) (i : Fin 208) (l : Fin 6656) :
    extractStridedSlice S208x6656 ![208 * f, 0] x h (ix2 i l) = x (ix2 ⟨208 * f + i.val, by omega⟩ l) := by
  pointwise

/-- One element of piece `f`, by its row in the whole result. -/
theorem piece_apply (W : IVec S208x6656 32) (S Z : FVec Ideal S13x6656 .bf16) (f : ℕ) (hf : f < 8) (h) (i : Fin 208) (l : Fin 6656) :
    piece W S Z f h (ix2 i l) = Spec.elem W S Z ⟨208 * f + i.val, by omega⟩ l := by
  unfold piece
  rw [mulf_apply, subf_apply, nibble_apply W f hf, slice_apply _ f hf h, slice_apply _ f hf h, spread_apply, spread_apply]
  have h1 : (208 * f + i.val) / 208 = f := by omega
  have h2 : (⟨(208 * f + i.val) % 208, by omega⟩ : Fin 208) = i := by apply Fin.ext; show (208 * f + i.val) % 208 = i.val; omega
  unfold Spec.elem
  rw [h1, h2]
  rfl

/-- A conditional equals `v` if both its branches do. -/
theorem either {α : Type} {P : Prop} [Decidable P] {a : P → α} {b : ¬P → α} {v : α} (ha : ∀ h, a h = v) (hb : ∀ h, b h = v) :
    dite P a b = v := by
  by_cases h : P
  · rw [dif_pos h]; exact ha h
  · rw [dif_neg h]; exact hb h

/-- Eight blocks of 208 rows, one under the other. -/
theorem stack_apply {α : Type} (p : Fin 8 → S208x6656.Idx → α) (h) (r : Fin 1664) (l : Fin 6656) :
    concatenate S1664x6656 0 [⟨S208x6656, p 0⟩, ⟨S208x6656, p 1⟩, ⟨S208x6656, p 2⟩, ⟨S208x6656, p 3⟩, ⟨S208x6656, p 4⟩, ⟨S208x6656, p 5⟩,
        ⟨S208x6656, p 6⟩, ⟨S208x6656, p 7⟩] h (ix2 r l)
      = p ⟨r.val / 208, by omega⟩ (ix2 ⟨r.val % 208, by omega⟩ l) := by
  have key (f : Fin 8) (i : Fin 208) (e : 208 * f.val + i.val = r.val) :
      p f (ix2 i l) = p ⟨r.val / 208, by omega⟩ (ix2 ⟨r.val % 208, by omega⟩ l) := by
    have h1 : f = ⟨r.val / 208, by omega⟩ := Fin.ext (by show f.val = r.val / 208; omega)
    have h2 : i = ⟨r.val % 208, by omega⟩ := Fin.ext (by show i.val = r.val % 208; omega)
    rw [h1, h2]
  have hr := r.isLt
  pointwise
  refine either (fun _ => key 0 _ (by show 208 * 0 + r.val = r.val; omega)) fun _ => ?_
  refine either (fun _ => key 1 _ (by show 208 * 1 + (r.val - 208) = r.val; omega)) fun _ => ?_
  refine either (fun _ => key 2 _ (by show 208 * 2 + (r.val - 208 - 208) = r.val; omega)) fun _ => ?_
  refine either (fun _ => key 3 _ (by show 208 * 3 + (r.val - 208 - 208 - 208) = r.val; omega)) fun _ => ?_
  refine either (fun _ => key 4 _ (by show 208 * 4 + (r.val - 208 - 208 - 208 - 208) = r.val; omega)) fun _ => ?_
  refine either (fun _ => key 5 _ (by show 208 * 5 + (r.val - 208 - 208 - 208 - 208 - 208) = r.val; omega)) fun _ => ?_
  refine either (fun _ => key 6 _ (by show 208 * 6 + (r.val - 208 - 208 - 208 - 208 - 208 - 208) = r.val; omega)) fun _ => ?_
  exact key 7 _ (by show 208 * 7 + (r.val - 208 - 208 - 208 - 208 - 208 - 208 - 208) = r.val; omega)

/-- The slice at row `208 f` lies inside the result. -/
theorem slices_at (f : Fin 8) : S1664x6656.Slices ![208 * f.val, 0] S208x6656 := by
  revert f; decide

/-- The reference's result, element by element. -/
theorem result_apply (m : (ℓ : Loc nD τ sig) → Buf (Elt Ideal) ℓ) (c : Dev nD) (r : Fin 1664) (l : Fin 6656) :
    res_main_v79 m c (ix2 r l) = Spec.elem (m ((c.tc : Thread nD τ).loc main_arg0)) (m ((c.tc : Thread nD τ).loc main_arg1))
      (m ((c.tc : Thread nD τ).loc main_arg2)) r l := by
  unfold res_main_v79
  refine (stack_apply (fun f : Fin 8 => piece (m ((c.tc : Thread nD τ).loc main_arg0)) (m ((c.tc : Thread nD τ).loc main_arg1))
    (m ((c.tc : Thread nD τ).loc main_arg2)) f.val (slices_at f)) _ r l).trans ?_
  refine (piece_apply _ _ _ (r.val / 208) (by omega) _ _ l).trans ?_
  congr 1
  apply Fin.ext
  show 208 * (r.val / 208) + r.val % 208 = r.val
  omega

end Cert.Proof.ReferenceIdeal

end
-- ==== Proof.lean ====
module

public import proofs.«01_k».proof.Defs
public import proofs.«01_k».proof.Proof.Gen.ReferenceIdeal.Run
public import proofs.«01_k».proof.Proof.Kernel.Frame
public import proofs.«01_k».proof.Proof.KernelIdeal.Result
public import proofs.«01_k».proof.Proof.ReferenceIdeal.Result

@[expose] public section

namespace Cert.Proof

open Idealize.ShloMosaic Idealize.SL.Sem

/-- The kernel ends without fault, its arguments as launched and its counters at zero. -/
theorem quiet_kernel : Cert.quiescent_Kernel := fun m ρ _ => Cert.Proof.Kernel.quiet m ρ

/-- So does the kernel over the extended reals. -/
theorem quiet_kernel_ideal : Cert.quiescent_KernelIdeal := fun m ρ _ => Cert.Proof.KernelIdeal.quiet m ρ

/-- So does the reference over the extended reals, which has no semaphores at all. -/
theorem quiet_reference_ideal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- Every index of the result is a row and a column. -/
theorem idx_eq (y : Shape.Idx ⟨2, ![1664, 6656]⟩) : y = ix2 (y 0) (y 1) := by
  funext a
  match a with
  | ⟨0, _⟩ => rfl
  | ⟨1, _⟩ => rfl

/-- From the same arguments the kernel and the reference, both over the extended reals, give the same result. -/
theorem same_value : Cert.algebraic_KernelIdeal_ReferenceIdeal := fun m g m' g' _ h =>
  ⟨fun c => Cert.Proof.KernelIdeal.finalV m c Cert.KernelIdeal.main_v3,
    (θ_run Cert.KernelIdeal.defs _ _).mono (fun _ h' => h'.1) (Cert.Proof.KernelIdeal.run_value m g),
    (θ_run Cert.ReferenceIdeal.defs _ _).mono (fun r h' c => ⟨(h' c).1.trans (by
        refine funext fun (y : Shape.Idx ⟨2, ![1664, 6656]⟩) => ?_
        rw [idx_eq y]
        refine (Cert.Proof.ReferenceIdeal.result_apply m' c (y 0) (y 1)).trans ?_
        refine Eq.trans ?_ (Cert.Proof.KernelIdeal.result_apply m c (y 0) (y 1)).symm
        rw [(h c).1, (h c).2.1, (h c).2.2]), (h' c).2⟩) (Cert.ReferenceIdeal.Value.run m' g')⟩

theorem claim : Cert.Claim := ⟨Cert.Kernel.Gen.facts, Cert.KernelIdeal.Gen.facts, Cert.ReferenceIdeal.Gen.facts,
  quiet_kernel, quiet_kernel_ideal, quiet_reference_ideal, trivial, same_value⟩

end Cert.Proof

end
